-- ==== Defs.lean ====
def Pre_DiffKernel (m : (ℓ : Loc Cert.DiffKernel.nD Cert.DiffKernel.τ Cert.DiffKernel.sig) → Buf (Elt Bits) ℓ) : Prop :=
  True

def Pre_DiffKernelIdeal (m : (ℓ : Loc Cert.DiffKernelIdeal.nD Cert.DiffKernelIdeal.τ Cert.DiffKernelIdeal.sig) → Buf (Elt Ideal) ℓ) : Prop :=
  True

def Pre_DiffReferenceIdeal (m : (ℓ : Loc Cert.DiffReferenceIdeal.nD Cert.DiffReferenceIdeal.τ Cert.DiffReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_ExpertKernel (m : (ℓ : Loc Cert.ExpertKernel.nD Cert.ExpertKernel.τ Cert.ExpertKernel.sig) → Buf (Elt Bits) ℓ) : Prop :=
  True

def Pre_ExpertKernelIdeal (m : (ℓ : Loc Cert.ExpertKernelIdeal.nD Cert.ExpertKernelIdeal.τ Cert.ExpertKernelIdeal.sig) → Buf (Elt Ideal) ℓ) : Prop :=
  True

def Pre_ExpertReferenceIdeal (m : (ℓ : Loc Cert.ExpertReferenceIdeal.nD Cert.ExpertReferenceIdeal.τ Cert.ExpertReferenceIdeal.sig) → Buf (Elt Ideal) ℓ) : Prop :=
  True

def Pre_QkAKernel (m : (ℓ : Loc Cert.QkAKernel.nD Cert.QkAKernel.τ Cert.QkAKernel.sig) → Buf (Elt Bits) ℓ) : Prop :=
  True

def Pre_QkAKernelIdeal (m : (ℓ : Loc Cert.QkAKernelIdeal.nD Cert.QkAKernelIdeal.τ Cert.QkAKernelIdeal.sig) → Buf (Elt Ideal) ℓ) : Prop :=
  True

def Pre_QkAReferenceIdeal (m : (ℓ : Loc Cert.QkAReferenceIdeal.nD Cert.QkAReferenceIdeal.τ Cert.QkAReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_QkvDKernel (m : (ℓ : Loc Cert.QkvDKernel.nD Cert.QkvDKernel.τ Cert.QkvDKernel.sig) → Buf (Elt Bits) ℓ) : Prop :=
  True

def Pre_QkvDKernelIdeal (m : (ℓ : Loc Cert.QkvDKernelIdeal.nD Cert.QkvDKernelIdeal.τ Cert.QkvDKernelIdeal.sig) → Buf (Elt Ideal) ℓ) : Prop :=
  True

def Pre_QkvDReferenceIdeal (m : (ℓ : Loc Cert.QkvDReferenceIdeal.nD Cert.QkvDReferenceIdeal.τ Cert.QkvDReferenceIdeal.sig) → Buf (Elt Ideal) ℓ) : Prop :=
  True

def Pre_VAKernel (m : (ℓ : Loc Cert.VAKernel.nD Cert.VAKernel.τ Cert.VAKernel.sig) → Buf (Elt Bits) ℓ) : Prop :=
  True

def Pre_VAKernelIdeal (m : (ℓ : Loc Cert.VAKernelIdeal.nD Cert.VAKernelIdeal.τ Cert.VAKernelIdeal.sig) → Buf (Elt Ideal) ℓ) : Prop :=
  True

def Pre_VAReferenceIdeal (m : (ℓ : Loc Cert.VAReferenceIdeal.nD Cert.VAReferenceIdeal.τ Cert.VAReferenceIdeal.sig) → Buf (Elt Ideal) ℓ) : Prop :=
  True

def Pre_QkBKernel (m : (ℓ : Loc Cert.QkBKernel.nD Cert.QkBKernel.τ Cert.QkBKernel.sig) → Buf (Elt Bits) ℓ) : Prop :=
  True

def Pre_QkBKernelIdeal (m : (ℓ : Loc Cert.QkBKernelIdeal.nD Cert.QkBKernelIdeal.τ Cert.QkBKernelIdeal.sig) → Buf (Elt Ideal) ℓ) : Prop :=
  True

def Pre_QkBReferenceIdeal (m : (ℓ : Loc Cert.QkBReferenceIdeal.nD Cert.QkBReferenceIdeal.τ Cert.QkBReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_QkCKernel (m : (ℓ : Loc Cert.QkCKernel.nD Cert.QkCKernel.τ Cert.QkCKernel.sig) → Buf (Elt Bits) ℓ) : Prop :=
  True

def Pre_QkCKernelIdeal (m : (ℓ : Loc Cert.QkCKernelIdeal.nD Cert.QkCKernelIdeal.τ Cert.QkCKernelIdeal.sig) → Buf (Elt Ideal) ℓ) : Prop :=
  True

def Pre_QkCReferenceIdeal (m : (ℓ : Loc Cert.QkCReferenceIdeal.nD Cert.QkCReferenceIdeal.τ Cert.QkCReferenceIdeal.sig) → Buf (Elt Ideal) ℓ) : Prop :=
  True

def Pre_VBKernel (m : (ℓ : Loc Cert.VBKernel.nD Cert.VBKernel.τ Cert.VBKernel.sig) → Buf (Elt Bits) ℓ) : Prop :=
  True

def Pre_VBKernelIdeal (m : (ℓ : Loc Cert.VBKernelIdeal.nD Cert.VBKernelIdeal.τ Cert.VBKernelIdeal.sig) → Buf (Elt Ideal) ℓ) : Prop :=
  True

def Pre_VBReferenceIdeal (m : (ℓ : Loc Cert.VBReferenceIdeal.nD Cert.VBReferenceIdeal.τ Cert.VBReferenceIdeal.sig) → Buf (Elt Ideal) ℓ) : Prop :=
  True

def Pre_VCKernel (m : (ℓ : Loc Cert.VCKernel.nD Cert.VCKernel.τ Cert.VCKernel.sig) → Buf (Elt Bits) ℓ) : Prop :=
  True

def Pre_VCKernelIdeal (m : (ℓ : Loc Cert.VCKernelIdeal.nD Cert.VCKernelIdeal.τ Cert.VCKernelIdeal.sig) → Buf (Elt Ideal) ℓ) : Prop :=
  True

def Pre_VCReferenceIdeal (m : (ℓ : Loc Cert.VCReferenceIdeal.nD Cert.VCReferenceIdeal.τ Cert.VCReferenceIdeal.sig) → Buf (Elt Ideal) ℓ) : Prop :=
  True

def Pre_CombineKernel (m : (ℓ : Loc Cert.CombineKernel.nD Cert.CombineKernel.τ Cert.CombineKernel.sig) → Buf (Elt Bits) ℓ) : Prop :=
  True

def Pre_CombineKernelIdeal (m : (ℓ : Loc Cert.CombineKernelIdeal.nD Cert.CombineKernelIdeal.τ Cert.CombineKernelIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_GatherKernel (m : (ℓ : Loc Cert.GatherKernel.nD Cert.GatherKernel.τ Cert.GatherKernel.sig) → Buf (Elt Bits) ℓ) : Prop :=
  True

def Pre_GatherKernelIdeal (m : (ℓ : Loc Cert.GatherKernelIdeal.nD Cert.GatherKernelIdeal.τ Cert.GatherKernelIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_WinCKernel (m : (ℓ : Loc Cert.WinCKernel.nD Cert.WinCKernel.τ Cert.WinCKernel.sig) → Buf (Elt Bits) ℓ) : Prop :=
  True

def Pre_WinCKernelIdeal (m : (ℓ : Loc Cert.WinCKernelIdeal.nD Cert.WinCKernelIdeal.τ Cert.WinCKernelIdeal.sig) → Buf (Elt Ideal) ℓ) : Prop :=
  True

def Pre_WinCReferenceIdeal (m : (ℓ : Loc Cert.WinCReferenceIdeal.nD Cert.WinCReferenceIdeal.τ Cert.WinCReferenceIdeal.sig) → Buf (Elt Ideal) ℓ) : Prop :=
  True

def quiescent_DiffKernel [hDiffKernel : Cert.DiffKernel.Facts] : Prop :=
  ∀ (m : (ℓ : Loc Cert.DiffKernel.nD Cert.DiffKernel.τ Cert.DiffKernel.sig) → Buf (Elt Bits) ℓ) (g : Dev Cert.DiffKernel.nD → PrngReg), Pre_DiffKernel m →
    θ_run (Cert.DiffKernel.defs (F := Bits)) (onTc (τ := Cert.DiffKernel.τ) (Cert.DiffKernel.main (F := Bits))) ⟨m, fun _ => 0, g⟩ (fun r => (∀ c : Dev Cert.DiffKernel.nD,
      r.2.mem ((c.tc : Thread Cert.DiffKernel.nD Cert.DiffKernel.τ).loc Cert.DiffKernel.main_arg0) = m ((c.tc : Thread Cert.DiffKernel.nD Cert.DiffKernel.τ).loc Cert.DiffKernel.main_arg0)
      ∧ r.2.mem ((c.tc : Thread Cert.DiffKernel.nD Cert.DiffKernel.τ).loc Cert.DiffKernel.main_arg1) = m ((c.tc : Thread Cert.DiffKernel.nD Cert.DiffKernel.τ).loc Cert.DiffKernel.main_arg1)
      ∧ r.2.mem ((c.tc : Thread Cert.DiffKernel.nD Cert.DiffKernel.τ).loc Cert.DiffKernel.main_arg2) = m ((c.tc : Thread Cert.DiffKernel.nD Cert.DiffKernel.τ).loc Cert.DiffKernel.main_arg2)
      ∧ r.2.mem ((c.tc : Thread Cert.DiffKernel.nD Cert.DiffKernel.τ).loc Cert.DiffKernel.main_arg3) = m ((c.tc : Thread Cert.DiffKernel.nD Cert.DiffKernel.τ).loc Cert.DiffKernel.main_arg3))
      ∧ r.2.sem = fun _ => 0)

def quiescent_DiffKernelIdeal [hDiffKernelIdeal : Cert.DiffKernelIdeal.Facts] : Prop :=
  ∀ (m : (ℓ : Loc Cert.DiffKernelIdeal.nD Cert.DiffKernelIdeal.τ Cert.DiffKernelIdeal.sig) → Buf (Elt Ideal) ℓ) (g : Dev Cert.DiffKernelIdeal.nD → PrngReg), Pre_DiffKernelIdeal m →
    θ_run (Cert.DiffKernelIdeal.defs (F := Ideal)) (onTc (τ := Cert.DiffKernelIdeal.τ) (Cert.DiffKernelIdeal.main (F := Ideal))) ⟨m, fun _ => 0, g⟩ (fun r => (∀ c : Dev Cert.DiffKernelIdeal.nD,
      r.2.mem ((c.tc : Thread Cert.DiffKernelIdeal.nD Cert.DiffKernelIdeal.τ).loc Cert.DiffKernelIdeal.main_arg0) = m ((c.tc : Thread Cert.DiffKernelIdeal.nD Cert.DiffKernelIdeal.τ).loc Cert.DiffKernelIdeal.main_arg0)
      ∧ r.2.mem ((c.tc : Thread Cert.DiffKernelIdeal.nD Cert.DiffKernelIdeal.τ).loc Cert.DiffKernelIdeal.main_arg1) = m ((c.tc : Thread Cert.DiffKernelIdeal.nD Cert.DiffKernelIdeal.τ).loc Cert.DiffKernelIdeal.main_arg1)
      ∧ r.2.mem ((c.tc : Thread Cert.DiffKernelIdeal.nD Cert.DiffKernelIdeal.τ).loc Cert.DiffKernelIdeal.main_arg2) = m ((c.tc : Thread Cert.DiffKernelIdeal.nD Cert.DiffKernelIdeal.τ).loc Cert.DiffKernelIdeal.main_arg2)
      ∧ r.2.mem ((c.tc : Thread Cert.DiffKernelIdeal.nD Cert.DiffKernelIdeal.τ).loc Cert.DiffKernelIdeal.main_arg3) = m ((c.tc : Thread Cert.DiffKernelIdeal.nD Cert.DiffKernelIdeal.τ).loc Cert.DiffKernelIdeal.main_arg3))
      ∧ r.2.sem = fun _ => 0)

def quiescent_DiffReferenceIdeal [hDiffReferenceIdeal : Cert.DiffReferenceIdeal.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_ExpertKernel [hExpertKernel : Cert.ExpertKernel.Facts] : Prop :=
  ∀ (m : (ℓ : Loc Cert.ExpertKernel.nD Cert.ExpertKernel.τ Cert.ExpertKernel.sig) → Buf (Elt Bits) ℓ) (g : Dev Cert.ExpertKernel.nD → PrngReg), Pre_ExpertKernel m →
    θ_run (Cert.ExpertKernel.defs (F := Bits)) (onTc (τ := Cert.ExpertKernel.τ) (Cert.ExpertKernel.main (F := Bits))) ⟨m, fun _ => 0, g⟩ (fun r => (∀ c : Dev Cert.ExpertKernel.nD,
      r.2.mem ((c.tc : Thread Cert.ExpertKernel.nD Cert.ExpertKernel.τ).loc Cert.ExpertKernel.main_arg0) = m ((c.tc : Thread Cert.ExpertKernel.nD Cert.ExpertKernel.τ).loc Cert.ExpertKernel.main_arg0)
      ∧ r.2.mem ((c.tc : Thread Cert.ExpertKernel.nD Cert.ExpertKernel.τ).loc Cert.ExpertKernel.main_arg1) = m ((c.tc : Thread Cert.ExpertKernel.nD Cert.ExpertKernel.τ).loc Cert.ExpertKernel.main_arg1)
      ∧ r.2.mem ((c.tc : Thread Cert.ExpertKernel.nD Cert.ExpertKernel.τ).loc Cert.ExpertKernel.main_arg2) = m ((c.tc : Thread Cert.ExpertKernel.nD Cert.ExpertKernel.τ).loc Cert.ExpertKernel.main_arg2)
      ∧ r.2.mem ((c.tc : Thread Cert.ExpertKernel.nD Cert.ExpertKernel.τ).loc Cert.ExpertKernel.main_arg3) = m ((c.tc : Thread Cert.ExpertKernel.nD Cert.ExpertKernel.τ).loc Cert.ExpertKernel.main_arg3))
      ∧ r.2.sem = fun _ => 0)

def quiescent_ExpertKernelIdeal [hExpertKernelIdeal : Cert.ExpertKernelIdeal.Facts] : Prop :=
  ∀ (m : (ℓ : Loc Cert.ExpertKernelIdeal.nD Cert.ExpertKernelIdeal.τ Cert.ExpertKernelIdeal.sig) → Buf (Elt Ideal) ℓ) (g : Dev Cert.ExpertKernelIdeal.nD → PrngReg), Pre_ExpertKernelIdeal m →
    θ_run (Cert.ExpertKernelIdeal.defs (F := Ideal)) (onTc (τ := Cert.ExpertKernelIdeal.τ) (Cert.ExpertKernelIdeal.main (F := Ideal))) ⟨m, fun _ => 0, g⟩ (fun r => (∀ c : Dev Cert.ExpertKernelIdeal.nD,
      r.2.mem ((c.tc : Thread Cert.ExpertKernelIdeal.nD Cert.ExpertKernelIdeal.τ).loc Cert.ExpertKernelIdeal.main_arg0) = m ((c.tc : Thread Cert.ExpertKernelIdeal.nD Cert.ExpertKernelIdeal.τ).loc Cert.ExpertKernelIdeal.main_arg0)
      ∧ r.2.mem ((c.tc : Thread Cert.ExpertKernelIdeal.nD Cert.ExpertKernelIdeal.τ).loc Cert.ExpertKernelIdeal.main_arg1) = m ((c.tc : Thread Cert.ExpertKernelIdeal.nD Cert.ExpertKernelIdeal.τ).loc Cert.ExpertKernelIdeal.main_arg1)
      ∧ r.2.mem ((c.tc : Thread Cert.ExpertKernelIdeal.nD Cert.ExpertKernelIdeal.τ).loc Cert.ExpertKernelIdeal.main_arg2) = m ((c.tc : Thread Cert.ExpertKernelIdeal.nD Cert.ExpertKernelIdeal.τ).loc Cert.ExpertKernelIdeal.main_arg2)
      ∧ r.2.mem ((c.tc : Thread Cert.ExpertKernelIdeal.nD Cert.ExpertKernelIdeal.τ).loc Cert.ExpertKernelIdeal.main_arg3) = m ((c.tc : Thread Cert.ExpertKernelIdeal.nD Cert.ExpertKernelIdeal.τ).loc Cert.ExpertKernelIdeal.main_arg3))
      ∧ r.2.sem = fun _ => 0)

def quiescent_ExpertReferenceIdeal [hExpertReferenceIdeal : Cert.ExpertReferenceIdeal.Facts] : Prop :=
  ∀ (m : (ℓ : Loc Cert.ExpertReferenceIdeal.nD Cert.ExpertReferenceIdeal.τ Cert.ExpertReferenceIdeal.sig) → Buf (Elt Ideal) ℓ) (g : Dev Cert.ExpertReferenceIdeal.nD → PrngReg), Pre_ExpertReferenceIdeal m →
    θ_run (Cert.ExpertReferenceIdeal.defs (F := Ideal)) (onTc (τ := Cert.ExpertReferenceIdeal.τ) (Cert.ExpertReferenceIdeal.main (F := Ideal))) ⟨m, fun _ => 0, g⟩ (fun r => (∀ c : Dev Cert.ExpertReferenceIdeal.nD,
      r.2.mem ((c.tc : Thread Cert.ExpertReferenceIdeal.nD Cert.ExpertReferenceIdeal.τ).loc Cert.ExpertReferenceIdeal.main_arg0) = m ((c.tc : Thread Cert.ExpertReferenceIdeal.nD Cert.ExpertReferenceIdeal.τ).loc Cert.ExpertReferenceIdeal.main_arg0)
      ∧ r.2.mem ((c.tc : Thread Cert.ExpertReferenceIdeal.nD Cert.ExpertReferenceIdeal.τ).loc Cert.ExpertReferenceIdeal.main_arg1) = m ((c.tc : Thread Cert.ExpertReferenceIdeal.nD Cert.ExpertReferenceIdeal.τ).loc Cert.ExpertReferenceIdeal.main_arg1)
      ∧ r.2.mem ((c.tc : Thread Cert.ExpertReferenceIdeal.nD Cert.ExpertReferenceIdeal.τ).loc Cert.ExpertReferenceIdeal.main_arg2) = m ((c.tc : Thread Cert.ExpertReferenceIdeal.nD Cert.ExpertReferenceIdeal.τ).loc Cert.ExpertReferenceIdeal.main_arg2)
      ∧ r.2.mem ((c.tc : Thread Cert.ExpertReferenceIdeal.nD Cert.ExpertReferenceIdeal.τ).loc Cert.ExpertReferenceIdeal.main_arg3) = m ((c.tc : Thread Cert.ExpertReferenceIdeal.nD Cert.ExpertReferenceIdeal.τ).loc Cert.ExpertReferenceIdeal.main_arg3))
      ∧ r.2.sem = fun _ => 0)

def quiescent_QkAKernel [hQkAKernel : Cert.QkAKernel.Facts] : Prop :=
  ∀ (m : (ℓ : Loc Cert.QkAKernel.nD Cert.QkAKernel.τ Cert.QkAKernel.sig) → Buf (Elt Bits) ℓ) (g : Dev Cert.QkAKernel.nD → PrngReg), Pre_QkAKernel m →
    θ_run (Cert.QkAKernel.defs (F := Bits)) (onTc (τ := Cert.QkAKernel.τ) (Cert.QkAKernel.main (F := Bits))) ⟨m, fun _ => 0, g⟩ (fun r => (∀ c : Dev Cert.QkAKernel.nD,
      r.2.mem ((c.tc : Thread Cert.QkAKernel.nD Cert.QkAKernel.τ).loc Cert.QkAKernel.main_arg0) = m ((c.tc : Thread Cert.QkAKernel.nD Cert.QkAKernel.τ).loc Cert.QkAKernel.main_arg0)
      ∧ r.2.mem ((c.tc : Thread Cert.QkAKernel.nD Cert.QkAKernel.τ).loc Cert.QkAKernel.main_arg1) = m ((c.tc : Thread Cert.QkAKernel.nD Cert.QkAKernel.τ).loc Cert.QkAKernel.main_arg1))
      ∧ r.2.sem = fun _ => 0)

def quiescent_QkAKernelIdeal [hQkAKernelIdeal : Cert.QkAKernelIdeal.Facts] : Prop :=
  ∀ (m : (ℓ : Loc Cert.QkAKernelIdeal.nD Cert.QkAKernelIdeal.τ Cert.QkAKernelIdeal.sig) → Buf (Elt Ideal) ℓ) (g : Dev Cert.QkAKernelIdeal.nD → PrngReg), Pre_QkAKernelIdeal m →
    θ_run (Cert.QkAKernelIdeal.defs (F := Ideal)) (onTc (τ := Cert.QkAKernelIdeal.τ) (Cert.QkAKernelIdeal.main (F := Ideal))) ⟨m, fun _ => 0, g⟩ (fun r => (∀ c : Dev Cert.QkAKernelIdeal.nD,
      r.2.mem ((c.tc : Thread Cert.QkAKernelIdeal.nD Cert.QkAKernelIdeal.τ).loc Cert.QkAKernelIdeal.main_arg0) = m ((c.tc : Thread Cert.QkAKernelIdeal.nD Cert.QkAKernelIdeal.τ).loc Cert.QkAKernelIdeal.main_arg0)
      ∧ r.2.mem ((c.tc : Thread Cert.QkAKernelIdeal.nD Cert.QkAKernelIdeal.τ).loc Cert.QkAKernelIdeal.main_arg1) = m ((c.tc : Thread Cert.QkAKernelIdeal.nD Cert.QkAKernelIdeal.τ).loc Cert.QkAKernelIdeal.main_arg1))
      ∧ r.2.sem = fun _ => 0)

def quiescent_QkAReferenceIdeal [hQkAReferenceIdeal : Cert.QkAReferenceIdeal.Facts] : Prop :=
  ∀ (m : (ℓ : Loc Cert.QkAReferenceIdeal.nD Cert.QkAReferenceIdeal.τ Cert.QkAReferenceIdeal.sig) → Buf (Elt Ideal) ℓ) (g : Dev Cert.QkAReferenceIdeal.nD → PrngReg), Pre_QkAReferenceIdeal m →
    θ_run (Cert.QkAReferenceIdeal.defs (F := Ideal)) (onTc (τ := Cert.QkAReferenceIdeal.τ) (Cert.QkAReferenceIdeal.main (F := Ideal))) ⟨m, fun _ => 0, g⟩ (fun r => (∀ c : Dev Cert.QkAReferenceIdeal.nD,
      r.2.mem ((c.tc : Thread Cert.QkAReferenceIdeal.nD Cert.QkAReferenceIdeal.τ).loc Cert.QkAReferenceIdeal.main_arg0) = m ((c.tc : Thread Cert.QkAReferenceIdeal.nD Cert.QkAReferenceIdeal.τ).loc Cert.QkAReferenceIdeal.main_arg0)
      ∧ r.2.mem ((c.tc : Thread Cert.QkAReferenceIdeal.nD Cert.QkAReferenceIdeal.τ).loc Cert.QkAReferenceIdeal.main_arg1) = m ((c.tc : Thread Cert.QkAReferenceIdeal.nD Cert.QkAReferenceIdeal.τ).loc Cert.QkAReferenceIdeal.main_arg1))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5))
      ∧ r.2.sem = fun _ => 0)

def quiescent_QkvDKernel [hQkvDKernel : Cert.QkvDKernel.Facts] : Prop :=
  ∀ (m : (ℓ : Loc Cert.QkvDKernel.nD Cert.QkvDKernel.τ Cert.QkvDKernel.sig) → Buf (Elt Bits) ℓ) (g : Dev Cert.QkvDKernel.nD → PrngReg), Pre_QkvDKernel m →
    θ_run (Cert.QkvDKernel.defs (F := Bits)) (onTc (τ := Cert.QkvDKernel.τ) (Cert.QkvDKernel.main (F := Bits))) ⟨m, fun _ => 0, g⟩ (fun r => (∀ c : Dev Cert.QkvDKernel.nD,
      r.2.mem ((c.tc : Thread Cert.QkvDKernel.nD Cert.QkvDKernel.τ).loc Cert.QkvDKernel.main_arg0) = m ((c.tc : Thread Cert.QkvDKernel.nD Cert.QkvDKernel.τ).loc Cert.QkvDKernel.main_arg0)
      ∧ r.2.mem ((c.tc : Thread Cert.QkvDKernel.nD Cert.QkvDKernel.τ).loc Cert.QkvDKernel.main_arg1) = m ((c.tc : Thread Cert.QkvDKernel.nD Cert.QkvDKernel.τ).loc Cert.QkvDKernel.main_arg1))
      ∧ r.2.sem = fun _ => 0)

def quiescent_QkvDKernelIdeal [hQkvDKernelIdeal : Cert.QkvDKernelIdeal.Facts] : Prop :=
  ∀ (m : (ℓ : Loc Cert.QkvDKernelIdeal.nD Cert.QkvDKernelIdeal.τ Cert.QkvDKernelIdeal.sig) → Buf (Elt Ideal) ℓ) (g : Dev Cert.QkvDKernelIdeal.nD → PrngReg), Pre_QkvDKernelIdeal m →
    θ_run (Cert.QkvDKernelIdeal.defs (F := Ideal)) (onTc (τ := Cert.QkvDKernelIdeal.τ) (Cert.QkvDKernelIdeal.main (F := Ideal))) ⟨m, fun _ => 0, g⟩ (fun r => (∀ c : Dev Cert.QkvDKernelIdeal.nD,
      r.2.mem ((c.tc : Thread Cert.QkvDKernelIdeal.nD Cert.QkvDKernelIdeal.τ).loc Cert.QkvDKernelIdeal.main_arg0) = m ((c.tc : Thread Cert.QkvDKernelIdeal.nD Cert.QkvDKernelIdeal.τ).loc Cert.QkvDKernelIdeal.main_arg0)
      ∧ r.2.mem ((c.tc : Thread Cert.QkvDKernelIdeal.nD Cert.QkvDKernelIdeal.τ).loc Cert.QkvDKernelIdeal.main_arg1) = m ((c.tc : Thread Cert.QkvDKernelIdeal.nD Cert.QkvDKernelIdeal.τ).loc Cert.QkvDKernelIdeal.main_arg1))
      ∧ r.2.sem = fun _ => 0)

def quiescent_QkvDReferenceIdeal [hQkvDReferenceIdeal : Cert.QkvDReferenceIdeal.Facts] : Prop :=
  ∀ (m : (ℓ : Loc Cert.QkvDReferenceIdeal.nD Cert.QkvDReferenceIdeal.τ Cert.QkvDReferenceIdeal.sig) → Buf (Elt Ideal) ℓ) (g : Dev Cert.QkvDReferenceIdeal.nD → PrngReg), Pre_QkvDReferenceIdeal m →
    θ_run (Cert.QkvDReferenceIdeal.defs (F := Ideal)) (onTc (τ := Cert.QkvDReferenceIdeal.τ) (Cert.QkvDReferenceIdeal.main (F := Ideal))) ⟨m, fun _ => 0, g⟩ (fun r => (∀ c : Dev Cert.QkvDReferenceIdeal.nD,
      r.2.mem ((c.tc : Thread Cert.QkvDReferenceIdeal.nD Cert.QkvDReferenceIdeal.τ).loc Cert.QkvDReferenceIdeal.main_arg0) = m ((c.tc : Thread Cert.QkvDReferenceIdeal.nD Cert.QkvDReferenceIdeal.τ).loc Cert.QkvDReferenceIdeal.main_arg0)
      ∧ r.2.mem ((c.tc : Thread Cert.QkvDReferenceIdeal.nD Cert.QkvDReferenceIdeal.τ).loc Cert.QkvDReferenceIdeal.main_arg1) = m ((c.tc : Thread Cert.QkvDReferenceIdeal.nD Cert.QkvDReferenceIdeal.τ).loc Cert.QkvDReferenceIdeal.main_arg1))
      ∧ r.2.sem = fun _ => 0)

def quiescent_VAKernel [hVAKernel : Cert.VAKernel.Facts] : Prop :=
  ∀ (m : (ℓ : Loc Cert.VAKernel.nD Cert.VAKernel.τ Cert.VAKernel.sig) → Buf (Elt Bits) ℓ) (g : Dev Cert.VAKernel.nD → PrngReg), Pre_VAKernel m →
    θ_run (Cert.VAKernel.defs (F := Bits)) (onTc (τ := Cert.VAKernel.τ) (Cert.VAKernel.main (F := Bits))) ⟨m, fun _ => 0, g⟩ (fun r => (∀ c : Dev Cert.VAKernel.nD,
      r.2.mem ((c.tc : Thread Cert.VAKernel.nD Cert.VAKernel.τ).loc Cert.VAKernel.main_arg0) = m ((c.tc : Thread Cert.VAKernel.nD Cert.VAKernel.τ).loc Cert.VAKernel.main_arg0)
      ∧ r.2.mem ((c.tc : Thread Cert.VAKernel.nD Cert.VAKernel.τ).loc Cert.VAKernel.main_arg1) = m ((c.tc : Thread Cert.VAKernel.nD Cert.VAKernel.τ).loc Cert.VAKernel.main_arg1))
      ∧ r.2.sem = fun _ => 0)

def quiescent_VAKernelIdeal [hVAKernelIdeal : Cert.VAKernelIdeal.Facts] : Prop :=
  ∀ (m : (ℓ : Loc Cert.VAKernelIdeal.nD Cert.VAKernelIdeal.τ Cert.VAKernelIdeal.sig) → Buf (Elt Ideal) ℓ) (g : Dev Cert.VAKernelIdeal.nD → PrngReg), Pre_VAKernelIdeal m →
    θ_run (Cert.VAKernelIdeal.defs (F := Ideal)) (onTc (τ := Cert.VAKernelIdeal.τ) (Cert.VAKernelIdeal.main (F := Ideal))) ⟨m, fun _ => 0, g⟩ (fun r => (∀ c : Dev Cert.VAKernelIdeal.nD,
      r.2.mem ((c.tc : Thread Cert.VAKernelIdeal.nD Cert.VAKernelIdeal.τ).loc Cert.VAKernelIdeal.main_arg0) = m ((c.tc : Thread Cert.VAKernelIdeal.nD Cert.VAKernelIdeal.τ).loc Cert.VAKernelIdeal.main_arg0)
      ∧ r.2.mem ((c.tc : Thread Cert.VAKernelIdeal.nD Cert.VAKernelIdeal.τ).loc Cert.VAKernelIdeal.main_arg1) = m ((c.tc : Thread Cert.VAKernelIdeal.nD Cert.VAKernelIdeal.τ).loc Cert.VAKernelIdeal.main_arg1))
      ∧ r.2.sem = fun _ => 0)

def quiescent_VAReferenceIdeal [hVAReferenceIdeal : Cert.VAReferenceIdeal.Facts] : Prop :=
  ∀ (m : (ℓ : Loc Cert.VAReferenceIdeal.nD Cert.VAReferenceIdeal.τ Cert.VAReferenceIdeal.sig) → Buf (Elt Ideal) ℓ) (g : Dev Cert.VAReferenceIdeal.nD → PrngReg), Pre_VAReferenceIdeal m →
    θ_run (Cert.VAReferenceIdeal.defs (F := Ideal)) (onTc (τ := Cert.VAReferenceIdeal.τ) (Cert.VAReferenceIdeal.main (F := Ideal))) ⟨m, fun _ => 0, g⟩ (fun r => (∀ c : Dev Cert.VAReferenceIdeal.nD,
      r.2.mem ((c.tc : Thread Cert.VAReferenceIdeal.nD Cert.VAReferenceIdeal.τ).loc Cert.VAReferenceIdeal.main_arg0) = m ((c.tc : Thread Cert.VAReferenceIdeal.nD Cert.VAReferenceIdeal.τ).loc Cert.VAReferenceIdeal.main_arg0)
      ∧ r.2.mem ((c.tc : Thread Cert.VAReferenceIdeal.nD Cert.VAReferenceIdeal.τ).loc Cert.VAReferenceIdeal.main_arg1) = m ((c.tc : Thread Cert.VAReferenceIdeal.nD Cert.VAReferenceIdeal.τ).loc Cert.VAReferenceIdeal.main_arg1))
      ∧ r.2.sem = fun _ => 0)

def quiescent_QkBKernel [hQkBKernel : Cert.QkBKernel.Facts] : Prop :=
  ∀ (m : (ℓ : Loc Cert.QkBKernel.nD Cert.QkBKernel.τ Cert.QkBKernel.sig) → Buf (Elt Bits) ℓ) (g : Dev Cert.QkBKernel.nD → PrngReg), Pre_QkBKernel m →
    θ_run (Cert.QkBKernel.defs (F := Bits)) (onTc (τ := Cert.QkBKernel.τ) (Cert.QkBKernel.main (F := Bits))) ⟨m, fun _ => 0, g⟩ (fun r => (∀ c : Dev Cert.QkBKernel.nD,
      r.2.mem ((c.tc : Thread Cert.QkBKernel.nD Cert.QkBKernel.τ).loc Cert.QkBKernel.main_arg0) = m ((c.tc : Thread Cert.QkBKernel.nD Cert.QkBKernel.τ).loc Cert.QkBKernel.main_arg0)
      ∧ r.2.mem ((c.tc : Thread Cert.QkBKernel.nD Cert.QkBKernel.τ).loc Cert.QkBKernel.main_arg1) = m ((c.tc : Thread Cert.QkBKernel.nD Cert.QkBKernel.τ).loc Cert.QkBKernel.main_arg1))
      ∧ r.2.sem = fun _ => 0)

def quiescent_QkBKernelIdeal [hQkBKernelIdeal : Cert.QkBKernelIdeal.Facts] : Prop :=
  ∀ (m : (ℓ : Loc Cert.QkBKernelIdeal.nD Cert.QkBKernelIdeal.τ Cert.QkBKernelIdeal.sig) → Buf (Elt Ideal) ℓ) (g : Dev Cert.QkBKernelIdeal.nD → PrngReg), Pre_QkBKernelIdeal m →
    θ_run (Cert.QkBKernelIdeal.defs (F := Ideal)) (onTc (τ := Cert.QkBKernelIdeal.τ) (Cert.QkBKernelIdeal.main (F := Ideal))) ⟨m, fun _ => 0, g⟩ (fun r => (∀ c : Dev Cert.QkBKernelIdeal.nD,
      r.2.mem ((c.tc : Thread Cert.QkBKernelIdeal.nD Cert.QkBKernelIdeal.τ).loc Cert.QkBKernelIdeal.main_arg0) = m ((c.tc : Thread Cert.QkBKernelIdeal.nD Cert.QkBKernelIdeal.τ).loc Cert.QkBKernelIdeal.main_arg0)
      ∧ r.2.mem ((c.tc : Thread Cert.QkBKernelIdeal.nD Cert.QkBKernelIdeal.τ).loc Cert.QkBKernelIdeal.main_arg1) = m ((c.tc : Thread Cert.QkBKernelIdeal.nD Cert.QkBKernelIdeal.τ).loc Cert.QkBKernelIdeal.main_arg1))
      ∧ r.2.sem = fun _ => 0)

def quiescent_QkBReferenceIdeal [hQkBReferenceIdeal : Cert.QkBReferenceIdeal.Facts] : Prop :=
  ∀ (m : (ℓ : Loc Cert.QkBReferenceIdeal.nD Cert.QkBReferenceIdeal.τ Cert.QkBReferenceIdeal.sig) → Buf (Elt Ideal) ℓ) (g : Dev Cert.QkBReferenceIdeal.nD → PrngReg), Pre_QkBReferenceIdeal m →
    θ_run (Cert.QkBReferenceIdeal.defs (F := Ideal)) (onTc (τ := Cert.QkBReferenceIdeal.τ) (Cert.QkBReferenceIdeal.main (F := Ideal))) ⟨m, fun _ => 0, g⟩ (fun r => (∀ c : Dev Cert.QkBReferenceIdeal.nD,
      r.2.mem ((c.tc : Thread Cert.QkBReferenceIdeal.nD Cert.QkBReferenceIdeal.τ).loc Cert.QkBReferenceIdeal.main_arg0) = m ((c.tc : Thread Cert.QkBReferenceIdeal.nD Cert.QkBReferenceIdeal.τ).loc Cert.QkBReferenceIdeal.main_arg0)
      ∧ r.2.mem ((c.tc : Thread Cert.QkBReferenceIdeal.nD Cert.QkBReferenceIdeal.τ).loc Cert.QkBReferenceIdeal.main_arg1) = m ((c.tc : Thread Cert.QkBReferenceIdeal.nD Cert.QkBReferenceIdeal.τ).loc Cert.QkBReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_QkCKernel [hQkCKernel : Cert.QkCKernel.Facts] : Prop :=
  ∀ (m : (ℓ : Loc Cert.QkCKernel.nD Cert.QkCKernel.τ Cert.QkCKernel.sig) → Buf (Elt Bits) ℓ) (g : Dev Cert.QkCKernel.nD → PrngReg), Pre_QkCKernel m →
    θ_run (Cert.QkCKernel.defs (F := Bits)) (onTc (τ := Cert.QkCKernel.τ) (Cert.QkCKernel.main (F := Bits))) ⟨m, fun _ => 0, g⟩ (fun r => (∀ c : Dev Cert.QkCKernel.nD,
      r.2.mem ((c.tc : Thread Cert.QkCKernel.nD Cert.QkCKernel.τ).loc Cert.QkCKernel.main_arg0) = m ((c.tc : Thread Cert.QkCKernel.nD Cert.QkCKernel.τ).loc Cert.QkCKernel.main_arg0)
      ∧ r.2.mem ((c.tc : Thread Cert.QkCKernel.nD Cert.QkCKernel.τ).loc Cert.QkCKernel.main_arg1) = m ((c.tc : Thread Cert.QkCKernel.nD Cert.QkCKernel.τ).loc Cert.QkCKernel.main_arg1))
      ∧ r.2.sem = fun _ => 0)

def quiescent_QkCKernelIdeal [hQkCKernelIdeal : Cert.QkCKernelIdeal.Facts] : Prop :=
  ∀ (m : (ℓ : Loc Cert.QkCKernelIdeal.nD Cert.QkCKernelIdeal.τ Cert.QkCKernelIdeal.sig) → Buf (Elt Ideal) ℓ) (g : Dev Cert.QkCKernelIdeal.nD → PrngReg), Pre_QkCKernelIdeal m →
    θ_run (Cert.QkCKernelIdeal.defs (F := Ideal)) (onTc (τ := Cert.QkCKernelIdeal.τ) (Cert.QkCKernelIdeal.main (F := Ideal))) ⟨m, fun _ => 0, g⟩ (fun r => (∀ c : Dev Cert.QkCKernelIdeal.nD,
      r.2.mem ((c.tc : Thread Cert.QkCKernelIdeal.nD Cert.QkCKernelIdeal.τ).loc Cert.QkCKernelIdeal.main_arg0) = m ((c.tc : Thread Cert.QkCKernelIdeal.nD Cert.QkCKernelIdeal.τ).loc Cert.QkCKernelIdeal.main_arg0)
      ∧ r.2.mem ((c.tc : Thread Cert.QkCKernelIdeal.nD Cert.QkCKernelIdeal.τ).loc Cert.QkCKernelIdeal.main_arg1) = m ((c.tc : Thread Cert.QkCKernelIdeal.nD Cert.QkCKernelIdeal.τ).loc Cert.QkCKernelIdeal.main_arg1))
      ∧ r.2.sem = fun _ => 0)

def quiescent_QkCReferenceIdeal [hQkCReferenceIdeal : Cert.QkCReferenceIdeal.Facts] : Prop :=
  ∀ (m : (ℓ : Loc Cert.QkCReferenceIdeal.nD Cert.QkCReferenceIdeal.τ Cert.QkCReferenceIdeal.sig) → Buf (Elt Ideal) ℓ) (g : Dev Cert.QkCReferenceIdeal.nD → PrngReg), Pre_QkCReferenceIdeal m →
    θ_run (Cert.QkCReferenceIdeal.defs (F := Ideal)) (onTc (τ := Cert.QkCReferenceIdeal.τ) (Cert.QkCReferenceIdeal.main (F := Ideal))) ⟨m, fun _ => 0, g⟩ (fun r => (∀ c : Dev Cert.QkCReferenceIdeal.nD,
      r.2.mem ((c.tc : Thread Cert.QkCReferenceIdeal.nD Cert.QkCReferenceIdeal.τ).loc Cert.QkCReferenceIdeal.main_arg0) = m ((c.tc : Thread Cert.QkCReferenceIdeal.nD Cert.QkCReferenceIdeal.τ).loc Cert.QkCReferenceIdeal.main_arg0)
      ∧ r.2.mem ((c.tc : Thread Cert.QkCReferenceIdeal.nD Cert.QkCReferenceIdeal.τ).loc Cert.QkCReferenceIdeal.main_arg1) = m ((c.tc : Thread Cert.QkCReferenceIdeal.nD Cert.QkCReferenceIdeal.τ).loc Cert.QkCReferenceIdeal.main_arg1))
      ∧ r.2.sem = fun _ => 0)

def quiescent_VBKernel [hVBKernel : Cert.VBKernel.Facts] : Prop :=
  ∀ (m : (ℓ : Loc Cert.VBKernel.nD Cert.VBKernel.τ Cert.VBKernel.sig) → Buf (Elt Bits) ℓ) (g : Dev Cert.VBKernel.nD → PrngReg), Pre_VBKernel m →
    θ_run (Cert.VBKernel.defs (F := Bits)) (onTc (τ := Cert.VBKernel.τ) (Cert.VBKernel.main (F := Bits))) ⟨m, fun _ => 0, g⟩ (fun r => (∀ c : Dev Cert.VBKernel.nD,
      r.2.mem ((c.tc : Thread Cert.VBKernel.nD Cert.VBKernel.τ).loc Cert.VBKernel.main_arg0) = m ((c.tc : Thread Cert.VBKernel.nD Cert.VBKernel.τ).loc Cert.VBKernel.main_arg0)
      ∧ r.2.mem ((c.tc : Thread Cert.VBKernel.nD Cert.VBKernel.τ).loc Cert.VBKernel.main_arg1) = m ((c.tc : Thread Cert.VBKernel.nD Cert.VBKernel.τ).loc Cert.VBKernel.main_arg1))
      ∧ r.2.sem = fun _ => 0)

def quiescent_VBKernelIdeal [hVBKernelIdeal : Cert.VBKernelIdeal.Facts] : Prop :=
  ∀ (m : (ℓ : Loc Cert.VBKernelIdeal.nD Cert.VBKernelIdeal.τ Cert.VBKernelIdeal.sig) → Buf (Elt Ideal) ℓ) (g : Dev Cert.VBKernelIdeal.nD → PrngReg), Pre_VBKernelIdeal m →
    θ_run (Cert.VBKernelIdeal.defs (F := Ideal)) (onTc (τ := Cert.VBKernelIdeal.τ) (Cert.VBKernelIdeal.main (F := Ideal))) ⟨m, fun _ => 0, g⟩ (fun r => (∀ c : Dev Cert.VBKernelIdeal.nD,
      r.2.mem ((c.tc : Thread Cert.VBKernelIdeal.nD Cert.VBKernelIdeal.τ).loc Cert.VBKernelIdeal.main_arg0) = m ((c.tc : Thread Cert.VBKernelIdeal.nD Cert.VBKernelIdeal.τ).loc Cert.VBKernelIdeal.main_arg0)
      ∧ r.2.mem ((c.tc : Thread Cert.VBKernelIdeal.nD Cert.VBKernelIdeal.τ).loc Cert.VBKernelIdeal.main_arg1) = m ((c.tc : Thread Cert.VBKernelIdeal.nD Cert.VBKernelIdeal.τ).loc Cert.VBKernelIdeal.main_arg1))
      ∧ r.2.sem = fun _ => 0)

def quiescent_VBReferenceIdeal [hVBReferenceIdeal : Cert.VBReferenceIdeal.Facts] : Prop :=
  ∀ (m : (ℓ : Loc Cert.VBReferenceIdeal.nD Cert.VBReferenceIdeal.τ Cert.VBReferenceIdeal.sig) → Buf (Elt Ideal) ℓ) (g : Dev Cert.VBReferenceIdeal.nD → PrngReg), Pre_VBReferenceIdeal m →
    θ_run (Cert.VBReferenceIdeal.defs (F := Ideal)) (onTc (τ := Cert.VBReferenceIdeal.τ) (Cert.VBReferenceIdeal.main (F := Ideal))) ⟨m, fun _ => 0, g⟩ (fun r => (∀ c : Dev Cert.VBReferenceIdeal.nD,
      r.2.mem ((c.tc : Thread Cert.VBReferenceIdeal.nD Cert.VBReferenceIdeal.τ).loc Cert.VBReferenceIdeal.main_arg0) = m ((c.tc : Thread Cert.VBReferenceIdeal.nD Cert.VBReferenceIdeal.τ).loc Cert.VBReferenceIdeal.main_arg0)
      ∧ r.2.mem ((c.tc : Thread Cert.VBReferenceIdeal.nD Cert.VBReferenceIdeal.τ).loc Cert.VBReferenceIdeal.main_arg1) = m ((c.tc : Thread Cert.VBReferenceIdeal.nD Cert.VBReferenceIdeal.τ).loc Cert.VBReferenceIdeal.main_arg1))
      ∧ r.2.sem = fun _ => 0)

def quiescent_VCKernel [hVCKernel : Cert.VCKernel.Facts] : Prop :=
  ∀ (m : (ℓ : Loc Cert.VCKernel.nD Cert.VCKernel.τ Cert.VCKernel.sig) → Buf (Elt Bits) ℓ) (g : Dev Cert.VCKernel.nD → PrngReg), Pre_VCKernel m →
    θ_run (Cert.VCKernel.defs (F := Bits)) (onTc (τ := Cert.VCKernel.τ) (Cert.VCKernel.main (F := Bits))) ⟨m, fun _ => 0, g⟩ (fun r => (∀ c : Dev Cert.VCKernel.nD,
      r.2.mem ((c.tc : Thread Cert.VCKernel.nD Cert.VCKernel.τ).loc Cert.VCKernel.main_arg0) = m ((c.tc : Thread Cert.VCKernel.nD Cert.VCKernel.τ).loc Cert.VCKernel.main_arg0)
      ∧ r.2.mem ((c.tc : Thread Cert.VCKernel.nD Cert.VCKernel.τ).loc Cert.VCKernel.main_arg1) = m ((c.tc : Thread Cert.VCKernel.nD Cert.VCKernel.τ).loc Cert.VCKernel.main_arg1))
      ∧ r.2.sem = fun _ => 0)

def quiescent_VCKernelIdeal [hVCKernelIdeal : Cert.VCKernelIdeal.Facts] : Prop :=
  ∀ (m : (ℓ : Loc Cert.VCKernelIdeal.nD Cert.VCKernelIdeal.τ Cert.VCKernelIdeal.sig) → Buf (Elt Ideal) ℓ) (g : Dev Cert.VCKernelIdeal.nD → PrngReg), Pre_VCKernelIdeal m →
    θ_run (Cert.VCKernelIdeal.defs (F := Ideal)) (onTc (τ := Cert.VCKernelIdeal.τ) (Cert.VCKernelIdeal.main (F := Ideal))) ⟨m, fun _ => 0, g⟩ (fun r => (∀ c : Dev Cert.VCKernelIdeal.nD,
      r.2.mem ((c.tc : Thread Cert.VCKernelIdeal.nD Cert.VCKernelIdeal.τ).loc Cert.VCKernelIdeal.main_arg0) = m ((c.tc : Thread Cert.VCKernelIdeal.nD Cert.VCKernelIdeal.τ).loc Cert.VCKernelIdeal.main_arg0)
      ∧ r.2.mem ((c.tc : Thread Cert.VCKernelIdeal.nD Cert.VCKernelIdeal.τ).loc Cert.VCKernelIdeal.main_arg1) = m ((c.tc : Thread Cert.VCKernelIdeal.nD Cert.VCKernelIdeal.τ).loc Cert.VCKernelIdeal.main_arg1))
      ∧ r.2.sem = fun _ => 0)

def quiescent_VCReferenceIdeal [hVCReferenceIdeal : Cert.VCReferenceIdeal.Facts] : Prop :=
  ∀ (m : (ℓ : Loc Cert.VCReferenceIdeal.nD Cert.VCReferenceIdeal.τ Cert.VCReferenceIdeal.sig) → Buf (Elt Ideal) ℓ) (g : Dev Cert.VCReferenceIdeal.nD → PrngReg), Pre_VCReferenceIdeal m →
    θ_run (Cert.VCReferenceIdeal.defs (F := Ideal)) (onTc (τ := Cert.VCReferenceIdeal.τ) (Cert.VCReferenceIdeal.main (F := Ideal))) ⟨m, fun _ => 0, g⟩ (fun r => (∀ c : Dev Cert.VCReferenceIdeal.nD,
      r.2.mem ((c.tc : Thread Cert.VCReferenceIdeal.nD Cert.VCReferenceIdeal.τ).loc Cert.VCReferenceIdeal.main_arg0) = m ((c.tc : Thread Cert.VCReferenceIdeal.nD Cert.VCReferenceIdeal.τ).loc Cert.VCReferenceIdeal.main_arg0)
      ∧ r.2.mem ((c.tc : Thread Cert.VCReferenceIdeal.nD Cert.VCReferenceIdeal.τ).loc Cert.VCReferenceIdeal.main_arg1) = m ((c.tc : Thread Cert.VCReferenceIdeal.nD Cert.VCReferenceIdeal.τ).loc Cert.VCReferenceIdeal.main_arg1))
      ∧ r.2.sem = fun _ => 0)

def quiescent_CombineKernel [hCombineKernel : Cert.CombineKernel.Facts] : Prop :=
  ∀ (m : (ℓ : Loc Cert.CombineKernel.nD Cert.CombineKernel.τ Cert.CombineKernel.sig) → Buf (Elt Bits) ℓ) (g : Dev Cert.CombineKernel.nD → PrngReg), Pre_CombineKernel m →
    θ_run (Cert.CombineKernel.defs (F := Bits)) (onTc (τ := Cert.CombineKernel.τ) (Cert.CombineKernel.main (F := Bits))) ⟨m, fun _ => 0, g⟩ (fun r => (∀ c : Dev Cert.CombineKernel.nD,
      r.2.mem ((c.tc : Thread Cert.CombineKernel.nD Cert.CombineKernel.τ).loc Cert.CombineKernel.main_arg0) = m ((c.tc : Thread Cert.CombineKernel.nD Cert.CombineKernel.τ).loc Cert.CombineKernel.main_arg0)
      ∧ r.2.mem ((c.tc : Thread Cert.CombineKernel.nD Cert.CombineKernel.τ).loc Cert.CombineKernel.main_arg1) = m ((c.tc : Thread Cert.CombineKernel.nD Cert.CombineKernel.τ).loc Cert.CombineKernel.main_arg1)
      ∧ r.2.mem ((c.tc : Thread Cert.CombineKernel.nD Cert.CombineKernel.τ).loc Cert.CombineKernel.main_arg2) = m ((c.tc : Thread Cert.CombineKernel.nD Cert.CombineKernel.τ).loc Cert.CombineKernel.main_arg2)
      ∧ r.2.mem ((c.tc : Thread Cert.CombineKernel.nD Cert.CombineKernel.τ).loc Cert.CombineKernel.main_arg3) = m ((c.tc : Thread Cert.CombineKernel.nD Cert.CombineKernel.τ).loc Cert.CombineKernel.main_arg3)
      ∧ r.2.mem ((c.tc : Thread Cert.CombineKernel.nD Cert.CombineKernel.τ).loc Cert.CombineKernel.main_arg4) = m ((c.tc : Thread Cert.CombineKernel.nD Cert.CombineKernel.τ).loc Cert.CombineKernel.main_arg4)
      ∧ r.2.mem ((c.tc : Thread Cert.CombineKernel.nD Cert.CombineKernel.τ).loc Cert.CombineKernel.main_arg5) = m ((c.tc : Thread Cert.CombineKernel.nD Cert.CombineKernel.τ).loc Cert.CombineKernel.main_arg5))
      ∧ r.2.sem = fun _ => 0)

def quiescent_CombineKernelIdeal [hCombineKernelIdeal : Cert.CombineKernelIdeal.Facts] : Prop :=
  ∀ (m : (ℓ : Loc Cert.CombineKernelIdeal.nD Cert.CombineKernelIdeal.τ Cert.CombineKernelIdeal.sig) → Buf (Elt Ideal) ℓ) (g : Dev Cert.CombineKernelIdeal.nD → PrngReg), Pre_CombineKernelIdeal m →
    θ_run (Cert.CombineKernelIdeal.defs (F := Ideal)) (onTc (τ := Cert.CombineKernelIdeal.τ) (Cert.CombineKernelIdeal.main (F := Ideal))) ⟨m, fun _ => 0, g⟩ (fun r => (∀ c : Dev Cert.CombineKernelIdeal.nD,
      r.2.mem ((c.tc : Thread Cert.CombineKernelIdeal.nD Cert.CombineKernelIdeal.τ).loc Cert.CombineKernelIdeal.main_arg0) = m ((c.tc : Thread Cert.CombineKernelIdeal.nD Cert.CombineKernelIdeal.τ).loc Cert.CombineKernelIdeal.main_arg0)
      ∧ r.2.mem ((c.tc : Thread Cert.CombineKernelIdeal.nD Cert.CombineKernelIdeal.τ).loc Cert.CombineKernelIdeal.main_arg1) = m ((c.tc : Thread Cert.CombineKernelIdeal.nD Cert.CombineKernelIdeal.τ).loc Cert.CombineKernelIdeal.main_arg1)
      ∧ r.2.mem ((c.tc : Thread Cert.CombineKernelIdeal.nD Cert.CombineKernelIdeal.τ).loc Cert.CombineKernelIdeal.main_arg2) = m ((c.tc : Thread Cert.CombineKernelIdeal.nD Cert.CombineKernelIdeal.τ).loc Cert.CombineKernelIdeal.main_arg2)
      ∧ r.2.mem ((c.tc : Thread Cert.CombineKernelIdeal.nD Cert.CombineKernelIdeal.τ).loc Cert.CombineKernelIdeal.main_arg3) = m ((c.tc : Thread Cert.CombineKernelIdeal.nD Cert.CombineKernelIdeal.τ).loc Cert.CombineKernelIdeal.main_arg3)
      ∧ r.2.mem ((c.tc : Thread Cert.CombineKernelIdeal.nD Cert.CombineKernelIdeal.τ).loc Cert.CombineKernelIdeal.main_arg4) = m ((c.tc : Thread Cert.CombineKernelIdeal.nD Cert.CombineKernelIdeal.τ).loc Cert.CombineKernelIdeal.main_arg4)
      ∧ r.2.mem ((c.tc : Thread Cert.CombineKernelIdeal.nD Cert.CombineKernelIdeal.τ).loc Cert.CombineKernelIdeal.main_arg5) = m ((c.tc : Thread Cert.CombineKernelIdeal.nD Cert.CombineKernelIdeal.τ).loc Cert.CombineKernelIdeal.main_arg5))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5))
      ∧ r.2.sem = fun _ => 0)

def quiescent_GatherKernel [hGatherKernel : Cert.GatherKernel.Facts] : Prop :=
  ∀ (m : (ℓ : Loc Cert.GatherKernel.nD Cert.GatherKernel.τ Cert.GatherKernel.sig) → Buf (Elt Bits) ℓ) (g : Dev Cert.GatherKernel.nD → PrngReg), Pre_GatherKernel m →
    θ_run (Cert.GatherKernel.defs (F := Bits)) (onTc (τ := Cert.GatherKernel.τ) (Cert.GatherKernel.main (F := Bits))) ⟨m, fun _ => 0, g⟩ (fun r => (∀ c : Dev Cert.GatherKernel.nD,
      r.2.mem ((c.tc : Thread Cert.GatherKernel.nD Cert.GatherKernel.τ).loc Cert.GatherKernel.main_arg0) = m ((c.tc : Thread Cert.GatherKernel.nD Cert.GatherKernel.τ).loc Cert.GatherKernel.main_arg0)
      ∧ r.2.mem ((c.tc : Thread Cert.GatherKernel.nD Cert.GatherKernel.τ).loc Cert.GatherKernel.main_arg1) = m ((c.tc : Thread Cert.GatherKernel.nD Cert.GatherKernel.τ).loc Cert.GatherKernel.main_arg1))
      ∧ r.2.sem = fun _ => 0)

def quiescent_GatherKernelIdeal [hGatherKernelIdeal : Cert.GatherKernelIdeal.Facts] : Prop :=
  ∀ (m : (ℓ : Loc Cert.GatherKernelIdeal.nD Cert.GatherKernelIdeal.τ Cert.GatherKernelIdeal.sig) → Buf (Elt Ideal) ℓ) (g : Dev Cert.GatherKernelIdeal.nD → PrngReg), Pre_GatherKernelIdeal m →
    θ_run (Cert.GatherKernelIdeal.defs (F := Ideal)) (onTc (τ := Cert.GatherKernelIdeal.τ) (Cert.GatherKernelIdeal.main (F := Ideal))) ⟨m, fun _ => 0, g⟩ (fun r => (∀ c : Dev Cert.GatherKernelIdeal.nD,
      r.2.mem ((c.tc : Thread Cert.GatherKernelIdeal.nD Cert.GatherKernelIdeal.τ).loc Cert.GatherKernelIdeal.main_arg0) = m ((c.tc : Thread Cert.GatherKernelIdeal.nD Cert.GatherKernelIdeal.τ).loc Cert.GatherKernelIdeal.main_arg0)
      ∧ r.2.mem ((c.tc : Thread Cert.GatherKernelIdeal.nD Cert.GatherKernelIdeal.τ).loc Cert.GatherKernelIdeal.main_arg1) = m ((c.tc : Thread Cert.GatherKernelIdeal.nD Cert.GatherKernelIdeal.τ).loc Cert.GatherKernelIdeal.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_WinCKernel [hWinCKernel : Cert.WinCKernel.Facts] : Prop :=
  ∀ (m : (ℓ : Loc Cert.WinCKernel.nD Cert.WinCKernel.τ Cert.WinCKernel.sig) → Buf (Elt Bits) ℓ) (g : Dev Cert.WinCKernel.nD → PrngReg), Pre_WinCKernel m →
    θ_run (Cert.WinCKernel.defs (F := Bits)) (onTc (τ := Cert.WinCKernel.τ) (Cert.WinCKernel.main (F := Bits))) ⟨m, fun _ => 0, g⟩ (fun r => (∀ c : Dev Cert.WinCKernel.nD,
      r.2.mem ((c.tc : Thread Cert.WinCKernel.nD Cert.WinCKernel.τ).loc Cert.WinCKernel.main_arg0) = m ((c.tc : Thread Cert.WinCKernel.nD Cert.WinCKernel.τ).loc Cert.WinCKernel.main_arg0)
      ∧ r.2.mem ((c.tc : Thread Cert.WinCKernel.nD Cert.WinCKernel.τ).loc Cert.WinCKernel.main_arg1) = m ((c.tc : Thread Cert.WinCKernel.nD Cert.WinCKernel.τ).loc Cert.WinCKernel.main_arg1)
      ∧ r.2.mem ((c.tc : Thread Cert.WinCKernel.nD Cert.WinCKernel.τ).loc Cert.WinCKernel.main_arg2) = m ((c.tc : Thread Cert.WinCKernel.nD Cert.WinCKernel.τ).loc Cert.WinCKernel.main_arg2))
      ∧ r.2.sem = fun _ => 0)

def quiescent_WinCKernelIdeal [hWinCKernelIdeal : Cert.WinCKernelIdeal.Facts] : Prop :=
  ∀ (m : (ℓ : Loc Cert.WinCKernelIdeal.nD Cert.WinCKernelIdeal.τ Cert.WinCKernelIdeal.sig) → Buf (Elt Ideal) ℓ) (g : Dev Cert.WinCKernelIdeal.nD → PrngReg), Pre_WinCKernelIdeal m →
    θ_run (Cert.WinCKernelIdeal.defs (F := Ideal)) (onTc (τ := Cert.WinCKernelIdeal.τ) (Cert.WinCKernelIdeal.main (F := Ideal))) ⟨m, fun _ => 0, g⟩ (fun r => (∀ c : Dev Cert.WinCKernelIdeal.nD,
      r.2.mem ((c.tc : Thread Cert.WinCKernelIdeal.nD Cert.WinCKernelIdeal.τ).loc Cert.WinCKernelIdeal.main_arg0) = m ((c.tc : Thread Cert.WinCKernelIdeal.nD Cert.WinCKernelIdeal.τ).loc Cert.WinCKernelIdeal.main_arg0)
      ∧ r.2.mem ((c.tc : Thread Cert.WinCKernelIdeal.nD Cert.WinCKernelIdeal.τ).loc Cert.WinCKernelIdeal.main_arg1) = m ((c.tc : Thread Cert.WinCKernelIdeal.nD Cert.WinCKernelIdeal.τ).loc Cert.WinCKernelIdeal.main_arg1)
      ∧ r.2.mem ((c.tc : Thread Cert.WinCKernelIdeal.nD Cert.WinCKernelIdeal.τ).loc Cert.WinCKernelIdeal.main_arg2) = m ((c.tc : Thread Cert.WinCKernelIdeal.nD Cert.WinCKernelIdeal.τ).loc Cert.WinCKernelIdeal.main_arg2))
      ∧ r.2.sem = fun _ => 0)

def quiescent_WinCReferenceIdeal [hWinCReferenceIdeal : Cert.WinCReferenceIdeal.Facts] : Prop :=
  ∀ (m : (ℓ : Loc Cert.WinCReferenceIdeal.nD Cert.WinCReferenceIdeal.τ Cert.WinCReferenceIdeal.sig) → Buf (Elt Ideal) ℓ) (g : Dev Cert.WinCReferenceIdeal.nD → PrngReg), Pre_WinCReferenceIdeal m →
    θ_run (Cert.WinCReferenceIdeal.defs (F := Ideal)) (onTc (τ := Cert.WinCReferenceIdeal.τ) (Cert.WinCReferenceIdeal.main (F := Ideal))) ⟨m, fun _ => 0, g⟩ (fun r => (∀ c : Dev Cert.WinCReferenceIdeal.nD,
      r.2.mem ((c.tc : Thread Cert.WinCReferenceIdeal.nD Cert.WinCReferenceIdeal.τ).loc Cert.WinCReferenceIdeal.main_arg0) = m ((c.tc : Thread Cert.WinCReferenceIdeal.nD Cert.WinCReferenceIdeal.τ).loc Cert.WinCReferenceIdeal.main_arg0)
      ∧ r.2.mem ((c.tc : Thread Cert.WinCReferenceIdeal.nD Cert.WinCReferenceIdeal.τ).loc Cert.WinCReferenceIdeal.main_arg1) = m ((c.tc : Thread Cert.WinCReferenceIdeal.nD Cert.WinCReferenceIdeal.τ).loc Cert.WinCReferenceIdeal.main_arg1)
      ∧ r.2.mem ((c.tc : Thread Cert.WinCReferenceIdeal.nD Cert.WinCReferenceIdeal.τ).loc Cert.WinCReferenceIdeal.main_arg2) = m ((c.tc : Thread Cert.WinCReferenceIdeal.nD Cert.WinCReferenceIdeal.τ).loc Cert.WinCReferenceIdeal.main_arg2))
      ∧ r.2.sem = fun _ => 0)

def preserves_DiffKernel_DiffKernelIdeal : Prop :=
  True

def algebraic_DiffKernelIdeal_DiffReferenceIdeal [hDiffKernelIdeal : Cert.DiffKernelIdeal.Facts] [hDiffReferenceIdeal : Cert.DiffReferenceIdeal.Facts] : Prop :=
  ∀ (m : (ℓ : Loc Cert.DiffKernelIdeal.nD Cert.DiffKernelIdeal.τ Cert.DiffKernelIdeal.sig) → Buf (Elt Ideal) ℓ) (g : Dev Cert.DiffKernelIdeal.nD → PrngReg)
    (m' : (ℓ : Loc Cert.DiffReferenceIdeal.nD Cert.DiffReferenceIdeal.τ Cert.DiffReferenceIdeal.sig) → Buf (Elt Ideal) ℓ) (g' : Dev Cert.DiffReferenceIdeal.nD → PrngReg), Pre_DiffKernelIdeal m →
    (∀ c : Dev Cert.DiffKernelIdeal.nD,
      m' ((c.tc : Thread Cert.DiffReferenceIdeal.nD Cert.DiffReferenceIdeal.τ).loc Cert.DiffReferenceIdeal.main_arg0) = m ((c.tc : Thread Cert.DiffKernelIdeal.nD Cert.DiffKernelIdeal.τ).loc Cert.DiffKernelIdeal.main_arg0)
      ∧ m' ((c.tc : Thread Cert.DiffReferenceIdeal.nD Cert.DiffReferenceIdeal.τ).loc Cert.DiffReferenceIdeal.main_arg1) = m ((c.tc : Thread Cert.DiffKernelIdeal.nD Cert.DiffKernelIdeal.τ).loc Cert.DiffKernelIdeal.main_arg1)
      ∧ m' ((c.tc : Thread Cert.DiffReferenceIdeal.nD Cert.DiffReferenceIdeal.τ).loc Cert.DiffReferenceIdeal.main_arg2) = m ((c.tc : Thread Cert.DiffKernelIdeal.nD Cert.DiffKernelIdeal.τ).loc Cert.DiffKernelIdeal.main_arg2)
      ∧ m' ((c.tc : Thread Cert.DiffReferenceIdeal.nD Cert.DiffReferenceIdeal.τ).loc Cert.DiffReferenceIdeal.main_arg3) = m ((c.tc : Thread Cert.DiffKernelIdeal.nD Cert.DiffKernelIdeal.τ).loc Cert.DiffKernelIdeal.main_arg3)) →
    ∃ (v0 : (c : Dev Cert.DiffKernelIdeal.nD) → Buf (Elt Ideal) ((c.tc : Thread Cert.DiffKernelIdeal.nD Cert.DiffKernelIdeal.τ).loc Cert.DiffKernelIdeal.main_v1)),
      θ_run (Cert.DiffKernelIdeal.defs (F := Ideal)) (onTc (τ := Cert.DiffKernelIdeal.τ) (Cert.DiffKernelIdeal.main (F := Ideal))) ⟨m, fun _ => 0, g⟩ (fun r => ∀ c : Dev Cert.DiffKernelIdeal.nD,
          r.2.mem ((c.tc : Thread Cert.DiffKernelIdeal.nD Cert.DiffKernelIdeal.τ).loc Cert.DiffKernelIdeal.main_v1) = v0 c
          ∧ r.2.mem ((c.tc : Thread Cert.DiffKernelIdeal.nD Cert.DiffKernelIdeal.τ).loc Cert.DiffKernelIdeal.main_arg0) = m ((c.tc : Thread Cert.DiffKernelIdeal.nD Cert.DiffKernelIdeal.τ).loc Cert.DiffKernelIdeal.main_arg0)
          ∧ r.2.mem ((c.tc : Thread Cert.DiffKernelIdeal.nD Cert.DiffKernelIdeal.τ).loc Cert.DiffKernelIdeal.main_arg1) = m ((c.tc : Thread Cert.DiffKernelIdeal.nD Cert.DiffKernelIdeal.τ).loc Cert.DiffKernelIdeal.main_arg1)
          ∧ r.2.mem ((c.tc : Thread Cert.DiffKernelIdeal.nD Cert.DiffKernelIdeal.τ).loc Cert.DiffKernelIdeal.main_arg2) = m ((c.tc : Thread Cert.DiffKernelIdeal.nD Cert.DiffKernelIdeal.τ).loc Cert.DiffKernelIdeal.main_arg2)
          ∧ r.2.mem ((c.tc : Thread Cert.DiffKernelIdeal.nD Cert.DiffKernelIdeal.τ).loc Cert.DiffKernelIdeal.main_arg3) = m ((c.tc : Thread Cert.DiffKernelIdeal.nD Cert.DiffKernelIdeal.τ).loc Cert.DiffKernelIdeal.main_arg3))
      ∧ θ_run (Cert.DiffReferenceIdeal.defs (F := Ideal)) (onTc (τ := Cert.DiffReferenceIdeal.τ) (Cert.DiffReferenceIdeal.main (F := Ideal))) ⟨m', fun _ => 0, g'⟩ (fun r => ∀ c : Dev Cert.DiffReferenceIdeal.nD,
          r.2.mem ((c.tc : Thread Cert.DiffReferenceIdeal.nD Cert.DiffReferenceIdeal.τ).loc Cert.DiffReferenceIdeal.main_v62) = v0 c
          ∧ r.2.mem ((c.tc : Thread Cert.DiffReferenceIdeal.nD Cert.DiffReferenceIdeal.τ).loc Cert.DiffReferenceIdeal.main_arg0) = m' ((c.tc : Thread Cert.DiffReferenceIdeal.nD Cert.DiffReferenceIdeal.τ).loc Cert.DiffReferenceIdeal.main_arg0)
          ∧ r.2.mem ((c.tc : Thread Cert.DiffReferenceIdeal.nD Cert.DiffReferenceIdeal.τ).loc Cert.DiffReferenceIdeal.main_arg1) = m' ((c.tc : Thread Cert.DiffReferenceIdeal.nD Cert.DiffReferenceIdeal.τ).loc Cert.DiffReferenceIdeal.main_arg1)
          ∧ r.2.mem ((c.tc : Thread Cert.DiffReferenceIdeal.nD Cert.DiffReferenceIdeal.τ).loc Cert.DiffReferenceIdeal.main_arg2) = m' ((c.tc : Thread Cert.DiffReferenceIdeal.nD Cert.DiffReferenceIdeal.τ).loc Cert.DiffReferenceIdeal.main_arg2)
          ∧ r.2.mem ((c.tc : Thread Cert.DiffReferenceIdeal.nD Cert.DiffReferenceIdeal.τ).loc Cert.DiffReferenceIdeal.main_arg3) = m' ((c.tc : Thread Cert.DiffReferenceIdeal.nD Cert.DiffReferenceIdeal.τ).loc Cert.DiffReferenceIdeal.main_arg3))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)) →
    ∃ (v0 : (c : Dev Cert.GateKernelIdeal.nD) → Buf (Elt Ideal) ((c.tc : Thread Cert.GateKernelIdeal.nD Cert.GateKernelIdeal.τ).loc Cert.GateKernelIdeal.main_v5)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v5) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v12) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_ExpertKernel_ExpertKernelIdeal : Prop :=
  True

def algebraic_ExpertKernelIdeal_ExpertReferenceIdeal [hExpertKernelIdeal : Cert.ExpertKernelIdeal.Facts] [hExpertReferenceIdeal : Cert.ExpertReferenceIdeal.Facts] : Prop :=
  ∀ (m : (ℓ : Loc Cert.ExpertKernelIdeal.nD Cert.ExpertKernelIdeal.τ Cert.ExpertKernelIdeal.sig) → Buf (Elt Ideal) ℓ) (g : Dev Cert.ExpertKernelIdeal.nD → PrngReg)
    (m' : (ℓ : Loc Cert.ExpertReferenceIdeal.nD Cert.ExpertReferenceIdeal.τ Cert.ExpertReferenceIdeal.sig) → Buf (Elt Ideal) ℓ) (g' : Dev Cert.ExpertReferenceIdeal.nD → PrngReg), Pre_ExpertKernelIdeal m →
    (∀ c : Dev Cert.ExpertKernelIdeal.nD,
      m' ((c.tc : Thread Cert.ExpertReferenceIdeal.nD Cert.ExpertReferenceIdeal.τ).loc Cert.ExpertReferenceIdeal.main_arg0) = m ((c.tc : Thread Cert.ExpertKernelIdeal.nD Cert.ExpertKernelIdeal.τ).loc Cert.ExpertKernelIdeal.main_arg0)
      ∧ m' ((c.tc : Thread Cert.ExpertReferenceIdeal.nD Cert.ExpertReferenceIdeal.τ).loc Cert.ExpertReferenceIdeal.main_arg1) = m ((c.tc : Thread Cert.ExpertKernelIdeal.nD Cert.ExpertKernelIdeal.τ).loc Cert.ExpertKernelIdeal.main_arg1)
      ∧ m' ((c.tc : Thread Cert.ExpertReferenceIdeal.nD Cert.ExpertReferenceIdeal.τ).loc Cert.ExpertReferenceIdeal.main_arg2) = m ((c.tc : Thread Cert.ExpertKernelIdeal.nD Cert.ExpertKernelIdeal.τ).loc Cert.ExpertKernelIdeal.main_arg2)
      ∧ m' ((c.tc : Thread Cert.ExpertReferenceIdeal.nD Cert.ExpertReferenceIdeal.τ).loc Cert.ExpertReferenceIdeal.main_arg3) = m ((c.tc : Thread Cert.ExpertKernelIdeal.nD Cert.ExpertKernelIdeal.τ).loc Cert.ExpertKernelIdeal.main_arg3)) →
    ∃ (v0 : (c : Dev Cert.ExpertKernelIdeal.nD) → Buf (Elt Ideal) ((c.tc : Thread Cert.ExpertKernelIdeal.nD Cert.ExpertKernelIdeal.τ).loc Cert.ExpertKernelIdeal.main_v3)),
      θ_run (Cert.ExpertKernelIdeal.defs (F := Ideal)) (onTc (τ := Cert.ExpertKernelIdeal.τ) (Cert.ExpertKernelIdeal.main (F := Ideal))) ⟨m, fun _ => 0, g⟩ (fun r => ∀ c : Dev Cert.ExpertKernelIdeal.nD,
          r.2.mem ((c.tc : Thread Cert.ExpertKernelIdeal.nD Cert.ExpertKernelIdeal.τ).loc Cert.ExpertKernelIdeal.main_v3) = v0 c
          ∧ r.2.mem ((c.tc : Thread Cert.ExpertKernelIdeal.nD Cert.ExpertKernelIdeal.τ).loc Cert.ExpertKernelIdeal.main_arg0) = m ((c.tc : Thread Cert.ExpertKernelIdeal.nD Cert.ExpertKernelIdeal.τ).loc Cert.ExpertKernelIdeal.main_arg0)
          ∧ r.2.mem ((c.tc : Thread Cert.ExpertKernelIdeal.nD Cert.ExpertKernelIdeal.τ).loc Cert.ExpertKernelIdeal.main_arg1) = m ((c.tc : Thread Cert.ExpertKernelIdeal.nD Cert.ExpertKernelIdeal.τ).loc Cert.ExpertKernelIdeal.main_arg1)
          ∧ r.2.mem ((c.tc : Thread Cert.ExpertKernelIdeal.nD Cert.ExpertKernelIdeal.τ).loc Cert.ExpertKernelIdeal.main_arg2) = m ((c.tc : Thread Cert.ExpertKernelIdeal.nD Cert.ExpertKernelIdeal.τ).loc Cert.ExpertKernelIdeal.main_arg2)
          ∧ r.2.mem ((c.tc : Thread Cert.ExpertKernelIdeal.nD Cert.ExpertKernelIdeal.τ).loc Cert.ExpertKernelIdeal.main_arg3) = m ((c.tc : Thread Cert.ExpertKernelIdeal.nD Cert.ExpertKernelIdeal.τ).loc Cert.ExpertKernelIdeal.main_arg3))
      ∧ θ_run (Cert.ExpertReferenceIdeal.defs (F := Ideal)) (onTc (τ := Cert.ExpertReferenceIdeal.τ) (Cert.ExpertReferenceIdeal.main (F := Ideal))) ⟨m', fun _ => 0, g'⟩ (fun r => ∀ c : Dev Cert.ExpertReferenceIdeal.nD,
          r.2.mem ((c.tc : Thread Cert.ExpertReferenceIdeal.nD Cert.ExpertReferenceIdeal.τ).loc Cert.ExpertReferenceIdeal.main_v6) = v0 c
          ∧ r.2.mem ((c.tc : Thread Cert.ExpertReferenceIdeal.nD Cert.ExpertReferenceIdeal.τ).loc Cert.ExpertReferenceIdeal.main_arg0) = m' ((c.tc : Thread Cert.ExpertReferenceIdeal.nD Cert.ExpertReferenceIdeal.τ).loc Cert.ExpertReferenceIdeal.main_arg0)
          ∧ r.2.mem ((c.tc : Thread Cert.ExpertReferenceIdeal.nD Cert.ExpertReferenceIdeal.τ).loc Cert.ExpertReferenceIdeal.main_arg1) = m' ((c.tc : Thread Cert.ExpertReferenceIdeal.nD Cert.ExpertReferenceIdeal.τ).loc Cert.ExpertReferenceIdeal.main_arg1)
          ∧ r.2.mem ((c.tc : Thread Cert.ExpertReferenceIdeal.nD Cert.ExpertReferenceIdeal.τ).loc Cert.ExpertReferenceIdeal.main_arg2) = m' ((c.tc : Thread Cert.ExpertReferenceIdeal.nD Cert.ExpertReferenceIdeal.τ).loc Cert.ExpertReferenceIdeal.main_arg2)
          ∧ r.2.mem ((c.tc : Thread Cert.ExpertReferenceIdeal.nD Cert.ExpertReferenceIdeal.τ).loc Cert.ExpertReferenceIdeal.main_arg3) = m' ((c.tc : Thread Cert.ExpertReferenceIdeal.nD Cert.ExpertReferenceIdeal.τ).loc Cert.ExpertReferenceIdeal.main_arg3))

def preserves_QkAKernel_QkAKernelIdeal : Prop :=
  True

def algebraic_QkAKernelIdeal_QkAReferenceIdeal [hQkAKernelIdeal : Cert.QkAKernelIdeal.Facts] [hQkAReferenceIdeal : Cert.QkAReferenceIdeal.Facts] : Prop :=
  ∀ (m : (ℓ : Loc Cert.QkAKernelIdeal.nD Cert.QkAKernelIdeal.τ Cert.QkAKernelIdeal.sig) → Buf (Elt Ideal) ℓ) (g : Dev Cert.QkAKernelIdeal.nD → PrngReg)
    (m' : (ℓ : Loc Cert.QkAReferenceIdeal.nD Cert.QkAReferenceIdeal.τ Cert.QkAReferenceIdeal.sig) → Buf (Elt Ideal) ℓ) (g' : Dev Cert.QkAReferenceIdeal.nD → PrngReg), Pre_QkAKernelIdeal m →
    (∀ c : Dev Cert.QkAKernelIdeal.nD,
      m' ((c.tc : Thread Cert.QkAReferenceIdeal.nD Cert.QkAReferenceIdeal.τ).loc Cert.QkAReferenceIdeal.main_arg0) = m ((c.tc : Thread Cert.QkAKernelIdeal.nD Cert.QkAKernelIdeal.τ).loc Cert.QkAKernelIdeal.main_arg0)
      ∧ m' ((c.tc : Thread Cert.QkAReferenceIdeal.nD Cert.QkAReferenceIdeal.τ).loc Cert.QkAReferenceIdeal.main_arg1) = m ((c.tc : Thread Cert.QkAKernelIdeal.nD Cert.QkAKernelIdeal.τ).loc Cert.QkAKernelIdeal.main_arg1)) →
    ∃ (v0 : (c : Dev Cert.QkAKernelIdeal.nD) → Buf (Elt Ideal) ((c.tc : Thread Cert.QkAKernelIdeal.nD Cert.QkAKernelIdeal.τ).loc Cert.QkAKernelIdeal.main_v28)),
      θ_run (Cert.QkAKernelIdeal.defs (F := Ideal)) (onTc (τ := Cert.QkAKernelIdeal.τ) (Cert.QkAKernelIdeal.main (F := Ideal))) ⟨m, fun _ => 0, g⟩ (fun r => ∀ c : Dev Cert.QkAKernelIdeal.nD,
          r.2.mem ((c.tc : Thread Cert.QkAKernelIdeal.nD Cert.QkAKernelIdeal.τ).loc Cert.QkAKernelIdeal.main_v28) = v0 c
          ∧ r.2.mem ((c.tc : Thread Cert.QkAKernelIdeal.nD Cert.QkAKernelIdeal.τ).loc Cert.QkAKernelIdeal.main_arg0) = m ((c.tc : Thread Cert.QkAKernelIdeal.nD Cert.QkAKernelIdeal.τ).loc Cert.QkAKernelIdeal.main_arg0)
          ∧ r.2.mem ((c.tc : Thread Cert.QkAKernelIdeal.nD Cert.QkAKernelIdeal.τ).loc Cert.QkAKernelIdeal.main_arg1) = m ((c.tc : Thread Cert.QkAKernelIdeal.nD Cert.QkAKernelIdeal.τ).loc Cert.QkAKernelIdeal.main_arg1))
      ∧ θ_run (Cert.QkAReferenceIdeal.defs (F := Ideal)) (onTc (τ := Cert.QkAReferenceIdeal.τ) (Cert.QkAReferenceIdeal.main (F := Ideal))) ⟨m', fun _ => 0, g'⟩ (fun r => ∀ c : Dev Cert.QkAReferenceIdeal.nD,
          r.2.mem ((c.tc : Thread Cert.QkAReferenceIdeal.nD Cert.QkAReferenceIdeal.τ).loc Cert.QkAReferenceIdeal.main_v38) = v0 c
          ∧ r.2.mem ((c.tc : Thread Cert.QkAReferenceIdeal.nD Cert.QkAReferenceIdeal.τ).loc Cert.QkAReferenceIdeal.main_arg0) = m' ((c.tc : Thread Cert.QkAReferenceIdeal.nD Cert.QkAReferenceIdeal.τ).loc Cert.QkAReferenceIdeal.main_arg0)
          ∧ r.2.mem ((c.tc : Thread Cert.QkAReferenceIdeal.nD Cert.QkAReferenceIdeal.τ).loc Cert.QkAReferenceIdeal.main_arg1) = m' ((c.tc : Thread Cert.QkAReferenceIdeal.nD Cert.QkAReferenceIdeal.τ).loc Cert.QkAReferenceIdeal.main_arg1))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)) →
    ∃ (v0 : (c : Dev Cert.MergeKernelIdeal.nD) → Buf (Elt Ideal) ((c.tc : Thread Cert.MergeKernelIdeal.nD Cert.MergeKernelIdeal.τ).loc Cert.MergeKernelIdeal.main_v5)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v5) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v27) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5))

def preserves_QkvDKernel_QkvDKernelIdeal : Prop :=
  True

def algebraic_QkvDKernelIdeal_QkvDReferenceIdeal [hQkvDKernelIdeal : Cert.QkvDKernelIdeal.Facts] [hQkvDReferenceIdeal : Cert.QkvDReferenceIdeal.Facts] : Prop :=
  ∀ (m : (ℓ : Loc Cert.QkvDKernelIdeal.nD Cert.QkvDKernelIdeal.τ Cert.QkvDKernelIdeal.sig) → Buf (Elt Ideal) ℓ) (g : Dev Cert.QkvDKernelIdeal.nD → PrngReg)
    (m' : (ℓ : Loc Cert.QkvDReferenceIdeal.nD Cert.QkvDReferenceIdeal.τ Cert.QkvDReferenceIdeal.sig) → Buf (Elt Ideal) ℓ) (g' : Dev Cert.QkvDReferenceIdeal.nD → PrngReg), Pre_QkvDKernelIdeal m →
    (∀ c : Dev Cert.QkvDKernelIdeal.nD,
      m' ((c.tc : Thread Cert.QkvDReferenceIdeal.nD Cert.QkvDReferenceIdeal.τ).loc Cert.QkvDReferenceIdeal.main_arg0) = m ((c.tc : Thread Cert.QkvDKernelIdeal.nD Cert.QkvDKernelIdeal.τ).loc Cert.QkvDKernelIdeal.main_arg0)
      ∧ m' ((c.tc : Thread Cert.QkvDReferenceIdeal.nD Cert.QkvDReferenceIdeal.τ).loc Cert.QkvDReferenceIdeal.main_arg1) = m ((c.tc : Thread Cert.QkvDKernelIdeal.nD Cert.QkvDKernelIdeal.τ).loc Cert.QkvDKernelIdeal.main_arg1)) →
    ∃ (v0 : (c : Dev Cert.QkvDKernelIdeal.nD) → Buf (Elt Ideal) ((c.tc : Thread Cert.QkvDKernelIdeal.nD Cert.QkvDKernelIdeal.τ).loc Cert.QkvDKernelIdeal.main_v4)),
      θ_run (Cert.QkvDKernelIdeal.defs (F := Ideal)) (onTc (τ := Cert.QkvDKernelIdeal.τ) (Cert.QkvDKernelIdeal.main (F := Ideal))) ⟨m, fun _ => 0, g⟩ (fun r => ∀ c : Dev Cert.QkvDKernelIdeal.nD,
          r.2.mem ((c.tc : Thread Cert.QkvDKernelIdeal.nD Cert.QkvDKernelIdeal.τ).loc Cert.QkvDKernelIdeal.main_v4) = v0 c
          ∧ r.2.mem ((c.tc : Thread Cert.QkvDKernelIdeal.nD Cert.QkvDKernelIdeal.τ).loc Cert.QkvDKernelIdeal.main_arg0) = m ((c.tc : Thread Cert.QkvDKernelIdeal.nD Cert.QkvDKernelIdeal.τ).loc Cert.QkvDKernelIdeal.main_arg0)
          ∧ r.2.mem ((c.tc : Thread Cert.QkvDKernelIdeal.nD Cert.QkvDKernelIdeal.τ).loc Cert.QkvDKernelIdeal.main_arg1) = m ((c.tc : Thread Cert.QkvDKernelIdeal.nD Cert.QkvDKernelIdeal.τ).loc Cert.QkvDKernelIdeal.main_arg1))
      ∧ θ_run (Cert.QkvDReferenceIdeal.defs (F := Ideal)) (onTc (τ := Cert.QkvDReferenceIdeal.τ) (Cert.QkvDReferenceIdeal.main (F := Ideal))) ⟨m', fun _ => 0, g'⟩ (fun r => ∀ c : Dev Cert.QkvDReferenceIdeal.nD,
          r.2.mem ((c.tc : Thread Cert.QkvDReferenceIdeal.nD Cert.QkvDReferenceIdeal.τ).loc Cert.QkvDReferenceIdeal.main_v3) = v0 c
          ∧ r.2.mem ((c.tc : Thread Cert.QkvDReferenceIdeal.nD Cert.QkvDReferenceIdeal.τ).loc Cert.QkvDReferenceIdeal.main_arg0) = m' ((c.tc : Thread Cert.QkvDReferenceIdeal.nD Cert.QkvDReferenceIdeal.τ).loc Cert.QkvDReferenceIdeal.main_arg0)
          ∧ r.2.mem ((c.tc : Thread Cert.QkvDReferenceIdeal.nD Cert.QkvDReferenceIdeal.τ).loc Cert.QkvDReferenceIdeal.main_arg1) = m' ((c.tc : Thread Cert.QkvDReferenceIdeal.nD Cert.QkvDReferenceIdeal.τ).loc Cert.QkvDReferenceIdeal.main_arg1))

def preserves_VAKernel_VAKernelIdeal : Prop :=
  True

def algebraic_VAKernelIdeal_VAReferenceIdeal [hVAKernelIdeal : Cert.VAKernelIdeal.Facts] [hVAReferenceIdeal : Cert.VAReferenceIdeal.Facts] : Prop :=
  ∀ (m : (ℓ : Loc Cert.VAKernelIdeal.nD Cert.VAKernelIdeal.τ Cert.VAKernelIdeal.sig) → Buf (Elt Ideal) ℓ) (g : Dev Cert.VAKernelIdeal.nD → PrngReg)
    (m' : (ℓ : Loc Cert.VAReferenceIdeal.nD Cert.VAReferenceIdeal.τ Cert.VAReferenceIdeal.sig) → Buf (Elt Ideal) ℓ) (g' : Dev Cert.VAReferenceIdeal.nD → PrngReg), Pre_VAKernelIdeal m →
    (∀ c : Dev Cert.VAKernelIdeal.nD,
      m' ((c.tc : Thread Cert.VAReferenceIdeal.nD Cert.VAReferenceIdeal.τ).loc Cert.VAReferenceIdeal.main_arg0) = m ((c.tc : Thread Cert.VAKernelIdeal.nD Cert.VAKernelIdeal.τ).loc Cert.VAKernelIdeal.main_arg0)
      ∧ m' ((c.tc : Thread Cert.VAReferenceIdeal.nD Cert.VAReferenceIdeal.τ).loc Cert.VAReferenceIdeal.main_arg1) = m ((c.tc : Thread Cert.VAKernelIdeal.nD Cert.VAKernelIdeal.τ).loc Cert.VAKernelIdeal.main_arg1)) →
    ∃ (v0 : (c : Dev Cert.VAKernelIdeal.nD) → Buf (Elt Ideal) ((c.tc : Thread Cert.VAKernelIdeal.nD Cert.VAKernelIdeal.τ).loc Cert.VAKernelIdeal.main_v4)),
      θ_run (Cert.VAKernelIdeal.defs (F := Ideal)) (onTc (τ := Cert.VAKernelIdeal.τ) (Cert.VAKernelIdeal.main (F := Ideal))) ⟨m, fun _ => 0, g⟩ (fun r => ∀ c : Dev Cert.VAKernelIdeal.nD,
          r.2.mem ((c.tc : Thread Cert.VAKernelIdeal.nD Cert.VAKernelIdeal.τ).loc Cert.VAKernelIdeal.main_v4) = v0 c
          ∧ r.2.mem ((c.tc : Thread Cert.VAKernelIdeal.nD Cert.VAKernelIdeal.τ).loc Cert.VAKernelIdeal.main_arg0) = m ((c.tc : Thread Cert.VAKernelIdeal.nD Cert.VAKernelIdeal.τ).loc Cert.VAKernelIdeal.main_arg0)
          ∧ r.2.mem ((c.tc : Thread Cert.VAKernelIdeal.nD Cert.VAKernelIdeal.τ).loc Cert.VAKernelIdeal.main_arg1) = m ((c.tc : Thread Cert.VAKernelIdeal.nD Cert.VAKernelIdeal.τ).loc Cert.VAKernelIdeal.main_arg1))
      ∧ θ_run (Cert.VAReferenceIdeal.defs (F := Ideal)) (onTc (τ := Cert.VAReferenceIdeal.τ) (Cert.VAReferenceIdeal.main (F := Ideal))) ⟨m', fun _ => 0, g'⟩ (fun r => ∀ c : Dev Cert.VAReferenceIdeal.nD,
          r.2.mem ((c.tc : Thread Cert.VAReferenceIdeal.nD Cert.VAReferenceIdeal.τ).loc Cert.VAReferenceIdeal.main_v3) = v0 c
          ∧ r.2.mem ((c.tc : Thread Cert.VAReferenceIdeal.nD Cert.VAReferenceIdeal.τ).loc Cert.VAReferenceIdeal.main_arg0) = m' ((c.tc : Thread Cert.VAReferenceIdeal.nD Cert.VAReferenceIdeal.τ).loc Cert.VAReferenceIdeal.main_arg0)
          ∧ r.2.mem ((c.tc : Thread Cert.VAReferenceIdeal.nD Cert.VAReferenceIdeal.τ).loc Cert.VAReferenceIdeal.main_arg1) = m' ((c.tc : Thread Cert.VAReferenceIdeal.nD Cert.VAReferenceIdeal.τ).loc Cert.VAReferenceIdeal.main_arg1))

def preserves_QkBKernel_QkBKernelIdeal : Prop :=
  True

def algebraic_QkBKernelIdeal_QkBReferenceIdeal [hQkBKernelIdeal : Cert.QkBKernelIdeal.Facts] [hQkBReferenceIdeal : Cert.QkBReferenceIdeal.Facts] : Prop :=
  ∀ (m : (ℓ : Loc Cert.QkBKernelIdeal.nD Cert.QkBKernelIdeal.τ Cert.QkBKernelIdeal.sig) → Buf (Elt Ideal) ℓ) (g : Dev Cert.QkBKernelIdeal.nD → PrngReg)
    (m' : (ℓ : Loc Cert.QkBReferenceIdeal.nD Cert.QkBReferenceIdeal.τ Cert.QkBReferenceIdeal.sig) → Buf (Elt Ideal) ℓ) (g' : Dev Cert.QkBReferenceIdeal.nD → PrngReg), Pre_QkBKernelIdeal m →
    (∀ c : Dev Cert.QkBKernelIdeal.nD,
      m' ((c.tc : Thread Cert.QkBReferenceIdeal.nD Cert.QkBReferenceIdeal.τ).loc Cert.QkBReferenceIdeal.main_arg0) = m ((c.tc : Thread Cert.QkBKernelIdeal.nD Cert.QkBKernelIdeal.τ).loc Cert.QkBKernelIdeal.main_arg0)
      ∧ m' ((c.tc : Thread Cert.QkBReferenceIdeal.nD Cert.QkBReferenceIdeal.τ).loc Cert.QkBReferenceIdeal.main_arg1) = m ((c.tc : Thread Cert.QkBKernelIdeal.nD Cert.QkBKernelIdeal.τ).loc Cert.QkBKernelIdeal.main_arg1)) →
    ∃ (v0 : (c : Dev Cert.QkBKernelIdeal.nD) → Buf (Elt Ideal) ((c.tc : Thread Cert.QkBKernelIdeal.nD Cert.QkBKernelIdeal.τ).loc Cert.QkBKernelIdeal.main_v28)),
      θ_run (Cert.QkBKernelIdeal.defs (F := Ideal)) (onTc (τ := Cert.QkBKernelIdeal.τ) (Cert.QkBKernelIdeal.main (F := Ideal))) ⟨m, fun _ => 0, g⟩ (fun r => ∀ c : Dev Cert.QkBKernelIdeal.nD,
          r.2.mem ((c.tc : Thread Cert.QkBKernelIdeal.nD Cert.QkBKernelIdeal.τ).loc Cert.QkBKernelIdeal.main_v28) = v0 c
          ∧ r.2.mem ((c.tc : Thread Cert.QkBKernelIdeal.nD Cert.QkBKernelIdeal.τ).loc Cert.QkBKernelIdeal.main_arg0) = m ((c.tc : Thread Cert.QkBKernelIdeal.nD Cert.QkBKernelIdeal.τ).loc Cert.QkBKernelIdeal.main_arg0)
          ∧ r.2.mem ((c.tc : Thread Cert.QkBKernelIdeal.nD Cert.QkBKernelIdeal.τ).loc Cert.QkBKernelIdeal.main_arg1) = m ((c.tc : Thread Cert.QkBKernelIdeal.nD Cert.QkBKernelIdeal.τ).loc Cert.QkBKernelIdeal.main_arg1))
      ∧ θ_run (Cert.QkBReferenceIdeal.defs (F := Ideal)) (onTc (τ := Cert.QkBReferenceIdeal.τ) (Cert.QkBReferenceIdeal.main (F := Ideal))) ⟨m', fun _ => 0, g'⟩ (fun r => ∀ c : Dev Cert.QkBReferenceIdeal.nD,
          r.2.mem ((c.tc : Thread Cert.QkBReferenceIdeal.nD Cert.QkBReferenceIdeal.τ).loc Cert.QkBReferenceIdeal.main_v38) = v0 c
          ∧ r.2.mem ((c.tc : Thread Cert.QkBReferenceIdeal.nD Cert.QkBReferenceIdeal.τ).loc Cert.QkBReferenceIdeal.main_arg0) = m' ((c.tc : Thread Cert.QkBReferenceIdeal.nD Cert.QkBReferenceIdeal.τ).loc Cert.QkBReferenceIdeal.main_arg0)
          ∧ r.2.mem ((c.tc : Thread Cert.QkBReferenceIdeal.nD Cert.QkBReferenceIdeal.τ).loc Cert.QkBReferenceIdeal.main_arg1) = m' ((c.tc : Thread Cert.QkBReferenceIdeal.nD Cert.QkBReferenceIdeal.τ).loc Cert.QkBReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)) →
    ∃ (v0 : (c : Dev Cert.OutKernelIdeal.nD) → Buf (Elt Ideal) ((c.tc : Thread Cert.OutKernelIdeal.nD Cert.OutKernelIdeal.τ).loc Cert.OutKernelIdeal.main_v3_0)) (v1 : (c : Dev Cert.OutKernelIdeal.nD) → Buf (Elt Ideal) ((c.tc : Thread Cert.OutKernelIdeal.nD Cert.OutKernelIdeal.τ).loc Cert.OutKernelIdeal.main_v3_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v3_0) = v0 c
          ∧ r.2.mem ((c.tc : Thread Cert.OutKernelIdeal.nD Cert.OutKernelIdeal.τ).loc Cert.OutKernelIdeal.main_v3_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v28) = v0 c
          ∧ r.2.mem ((c.tc : Thread Cert.OutReferenceIdeal.nD Cert.OutReferenceIdeal.τ).loc Cert.OutReferenceIdeal.main_v29) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_QkCKernel_QkCKernelIdeal : Prop :=
  True

def algebraic_QkCKernelIdeal_QkCReferenceIdeal [hQkCKernelIdeal : Cert.QkCKernelIdeal.Facts] [hQkCReferenceIdeal : Cert.QkCReferenceIdeal.Facts] : Prop :=
  ∀ (m : (ℓ : Loc Cert.QkCKernelIdeal.nD Cert.QkCKernelIdeal.τ Cert.QkCKernelIdeal.sig) → Buf (Elt Ideal) ℓ) (g : Dev Cert.QkCKernelIdeal.nD → PrngReg)
    (m' : (ℓ : Loc Cert.QkCReferenceIdeal.nD Cert.QkCReferenceIdeal.τ Cert.QkCReferenceIdeal.sig) → Buf (Elt Ideal) ℓ) (g' : Dev Cert.QkCReferenceIdeal.nD → PrngReg), Pre_QkCKernelIdeal m →
    (∀ c : Dev Cert.QkCKernelIdeal.nD,
      m' ((c.tc : Thread Cert.QkCReferenceIdeal.nD Cert.QkCReferenceIdeal.τ).loc Cert.QkCReferenceIdeal.main_arg0) = m ((c.tc : Thread Cert.QkCKernelIdeal.nD Cert.QkCKernelIdeal.τ).loc Cert.QkCKernelIdeal.main_arg0)
      ∧ m' ((c.tc : Thread Cert.QkCReferenceIdeal.nD Cert.QkCReferenceIdeal.τ).loc Cert.QkCReferenceIdeal.main_arg1) = m ((c.tc : Thread Cert.QkCKernelIdeal.nD Cert.QkCKernelIdeal.τ).loc Cert.QkCKernelIdeal.main_arg1)) →
    ∃ (v0 : (c : Dev Cert.QkCKernelIdeal.nD) → Buf (Elt Ideal) ((c.tc : Thread Cert.QkCKernelIdeal.nD Cert.QkCKernelIdeal.τ).loc Cert.QkCKernelIdeal.main_v28)),
      θ_run (Cert.QkCKernelIdeal.defs (F := Ideal)) (onTc (τ := Cert.QkCKernelIdeal.τ) (Cert.QkCKernelIdeal.main (F := Ideal))) ⟨m, fun _ => 0, g⟩ (fun r => ∀ c : Dev Cert.QkCKernelIdeal.nD,
          r.2.mem ((c.tc : Thread Cert.QkCKernelIdeal.nD Cert.QkCKernelIdeal.τ).loc Cert.QkCKernelIdeal.main_v28) = v0 c
          ∧ r.2.mem ((c.tc : Thread Cert.QkCKernelIdeal.nD Cert.QkCKernelIdeal.τ).loc Cert.QkCKernelIdeal.main_arg0) = m ((c.tc : Thread Cert.QkCKernelIdeal.nD Cert.QkCKernelIdeal.τ).loc Cert.QkCKernelIdeal.main_arg0)
          ∧ r.2.mem ((c.tc : Thread Cert.QkCKernelIdeal.nD Cert.QkCKernelIdeal.τ).loc Cert.QkCKernelIdeal.main_arg1) = m ((c.tc : Thread Cert.QkCKernelIdeal.nD Cert.QkCKernelIdeal.τ).loc Cert.QkCKernelIdeal.main_arg1))
      ∧ θ_run (Cert.QkCReferenceIdeal.defs (F := Ideal)) (onTc (τ := Cert.QkCReferenceIdeal.τ) (Cert.QkCReferenceIdeal.main (F := Ideal))) ⟨m', fun _ => 0, g'⟩ (fun r => ∀ c : Dev Cert.QkCReferenceIdeal.nD,
          r.2.mem ((c.tc : Thread Cert.QkCReferenceIdeal.nD Cert.QkCReferenceIdeal.τ).loc Cert.QkCReferenceIdeal.main_v38) = v0 c
          ∧ r.2.mem ((c.tc : Thread Cert.QkCReferenceIdeal.nD Cert.QkCReferenceIdeal.τ).loc Cert.QkCReferenceIdeal.main_arg0) = m' ((c.tc : Thread Cert.QkCReferenceIdeal.nD Cert.QkCReferenceIdeal.τ).loc Cert.QkCReferenceIdeal.main_arg0)
          ∧ r.2.mem ((c.tc : Thread Cert.QkCReferenceIdeal.nD Cert.QkCReferenceIdeal.τ).loc Cert.QkCReferenceIdeal.main_arg1) = m' ((c.tc : Thread Cert.QkCReferenceIdeal.nD Cert.QkCReferenceIdeal.τ).loc Cert.QkCReferenceIdeal.main_arg1))

def preserves_VBKernel_VBKernelIdeal : Prop :=
  True

def algebraic_VBKernelIdeal_VBReferenceIdeal [hVBKernelIdeal : Cert.VBKernelIdeal.Facts] [hVBReferenceIdeal : Cert.VBReferenceIdeal.Facts] : Prop :=
  ∀ (m : (ℓ : Loc Cert.VBKernelIdeal.nD Cert.VBKernelIdeal.τ Cert.VBKernelIdeal.sig) → Buf (Elt Ideal) ℓ) (g : Dev Cert.VBKernelIdeal.nD → PrngReg)
    (m' : (ℓ : Loc Cert.VBReferenceIdeal.nD Cert.VBReferenceIdeal.τ Cert.VBReferenceIdeal.sig) → Buf (Elt Ideal) ℓ) (g' : Dev Cert.VBReferenceIdeal.nD → PrngReg), Pre_VBKernelIdeal m →
    (∀ c : Dev Cert.VBKernelIdeal.nD,
      m' ((c.tc : Thread Cert.VBReferenceIdeal.nD Cert.VBReferenceIdeal.τ).loc Cert.VBReferenceIdeal.main_arg0) = m ((c.tc : Thread Cert.VBKernelIdeal.nD Cert.VBKernelIdeal.τ).loc Cert.VBKernelIdeal.main_arg0)
      ∧ m' ((c.tc : Thread Cert.VBReferenceIdeal.nD Cert.VBReferenceIdeal.τ).loc Cert.VBReferenceIdeal.main_arg1) = m ((c.tc : Thread Cert.VBKernelIdeal.nD Cert.VBKernelIdeal.τ).loc Cert.VBKernelIdeal.main_arg1)) →
    ∃ (v0 : (c : Dev Cert.VBKernelIdeal.nD) → Buf (Elt Ideal) ((c.tc : Thread Cert.VBKernelIdeal.nD Cert.VBKernelIdeal.τ).loc Cert.VBKernelIdeal.main_v4)),
      θ_run (Cert.VBKernelIdeal.defs (F := Ideal)) (onTc (τ := Cert.VBKernelIdeal.τ) (Cert.VBKernelIdeal.main (F := Ideal))) ⟨m, fun _ => 0, g⟩ (fun r => ∀ c : Dev Cert.VBKernelIdeal.nD,
          r.2.mem ((c.tc : Thread Cert.VBKernelIdeal.nD Cert.VBKernelIdeal.τ).loc Cert.VBKernelIdeal.main_v4) = v0 c
          ∧ r.2.mem ((c.tc : Thread Cert.VBKernelIdeal.nD Cert.VBKernelIdeal.τ).loc Cert.VBKernelIdeal.main_arg0) = m ((c.tc : Thread Cert.VBKernelIdeal.nD Cert.VBKernelIdeal.τ).loc Cert.VBKernelIdeal.main_arg0)
          ∧ r.2.mem ((c.tc : Thread Cert.VBKernelIdeal.nD Cert.VBKernelIdeal.τ).loc Cert.VBKernelIdeal.main_arg1) = m ((c.tc : Thread Cert.VBKernelIdeal.nD Cert.VBKernelIdeal.τ).loc Cert.VBKernelIdeal.main_arg1))
      ∧ θ_run (Cert.VBReferenceIdeal.defs (F := Ideal)) (onTc (τ := Cert.VBReferenceIdeal.τ) (Cert.VBReferenceIdeal.main (F := Ideal))) ⟨m', fun _ => 0, g'⟩ (fun r => ∀ c : Dev Cert.VBReferenceIdeal.nD,
          r.2.mem ((c.tc : Thread Cert.VBReferenceIdeal.nD Cert.VBReferenceIdeal.τ).loc Cert.VBReferenceIdeal.main_v3) = v0 c
          ∧ r.2.mem ((c.tc : Thread Cert.VBReferenceIdeal.nD Cert.VBReferenceIdeal.τ).loc Cert.VBReferenceIdeal.main_arg0) = m' ((c.tc : Thread Cert.VBReferenceIdeal.nD Cert.VBReferenceIdeal.τ).loc Cert.VBReferenceIdeal.main_arg0)
          ∧ r.2.mem ((c.tc : Thread Cert.VBReferenceIdeal.nD Cert.VBReferenceIdeal.τ).loc Cert.VBReferenceIdeal.main_arg1) = m' ((c.tc : Thread Cert.VBReferenceIdeal.nD Cert.VBReferenceIdeal.τ).loc Cert.VBReferenceIdeal.main_arg1))

def preserves_VCKernel_VCKernelIdeal : Prop :=
  True

def algebraic_VCKernelIdeal_VCReferenceIdeal [hVCKernelIdeal : Cert.VCKernelIdeal.Facts] [hVCReferenceIdeal : Cert.VCReferenceIdeal.Facts] : Prop :=
  ∀ (m : (ℓ : Loc Cert.VCKernelIdeal.nD Cert.VCKernelIdeal.τ Cert.VCKernelIdeal.sig) → Buf (Elt Ideal) ℓ) (g : Dev Cert.VCKernelIdeal.nD → PrngReg)
    (m' : (ℓ : Loc Cert.VCReferenceIdeal.nD Cert.VCReferenceIdeal.τ Cert.VCReferenceIdeal.sig) → Buf (Elt Ideal) ℓ) (g' : Dev Cert.VCReferenceIdeal.nD → PrngReg), Pre_VCKernelIdeal m →
    (∀ c : Dev Cert.VCKernelIdeal.nD,
      m' ((c.tc : Thread Cert.VCReferenceIdeal.nD Cert.VCReferenceIdeal.τ).loc Cert.VCReferenceIdeal.main_arg0) = m ((c.tc : Thread Cert.VCKernelIdeal.nD Cert.VCKernelIdeal.τ).loc Cert.VCKernelIdeal.main_arg0)
      ∧ m' ((c.tc : Thread Cert.VCReferenceIdeal.nD Cert.VCReferenceIdeal.τ).loc Cert.VCReferenceIdeal.main_arg1) = m ((c.tc : Thread Cert.VCKernelIdeal.nD Cert.VCKernelIdeal.τ).loc Cert.VCKernelIdeal.main_arg1)) →
    ∃ (v0 : (c : Dev Cert.VCKernelIdeal.nD) → Buf (Elt Ideal) ((c.tc : Thread Cert.VCKernelIdeal.nD Cert.VCKernelIdeal.τ).loc Cert.VCKernelIdeal.main_v4)),
      θ_run (Cert.VCKernelIdeal.defs (F := Ideal)) (onTc (τ := Cert.VCKernelIdeal.τ) (Cert.VCKernelIdeal.main (F := Ideal))) ⟨m, fun _ => 0, g⟩ (fun r => ∀ c : Dev Cert.VCKernelIdeal.nD,
          r.2.mem ((c.tc : Thread Cert.VCKernelIdeal.nD Cert.VCKernelIdeal.τ).loc Cert.VCKernelIdeal.main_v4) = v0 c
          ∧ r.2.mem ((c.tc : Thread Cert.VCKernelIdeal.nD Cert.VCKernelIdeal.τ).loc Cert.VCKernelIdeal.main_arg0) = m ((c.tc : Thread Cert.VCKernelIdeal.nD Cert.VCKernelIdeal.τ).loc Cert.VCKernelIdeal.main_arg0)
          ∧ r.2.mem ((c.tc : Thread Cert.VCKernelIdeal.nD Cert.VCKernelIdeal.τ).loc Cert.VCKernelIdeal.main_arg1) = m ((c.tc : Thread Cert.VCKernelIdeal.nD Cert.VCKernelIdeal.τ).loc Cert.VCKernelIdeal.main_arg1))
      ∧ θ_run (Cert.VCReferenceIdeal.defs (F := Ideal)) (onTc (τ := Cert.VCReferenceIdeal.τ) (Cert.VCReferenceIdeal.main (F := Ideal))) ⟨m', fun _ => 0, g'⟩ (fun r => ∀ c : Dev Cert.VCReferenceIdeal.nD,
          r.2.mem ((c.tc : Thread Cert.VCReferenceIdeal.nD Cert.VCReferenceIdeal.τ).loc Cert.VCReferenceIdeal.main_v3) = v0 c
          ∧ r.2.mem ((c.tc : Thread Cert.VCReferenceIdeal.nD Cert.VCReferenceIdeal.τ).loc Cert.VCReferenceIdeal.main_arg0) = m' ((c.tc : Thread Cert.VCReferenceIdeal.nD Cert.VCReferenceIdeal.τ).loc Cert.VCReferenceIdeal.main_arg0)
          ∧ r.2.mem ((c.tc : Thread Cert.VCReferenceIdeal.nD Cert.VCReferenceIdeal.τ).loc Cert.VCReferenceIdeal.main_arg1) = m' ((c.tc : Thread Cert.VCReferenceIdeal.nD Cert.VCReferenceIdeal.τ).loc Cert.VCReferenceIdeal.main_arg1))

def preserves_CombineKernel_CombineKernelIdeal : Prop :=
  True

def algebraic_CombineKernelIdeal_CombineReferenceIdeal [hCombineKernelIdeal : Cert.CombineKernelIdeal.Facts] [hCombineReferenceIdeal : Cert.CombineReferenceIdeal.Facts] : Prop :=
  ∀ (m : (ℓ : Loc Cert.CombineKernelIdeal.nD Cert.CombineKernelIdeal.τ Cert.CombineKernelIdeal.sig) → Buf (Elt Ideal) ℓ) (g : Dev Cert.CombineKernelIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineKernelIdeal m →
    (∀ c : Dev Cert.CombineKernelIdeal.nD,
      m' ((c.tc : Thread Cert.CombineReferenceIdeal.nD Cert.CombineReferenceIdeal.τ).loc Cert.CombineReferenceIdeal.main_arg0) = m ((c.tc : Thread Cert.CombineKernelIdeal.nD Cert.CombineKernelIdeal.τ).loc Cert.CombineKernelIdeal.main_arg0)
      ∧ m' ((c.tc : Thread Cert.CombineReferenceIdeal.nD Cert.CombineReferenceIdeal.τ).loc Cert.CombineReferenceIdeal.main_arg1) = m ((c.tc : Thread Cert.CombineKernelIdeal.nD Cert.CombineKernelIdeal.τ).loc Cert.CombineKernelIdeal.main_arg1)
      ∧ m' ((c.tc : Thread Cert.CombineReferenceIdeal.nD Cert.CombineReferenceIdeal.τ).loc Cert.CombineReferenceIdeal.main_arg2) = m ((c.tc : Thread Cert.CombineKernelIdeal.nD Cert.CombineKernelIdeal.τ).loc Cert.CombineKernelIdeal.main_arg2)
      ∧ m' ((c.tc : Thread Cert.CombineReferenceIdeal.nD Cert.CombineReferenceIdeal.τ).loc Cert.CombineReferenceIdeal.main_arg3) = m ((c.tc : Thread Cert.CombineKernelIdeal.nD Cert.CombineKernelIdeal.τ).loc Cert.CombineKernelIdeal.main_arg3)
      ∧ m' ((c.tc : Thread Cert.CombineReferenceIdeal.nD Cert.CombineReferenceIdeal.τ).loc Cert.CombineReferenceIdeal.main_arg4) = m ((c.tc : Thread Cert.CombineKernelIdeal.nD Cert.CombineKernelIdeal.τ).loc Cert.CombineKernelIdeal.main_arg4)
      ∧ m' ((c.tc : Thread Cert.CombineReferenceIdeal.nD Cert.CombineReferenceIdeal.τ).loc Cert.CombineReferenceIdeal.main_arg5) = m ((c.tc : Thread Cert.CombineKernelIdeal.nD Cert.CombineKernelIdeal.τ).loc Cert.CombineKernelIdeal.main_arg5)) →
    ∃ (v0 : (c : Dev Cert.CombineKernelIdeal.nD) → Buf (Elt Ideal) ((c.tc : Thread Cert.CombineKernelIdeal.nD Cert.CombineKernelIdeal.τ).loc Cert.CombineKernelIdeal.main_v2_0)) (v1 : (c : Dev Cert.CombineKernelIdeal.nD) → Buf (Elt Ideal) ((c.tc : Thread Cert.CombineKernelIdeal.nD Cert.CombineKernelIdeal.τ).loc Cert.CombineKernelIdeal.main_v2_1)),
      θ_run (Cert.CombineKernelIdeal.defs (F := Ideal)) (onTc (τ := Cert.CombineKernelIdeal.τ) (Cert.CombineKernelIdeal.main (F := Ideal))) ⟨m, fun _ => 0, g⟩ (fun r => ∀ c : Dev Cert.CombineKernelIdeal.nD,
          r.2.mem ((c.tc : Thread Cert.CombineKernelIdeal.nD Cert.CombineKernelIdeal.τ).loc Cert.CombineKernelIdeal.main_v2_0) = v0 c
          ∧ r.2.mem ((c.tc : Thread Cert.CombineKernelIdeal.nD Cert.CombineKernelIdeal.τ).loc Cert.CombineKernelIdeal.main_v2_1) = v1 c
          ∧ r.2.mem ((c.tc : Thread Cert.CombineKernelIdeal.nD Cert.CombineKernelIdeal.τ).loc Cert.CombineKernelIdeal.main_arg0) = m ((c.tc : Thread Cert.CombineKernelIdeal.nD Cert.CombineKernelIdeal.τ).loc Cert.CombineKernelIdeal.main_arg0)
          ∧ r.2.mem ((c.tc : Thread Cert.CombineKernelIdeal.nD Cert.CombineKernelIdeal.τ).loc Cert.CombineKernelIdeal.main_arg1) = m ((c.tc : Thread Cert.CombineKernelIdeal.nD Cert.CombineKernelIdeal.τ).loc Cert.CombineKernelIdeal.main_arg1)
          ∧ r.2.mem ((c.tc : Thread Cert.CombineKernelIdeal.nD Cert.CombineKernelIdeal.τ).loc Cert.CombineKernelIdeal.main_arg2) = m ((c.tc : Thread Cert.CombineKernelIdeal.nD Cert.CombineKernelIdeal.τ).loc Cert.CombineKernelIdeal.main_arg2)
          ∧ r.2.mem ((c.tc : Thread Cert.CombineKernelIdeal.nD Cert.CombineKernelIdeal.τ).loc Cert.CombineKernelIdeal.main_arg3) = m ((c.tc : Thread Cert.CombineKernelIdeal.nD Cert.CombineKernelIdeal.τ).loc Cert.CombineKernelIdeal.main_arg3)
          ∧ r.2.mem ((c.tc : Thread Cert.CombineKernelIdeal.nD Cert.CombineKernelIdeal.τ).loc Cert.CombineKernelIdeal.main_arg4) = m ((c.tc : Thread Cert.CombineKernelIdeal.nD Cert.CombineKernelIdeal.τ).loc Cert.CombineKernelIdeal.main_arg4)
          ∧ r.2.mem ((c.tc : Thread Cert.CombineKernelIdeal.nD Cert.CombineKernelIdeal.τ).loc Cert.CombineKernelIdeal.main_arg5) = m ((c.tc : Thread Cert.CombineKernelIdeal.nD Cert.CombineKernelIdeal.τ).loc Cert.CombineKernelIdeal.main_arg5))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v40) = v0 c
          ∧ r.2.mem ((c.tc : Thread Cert.CombineReferenceIdeal.nD Cert.CombineReferenceIdeal.τ).loc Cert.CombineReferenceIdeal.main_v41) = v1 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5))

def preserves_GatherKernel_GatherKernelIdeal : Prop :=
  True

def algebraic_GatherKernelIdeal_GatherReferenceIdeal [hGatherKernelIdeal : Cert.GatherKernelIdeal.Facts] [hGatherReferenceIdeal : Cert.GatherReferenceIdeal.Facts] : Prop :=
  ∀ (m : (ℓ : Loc Cert.GatherKernelIdeal.nD Cert.GatherKernelIdeal.τ Cert.GatherKernelIdeal.sig) → Buf (Elt Ideal) ℓ) (g : Dev Cert.GatherKernelIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherKernelIdeal m →
    (∀ c : Dev Cert.GatherKernelIdeal.nD,
      m' ((c.tc : Thread Cert.GatherReferenceIdeal.nD Cert.GatherReferenceIdeal.τ).loc Cert.GatherReferenceIdeal.main_arg0) = m ((c.tc : Thread Cert.GatherKernelIdeal.nD Cert.GatherKernelIdeal.τ).loc Cert.GatherKernelIdeal.main_arg0)
      ∧ m' ((c.tc : Thread Cert.GatherReferenceIdeal.nD Cert.GatherReferenceIdeal.τ).loc Cert.GatherReferenceIdeal.main_arg1) = m ((c.tc : Thread Cert.GatherKernelIdeal.nD Cert.GatherKernelIdeal.τ).loc Cert.GatherKernelIdeal.main_arg1)) →
    ∃ (v0 : (c : Dev Cert.GatherKernelIdeal.nD) → Buf (Elt Ideal) ((c.tc : Thread Cert.GatherKernelIdeal.nD Cert.GatherKernelIdeal.τ).loc Cert.GatherKernelIdeal.main_v0)),
      θ_run (Cert.GatherKernelIdeal.defs (F := Ideal)) (onTc (τ := Cert.GatherKernelIdeal.τ) (Cert.GatherKernelIdeal.main (F := Ideal))) ⟨m, fun _ => 0, g⟩ (fun r => ∀ c : Dev Cert.GatherKernelIdeal.nD,
          r.2.mem ((c.tc : Thread Cert.GatherKernelIdeal.nD Cert.GatherKernelIdeal.τ).loc Cert.GatherKernelIdeal.main_v0) = v0 c
          ∧ r.2.mem ((c.tc : Thread Cert.GatherKernelIdeal.nD Cert.GatherKernelIdeal.τ).loc Cert.GatherKernelIdeal.main_arg0) = m ((c.tc : Thread Cert.GatherKernelIdeal.nD Cert.GatherKernelIdeal.τ).loc Cert.GatherKernelIdeal.main_arg0)
          ∧ r.2.mem ((c.tc : Thread Cert.GatherKernelIdeal.nD Cert.GatherKernelIdeal.τ).loc Cert.GatherKernelIdeal.main_arg1) = m ((c.tc : Thread Cert.GatherKernelIdeal.nD Cert.GatherKernelIdeal.τ).loc Cert.GatherKernelIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v12) = v0 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)) →
    ∃ (v0 : (c : Dev Cert.MixKernelIdeal.nD) → Buf (Elt Ideal) ((c.tc : Thread Cert.MixKernelIdeal.nD Cert.MixKernelIdeal.τ).loc Cert.MixKernelIdeal.main_v0)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v0) = v0 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v30) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5))

def preserves_WinCKernel_WinCKernelIdeal : Prop :=
  IdealRules.named_const.Statement Cert.WinCKernelIdeal.κ "mask" .f32 0xF149F2CA#32 ⊥

def algebraic_WinCKernelIdeal_WinCReferenceIdeal [hWinCKernelIdeal : Cert.WinCKernelIdeal.Facts] [hWinCReferenceIdeal : Cert.WinCReferenceIdeal.Facts] : Prop :=
  ∀ (m : (ℓ : Loc Cert.WinCKernelIdeal.nD Cert.WinCKernelIdeal.τ Cert.WinCKernelIdeal.sig) → Buf (Elt Ideal) ℓ) (g : Dev Cert.WinCKernelIdeal.nD → PrngReg)
    (m' : (ℓ : Loc Cert.WinCReferenceIdeal.nD Cert.WinCReferenceIdeal.τ Cert.WinCReferenceIdeal.sig) → Buf (Elt Ideal) ℓ) (g' : Dev Cert.WinCReferenceIdeal.nD → PrngReg), Pre_WinCKernelIdeal m →
    (∀ c : Dev Cert.WinCKernelIdeal.nD,
      m' ((c.tc : Thread Cert.WinCReferenceIdeal.nD Cert.WinCReferenceIdeal.τ).loc Cert.WinCReferenceIdeal.main_arg0) = m ((c.tc : Thread Cert.WinCKernelIdeal.nD Cert.WinCKernelIdeal.τ).loc Cert.WinCKernelIdeal.main_arg0)
      ∧ m' ((c.tc : Thread Cert.WinCReferenceIdeal.nD Cert.WinCReferenceIdeal.τ).loc Cert.WinCReferenceIdeal.main_arg1) = m ((c.tc : Thread Cert.WinCKernelIdeal.nD Cert.WinCKernelIdeal.τ).loc Cert.WinCKernelIdeal.main_arg1)
      ∧ m' ((c.tc : Thread Cert.WinCReferenceIdeal.nD Cert.WinCReferenceIdeal.τ).loc Cert.WinCReferenceIdeal.main_arg2) = m ((c.tc : Thread Cert.WinCKernelIdeal.nD Cert.WinCKernelIdeal.τ).loc Cert.WinCKernelIdeal.main_arg2)) →
    ∃ (v0 : (c : Dev Cert.WinCKernelIdeal.nD) → Buf (Elt Ideal) ((c.tc : Thread Cert.WinCKernelIdeal.nD Cert.WinCKernelIdeal.τ).loc Cert.WinCKernelIdeal.main_v0)),
      θ_run (Cert.WinCKernelIdeal.defs (F := Ideal)) (onTc (τ := Cert.WinCKernelIdeal.τ) (Cert.WinCKernelIdeal.main (F := Ideal))) ⟨m, fun _ => 0, g⟩ (fun r => ∀ c : Dev Cert.WinCKernelIdeal.nD,
          r.2.mem ((c.tc : Thread Cert.WinCKernelIdeal.nD Cert.WinCKernelIdeal.τ).loc Cert.WinCKernelIdeal.main_v0) = v0 c
          ∧ r.2.mem ((c.tc : Thread Cert.WinCKernelIdeal.nD Cert.WinCKernelIdeal.τ).loc Cert.WinCKernelIdeal.main_arg0) = m ((c.tc : Thread Cert.WinCKernelIdeal.nD Cert.WinCKernelIdeal.τ).loc Cert.WinCKernelIdeal.main_arg0)
          ∧ r.2.mem ((c.tc : Thread Cert.WinCKernelIdeal.nD Cert.WinCKernelIdeal.τ).loc Cert.WinCKernelIdeal.main_arg1) = m ((c.tc : Thread Cert.WinCKernelIdeal.nD Cert.WinCKernelIdeal.τ).loc Cert.WinCKernelIdeal.main_arg1)
          ∧ r.2.mem ((c.tc : Thread Cert.WinCKernelIdeal.nD Cert.WinCKernelIdeal.τ).loc Cert.WinCKernelIdeal.main_arg2) = m ((c.tc : Thread Cert.WinCKernelIdeal.nD Cert.WinCKernelIdeal.τ).loc Cert.WinCKernelIdeal.main_arg2))
      ∧ θ_run (Cert.WinCReferenceIdeal.defs (F := Ideal)) (onTc (τ := Cert.WinCReferenceIdeal.τ) (Cert.WinCReferenceIdeal.main (F := Ideal))) ⟨m', fun _ => 0, g'⟩ (fun r => ∀ c : Dev Cert.WinCReferenceIdeal.nD,
          r.2.mem ((c.tc : Thread Cert.WinCReferenceIdeal.nD Cert.WinCReferenceIdeal.τ).loc Cert.WinCReferenceIdeal.main_v42) = v0 c
          ∧ r.2.mem ((c.tc : Thread Cert.WinCReferenceIdeal.nD Cert.WinCReferenceIdeal.τ).loc Cert.WinCReferenceIdeal.main_arg0) = m' ((c.tc : Thread Cert.WinCReferenceIdeal.nD Cert.WinCReferenceIdeal.τ).loc Cert.WinCReferenceIdeal.main_arg0)
          ∧ r.2.mem ((c.tc : Thread Cert.WinCReferenceIdeal.nD Cert.WinCReferenceIdeal.τ).loc Cert.WinCReferenceIdeal.main_arg1) = m' ((c.tc : Thread Cert.WinCReferenceIdeal.nD Cert.WinCReferenceIdeal.τ).loc Cert.WinCReferenceIdeal.main_arg1)
          ∧ r.2.mem ((c.tc : Thread Cert.WinCReferenceIdeal.nD Cert.WinCReferenceIdeal.τ).loc Cert.WinCReferenceIdeal.main_arg2) = m' ((c.tc : Thread Cert.WinCReferenceIdeal.nD Cert.WinCReferenceIdeal.τ).loc Cert.WinCReferenceIdeal.main_arg2))

def Claim : Prop :=
  ∃ (hDiffKernel : Cert.DiffKernel.Facts) (hDiffKernelIdeal : Cert.DiffKernelIdeal.Facts) (hDiffReferenceIdeal : Cert.DiffReferenceIdeal.Facts) (hGateKernel : Cert.GateKernel.Facts) (hGateKernelIdeal : Cert.GateKernelIdeal.Facts) (hGateReferenceIdeal : Cert.GateReferenceIdeal.Facts) (hExpertKernel : Cert.ExpertKernel.Facts) (hExpertKernelIdeal : Cert.ExpertKernelIdeal.Facts) (hExpertReferenceIdeal : Cert.ExpertReferenceIdeal.Facts) (hQkAKernel : Cert.QkAKernel.Facts) (hQkAKernelIdeal : Cert.QkAKernelIdeal.Facts) (hQkAReferenceIdeal : Cert.QkAReferenceIdeal.Facts) (hMergeKernel : Cert.MergeKernel.Facts) (hMergeKernelIdeal : Cert.MergeKernelIdeal.Facts) (hMergeReferenceIdeal : Cert.MergeReferenceIdeal.Facts) (hQkvDKernel : Cert.QkvDKernel.Facts) (hQkvDKernelIdeal : Cert.QkvDKernelIdeal.Facts) (hQkvDReferenceIdeal : Cert.QkvDReferenceIdeal.Facts) (hVAKernel : Cert.VAKernel.Facts) (hVAKernelIdeal : Cert.VAKernelIdeal.Facts) (hVAReferenceIdeal : Cert.VAReferenceIdeal.Facts) (hQkBKernel : Cert.QkBKernel.Facts) (hQkBKernelIdeal : Cert.QkBKernelIdeal.Facts) (hQkBReferenceIdeal : Cert.QkBReferenceIdeal.Facts) (hOutKernel : Cert.OutKernel.Facts) (hOutKernelIdeal : Cert.OutKernelIdeal.Facts) (hOutReferenceIdeal : Cert.OutReferenceIdeal.Facts) (hQkCKernel : Cert.QkCKernel.Facts) (hQkCKernelIdeal : Cert.QkCKernelIdeal.Facts) (hQkCReferenceIdeal : Cert.QkCReferenceIdeal.Facts) (hVBKernel : Cert.VBKernel.Facts) (hVBKernelIdeal : Cert.VBKernelIdeal.Facts) (hVBReferenceIdeal : Cert.VBReferenceIdeal.Facts) (hVCKernel : Cert.VCKernel.Facts) (hVCKernelIdeal : Cert.VCKernelIdeal.Facts) (hVCReferenceIdeal : Cert.VCReferenceIdeal.Facts) (hCombineKernel : Cert.CombineKernel.Facts) (hCombineKernelIdeal : Cert.CombineKernelIdeal.Facts) (hCombineReferenceIdeal : Cert.CombineReferenceIdeal.Facts) (hGatherKernel : Cert.GatherKernel.Facts) (hGatherKernelIdeal : Cert.GatherKernelIdeal.Facts) (hGatherReferenceIdeal : Cert.GatherReferenceIdeal.Facts) (hMixKernel : Cert.MixKernel.Facts) (hMixKernelIdeal : Cert.MixKernelIdeal.Facts) (hMixReferenceIdeal : Cert.MixReferenceIdeal.Facts) (hWinCKernel : Cert.WinCKernel.Facts) (hWinCKernelIdeal : Cert.WinCKernelIdeal.Facts) (hWinCReferenceIdeal : Cert.WinCReferenceIdeal.Facts),
    quiescent_DiffKernel (hDiffKernel := hDiffKernel)
    ∧ quiescent_DiffKernelIdeal (hDiffKernelIdeal := hDiffKernelIdeal)
    ∧ quiescent_DiffReferenceIdeal (hDiffReferenceIdeal := hDiffReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_ExpertKernel (hExpertKernel := hExpertKernel)
    ∧ quiescent_ExpertKernelIdeal (hExpertKernelIdeal := hExpertKernelIdeal)
    ∧ quiescent_ExpertReferenceIdeal (hExpertReferenceIdeal := hExpertReferenceIdeal)
    ∧ quiescent_QkAKernel (hQkAKernel := hQkAKernel)
    ∧ quiescent_QkAKernelIdeal (hQkAKernelIdeal := hQkAKernelIdeal)
    ∧ quiescent_QkAReferenceIdeal (hQkAReferenceIdeal := hQkAReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_QkvDKernel (hQkvDKernel := hQkvDKernel)
    ∧ quiescent_QkvDKernelIdeal (hQkvDKernelIdeal := hQkvDKernelIdeal)
    ∧ quiescent_QkvDReferenceIdeal (hQkvDReferenceIdeal := hQkvDReferenceIdeal)
    ∧ quiescent_VAKernel (hVAKernel := hVAKernel)
    ∧ quiescent_VAKernelIdeal (hVAKernelIdeal := hVAKernelIdeal)
    ∧ quiescent_VAReferenceIdeal (hVAReferenceIdeal := hVAReferenceIdeal)
    ∧ quiescent_QkBKernel (hQkBKernel := hQkBKernel)
    ∧ quiescent_QkBKernelIdeal (hQkBKernelIdeal := hQkBKernelIdeal)
    ∧ quiescent_QkBReferenceIdeal (hQkBReferenceIdeal := hQkBReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_QkCKernel (hQkCKernel := hQkCKernel)
    ∧ quiescent_QkCKernelIdeal (hQkCKernelIdeal := hQkCKernelIdeal)
    ∧ quiescent_QkCReferenceIdeal (hQkCReferenceIdeal := hQkCReferenceIdeal)
    ∧ quiescent_VBKernel (hVBKernel := hVBKernel)
    ∧ quiescent_VBKernelIdeal (hVBKernelIdeal := hVBKernelIdeal)
    ∧ quiescent_VBReferenceIdeal (hVBReferenceIdeal := hVBReferenceIdeal)
    ∧ quiescent_VCKernel (hVCKernel := hVCKernel)
    ∧ quiescent_VCKernelIdeal (hVCKernelIdeal := hVCKernelIdeal)
    ∧ quiescent_VCReferenceIdeal (hVCReferenceIdeal := hVCReferenceIdeal)
    ∧ quiescent_CombineKernel (hCombineKernel := hCombineKernel)
    ∧ quiescent_CombineKernelIdeal (hCombineKernelIdeal := hCombineKernelIdeal)
    ∧ quiescent_CombineReferenceIdeal (hCombineReferenceIdeal := hCombineReferenceIdeal)
    ∧ quiescent_GatherKernel (hGatherKernel := hGatherKernel)
    ∧ quiescent_GatherKernelIdeal (hGatherKernelIdeal := hGatherKernelIdeal)
    ∧ quiescent_GatherReferenceIdeal (hGatherReferenceIdeal := hGatherReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_WinCKernel (hWinCKernel := hWinCKernel)
    ∧ quiescent_WinCKernelIdeal (hWinCKernelIdeal := hWinCKernelIdeal)
    ∧ quiescent_WinCReferenceIdeal (hWinCReferenceIdeal := hWinCReferenceIdeal)
    ∧ preserves_DiffKernel_DiffKernelIdeal
    ∧ algebraic_DiffKernelIdeal_DiffReferenceIdeal (hDiffKernelIdeal := hDiffKernelIdeal) (hDiffReferenceIdeal := hDiffReferenceIdeal)
    ∧ preserves_GateKernel_GateKernelIdeal
    ∧ algebraic_GateKernelIdeal_GateReferenceIdeal (hGateKernelIdeal := hGateKernelIdeal) (hGateReferenceIdeal := hGateReferenceIdeal)
    ∧ preserves_ExpertKernel_ExpertKernelIdeal
    ∧ algebraic_ExpertKernelIdeal_ExpertReferenceIdeal (hExpertKernelIdeal := hExpertKernelIdeal) (hExpertReferenceIdeal := hExpertReferenceIdeal)
    ∧ preserves_QkAKernel_QkAKernelIdeal
    ∧ algebraic_QkAKernelIdeal_QkAReferenceIdeal (hQkAKernelIdeal := hQkAKernelIdeal) (hQkAReferenceIdeal := hQkAReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_QkvDKernel_QkvDKernelIdeal
    ∧ algebraic_QkvDKernelIdeal_QkvDReferenceIdeal (hQkvDKernelIdeal := hQkvDKernelIdeal) (hQkvDReferenceIdeal := hQkvDReferenceIdeal)
    ∧ preserves_VAKernel_VAKernelIdeal
    ∧ algebraic_VAKernelIdeal_VAReferenceIdeal (hVAKernelIdeal := hVAKernelIdeal) (hVAReferenceIdeal := hVAReferenceIdeal)
    ∧ preserves_QkBKernel_QkBKernelIdeal
    ∧ algebraic_QkBKernelIdeal_QkBReferenceIdeal (hQkBKernelIdeal := hQkBKernelIdeal) (hQkBReferenceIdeal := hQkBReferenceIdeal)
    ∧ preserves_OutKernel_OutKernelIdeal
    ∧ algebraic_OutKernelIdeal_OutReferenceIdeal (hOutKernelIdeal := hOutKernelIdeal) (hOutReferenceIdeal := hOutReferenceIdeal)
    ∧ preserves_QkCKernel_QkCKernelIdeal
    ∧ algebraic_QkCKernelIdeal_QkCReferenceIdeal (hQkCKernelIdeal := hQkCKernelIdeal) (hQkCReferenceIdeal := hQkCReferenceIdeal)
    ∧ preserves_VBKernel_VBKernelIdeal
    ∧ algebraic_VBKernelIdeal_VBReferenceIdeal (hVBKernelIdeal := hVBKernelIdeal) (hVBReferenceIdeal := hVBReferenceIdeal)
    ∧ preserves_VCKernel_VCKernelIdeal
    ∧ algebraic_VCKernelIdeal_VCReferenceIdeal (hVCKernelIdeal := hVCKernelIdeal) (hVCReferenceIdeal := hVCReferenceIdeal)
    ∧ preserves_CombineKernel_CombineKernelIdeal
    ∧ algebraic_CombineKernelIdeal_CombineReferenceIdeal (hCombineKernelIdeal := hCombineKernelIdeal) (hCombineReferenceIdeal := hCombineReferenceIdeal)
    ∧ preserves_GatherKernel_GatherKernelIdeal
    ∧ algebraic_GatherKernelIdeal_GatherReferenceIdeal (hGatherKernelIdeal := hGatherKernelIdeal) (hGatherReferenceIdeal := hGatherReferenceIdeal)
    ∧ preserves_MixKernel_MixKernelIdeal
    ∧ algebraic_MixKernelIdeal_MixReferenceIdeal (hMixKernelIdeal := hMixKernelIdeal) (hMixReferenceIdeal := hMixReferenceIdeal)
    ∧ preserves_WinCKernel_WinCKernelIdeal
    ∧ algebraic_WinCKernelIdeal_WinCReferenceIdeal (hWinCKernelIdeal := hWinCKernelIdeal) (hWinCReferenceIdeal := hWinCReferenceIdeal)
-- ==== DiffKernel.lean ====
abbrev S4x4096x2048 : Shape := ⟨3, ![4, 4096, 2048]⟩
abbrev S4x4096x1024 : Shape := ⟨3, ![4, 4096, 1024]⟩
abbrev S4x64 : Shape := ⟨2, ![4, 64]⟩
abbrev S128 : Shape := ⟨1, ![128]⟩
abbrev S1x128 : Shape := ⟨2, ![1, 128]⟩
abbrev S1x256x128 : Shape := ⟨3, ![1, 256, 128]⟩
abbrev S1x4096x128 : Shape := ⟨3, ![1, 4096, 128]⟩
abbrev S1x64 : Shape := ⟨2, ![1, 64]⟩
abbrev S1 : Shape := ⟨1, ![1]⟩
abbrev S1x1 : Shape := ⟨2, ![1, 1]⟩
abbrev S256x128 : Shape := ⟨2, ![256, 128]⟩
abbrev S4096x128 : Shape := ⟨2, ![4096, 128]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x1024, .bf16⟩
  | .hbm, ⟨2, _⟩ => ⟨S4x64, .f32⟩
  | .hbm, ⟨3, _⟩ => ⟨S128, .f32⟩
  | .hbm, ⟨4, _⟩ => ⟨S1x128, .f32⟩
  | .hbm, ⟨5, _⟩ => ⟨S4x4096x1024, .bf16⟩
  | .local _ .vmem, ⟨0, _⟩ => ⟨S4x64, .f32⟩
  | .local _ .vmem, ⟨1, _⟩ => ⟨S1x128, .f32⟩
  | .local _ .vmem, ⟨2, _⟩ => ⟨S1x256x128, .bf16⟩
  | .local _ .vmem, ⟨3, _⟩ => ⟨S1x256x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x256x128, .bf16⟩
  | .local _ .vmem, ⟨9, _⟩ => ⟨S1x256x128, .bf16⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DiffReferenceIdeal.lean ====
abbrev S4x4096x2048 : Shape := ⟨3, ![4, 4096, 2048]⟩
abbrev S4x4096x1024 : Shape := ⟨3, ![4, 4096, 1024]⟩
abbrev S4x64 : Shape := ⟨2, ![4, 64]⟩
abbrev S128 : Shape := ⟨1, ![128]⟩
abbrev S4x4096x8x2x64 : Shape := ⟨5, ![4, 4096, 8, 2, 64]⟩
abbrev S4x4096x8x128 : Shape := ⟨4, ![4, 4096, 8, 128]⟩
abbrev S1x64 : Shape := ⟨2, ![1, 64]⟩
abbrev S64 : Shape := ⟨1, ![64]⟩
abbrev S_ : Shape := ⟨0, ![]⟩
abbrev S4x8x2x4096x4096 : Shape := ⟨5, ![4, 8, 2, 4096, 4096]⟩
abbrev S4x8x2x4096 : Shape := ⟨4, ![4, 8, 2, 4096]⟩
abbrev S4x8x2x4096x1 : Shape := ⟨5, ![4, 8, 2, 4096, 1]⟩
abbrev S4x8x1x4096x4096 : Shape := ⟨5, ![4, 8, 1, 4096, 4096]⟩
abbrev S4x8x4096x4096 : Shape := ⟨4, ![4, 8, 4096, 4096]⟩
abbrev S4x8x128x4096 : Shape := ⟨4, ![4, 8, 128, 4096]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩

abbrev nBuf : Space → Nat
  | .hbm => 78
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x1024, .bf16⟩
  | .hbm, ⟨2, _⟩ => ⟨S4x64, .f32⟩
  | .hbm, ⟨3, _⟩ => ⟨S128, .f32⟩
  | .hbm, ⟨4, _⟩ => ⟨S4x4096x2048, .f32⟩
  | .hbm, ⟨5, _⟩ => ⟨S4x4096x1024, .f32⟩
  | .hbm, ⟨6, _⟩ => ⟨S4x4096x8x2x64, .f32⟩
  | .hbm, ⟨7, _⟩ => ⟨S4x4096x1024, .f32⟩
  | .hbm, ⟨8, _⟩ => ⟨S4x4096x8x2x64, .f32⟩
  | .hbm, ⟨9, _⟩ => ⟨S4x4096x1024, .f32⟩
  | .hbm, ⟨10, _⟩ => ⟨S4x4096x8x128, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4x8x2x4096x4096, .f32⟩
  | .hbm, ⟨31, _⟩ => ⟨S_, .f32⟩
  | .hbm, ⟨32, _⟩ => ⟨S4x8x2x4096x4096, .f32⟩
  | .hbm, ⟨33, _⟩ => ⟨S4x8x2x4096x4096, .f32⟩
  | .hbm, ⟨34, _⟩ => ⟨S_, .f32⟩
  | .hbm, ⟨35, _⟩ => ⟨S4x8x2x4096, .f32⟩
  | .hbm, ⟨36, _⟩ => ⟨S_, .f32⟩
  | .hbm, ⟨37, _⟩ => ⟨S4x8x2x4096, .f32⟩
  | .hbm, ⟨38, _⟩ => ⟨S4x8x2x4096, .f32⟩
  | .hbm, ⟨39, _⟩ => ⟨S4x8x2x4096x1, .f32⟩
  | .hbm, ⟨40, _⟩ => ⟨S4x8x2x4096x4096, .f32⟩
  | .hbm, ⟨41, _⟩ => ⟨S4x8x2x4096x4096, .f32⟩
  | .hbm, ⟨42, _⟩ => ⟨S4x8x2x4096x4096, .f32⟩
  | .hbm, ⟨43, _⟩ => ⟨S_, .f32⟩
  | .hbm, ⟨44, _⟩ => ⟨S4x8x2x4096, .f32⟩
  | .hbm, ⟨45, _⟩ => ⟨S4x8x2x4096x1, .f32⟩
  | .hbm, ⟨46, _⟩ => ⟨S4x8x2x4096x4096, .f32⟩
  | .hbm, ⟨47, _⟩ => ⟨S4x8x2x4096x4096, .f32⟩
  | .hbm, ⟨48, _⟩ => ⟨S4x8x1x4096x4096, .f32⟩
  | .hbm, ⟨49, _⟩ => ⟨S4x8x4096x4096, .f32⟩
  | .hbm, ⟨50, _⟩ => ⟨S4x8x1x4096x4096, .f32⟩
  | .hbm, ⟨51, _⟩ => ⟨S4x8x4096x4096, .f32⟩
  | .hbm, ⟨52, _⟩ => ⟨S4x8x4096x4096, .f32⟩
  | .hbm, ⟨53, _⟩ => ⟨S4x8x4096x4096, .f32⟩
  | .hbm, ⟨54, _⟩ => ⟨S4x8x4096x4096, .f32⟩
  | .hbm, ⟨55, _⟩ => ⟨S4x8x128x4096, .f32⟩
  | .hbm, ⟨56, _⟩ => ⟨S4x4096x8x128, .f32⟩
  | .hbm, ⟨57, _⟩ => ⟨S4x4096x8x128, .f32⟩
  | .hbm, ⟨58, _⟩ => ⟨S_, .f32⟩
  | .hbm, ⟨59, _⟩ => ⟨S4x4096x8, .f32⟩
  | .hbm, ⟨60, _⟩ => ⟨S4x4096x8x1, .f32⟩
  | .hbm, ⟨61, _⟩ => ⟨S_, .f32⟩
  | .hbm, ⟨62, _⟩ => ⟨S4x4096x8x1, .f32⟩
  | .hbm, ⟨63, _⟩ => ⟨S4x4096x8x1, .f32⟩
  | .hbm, ⟨64, _⟩ => ⟨S_, .f32⟩
  | .hbm, ⟨65, _⟩ => ⟨S4x4096x8x1, .f32⟩
  | .hbm, ⟨66, _⟩ => ⟨S4x4096x8x1, .f32⟩
  | .hbm, ⟨67, _⟩ => ⟨S4x4096x8x1, .f32⟩
  | .hbm, ⟨68, _⟩ => ⟨S4x4096x8x128, .f32⟩
  | .hbm, ⟨69, _⟩ => ⟨S4x4096x8x128, .f32⟩
  | .hbm, ⟨70, _⟩ => ⟨S1x1x1x128, .f32⟩
  | .hbm, ⟨71, _⟩ => ⟨S4x4096x8x128, .f32⟩
  | .hbm, ⟨72, _⟩ => ⟨S4x4096x8x128, .f32⟩
  | .hbm, ⟨73, _⟩ => ⟨S_, .f32⟩
  | .hbm, ⟨74, _⟩ => ⟨S4x4096x8x128, .f32⟩
  | .hbm, ⟨75, _⟩ => ⟨S4x4096x8x128, .f32⟩
  | .hbm, ⟨76, _⟩ => ⟨S4x4096x8x128, .bf16⟩
  | .hbm, ⟨77, _⟩ => ⟨S4x4096x1024, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_9 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩

abbrev nD : Nat := 1
abbrev τ : Topo := Topo.v7x

variable {F : FTy → Type} [FloatOps F]
-- ==== GateKernel.lean ====
abbrev S4x4096x2048 : Shape := ⟨3, ![4, 4096, 2048]⟩
abbrev S2048x22784 : Shape := ⟨2, ![2048, 22784]⟩
abbrev S8192 : Shape := ⟨1, ![8192]⟩
abbrev S16384x2048 : Shape := ⟨2, ![16384, 2048]⟩
abbrev S2048x8192 : Shape := ⟨2, ![2048, 8192]⟩
abbrev S1x8192 : Shape := ⟨2, ![1, 8192]⟩
abbrev S16384x8192 : Shape := ⟨2, ![16384, 8192]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S2048x22784, .f32⟩
  | .hbm, ⟨2, _⟩ => ⟨S8192, .f32⟩
  | .hbm, ⟨3, _⟩ => ⟨S16384x2048, .f32⟩
  | .hbm, ⟨4, _⟩ => ⟨S16384x2048, .bf16⟩
  | .hbm, ⟨5, _⟩ => ⟨S2048x8192, .f32⟩
  | .hbm, ⟨6, _⟩ => ⟨S2048x8192, .bf16⟩
  | .hbm, ⟨7, _⟩ => ⟨S1x8192, .f32⟩
  | .hbm, ⟨8, _⟩ => ⟨S16384x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateReferenceIdeal.lean ====
abbrev S4x4096x2048 : Shape := ⟨3, ![4, 4096, 2048]⟩
abbrev S2048x22784 : Shape := ⟨2, ![2048, 22784]⟩
abbrev S8192 : Shape := ⟨1, ![8192]⟩
abbrev S4x4096x22784 : Shape := ⟨3, ![4, 4096, 22784]⟩
abbrev S4x4096x8192 : Shape := ⟨3, ![4, 4096, 8192]⟩
abbrev S1x1x8192 : Shape := ⟨3, ![1, 1, 8192]⟩
abbrev S_ : Shape := ⟨0, ![]⟩
abbrev S16384x8192 : Shape := ⟨2, ![16384, 8192]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x22784, .f32⟩
  | .hbm, ⟨2, _⟩ => ⟨S8192, .f32⟩
  | .hbm, ⟨3, _⟩ => ⟨S4x4096x22784, .f32⟩
  | .hbm, ⟨4, _⟩ => ⟨S4x4096x8192, .f32⟩
  | .hbm, ⟨5, _⟩ => ⟨S1x1x8192, .f32⟩
  | .hbm, ⟨6, _⟩ => ⟨S4x4096x8192, .f32⟩
  | .hbm, ⟨7, _⟩ => ⟨S4x4096x8192, .f32⟩
  | .hbm, ⟨8, _⟩ => ⟨S4x4096x8192, .f32⟩
  | .hbm, ⟨9, _⟩ => ⟨S4x4096x8192, .f32⟩
  | .hbm, ⟨10, _⟩ => ⟨S_, .f32⟩
  | .hbm, ⟨11, _⟩ => ⟨S4x4096x8192, .f32⟩
  | .hbm, ⟨12, _⟩ => ⟨S4x4096x8192, .f32⟩
  | .hbm, ⟨13, _⟩ => ⟨S_, .f32⟩
  | .hbm, ⟨14, _⟩ => ⟨S4x4096x8192, .f32⟩
  | .hbm, ⟨15, _⟩ => ⟨S4x4096x8192, .f32⟩
  | .hbm, ⟨16, _⟩ => ⟨S4x4096x8192, .bf16⟩
  | .hbm, ⟨17, _⟩ => ⟨S16384x8192, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ExpertKernel.lean ====
abbrev S16x2048x2048 : Shape := ⟨3, ![16, 2048, 2048]⟩
abbrev S16x2048x1024 : Shape := ⟨3, ![16, 2048, 1024]⟩
abbrev S16x1024x2048 : Shape := ⟨3, ![16, 1024, 2048]⟩
abbrev S1x512x2048 : Shape := ⟨3, ![1, 512, 2048]⟩
abbrev S1x2048x1024 : Shape := ⟨3, ![1, 2048, 1024]⟩
abbrev S1x1024x2048 : Shape := ⟨3, ![1, 1024, 2048]⟩
abbrev S512x2048 : Shape := ⟨2, ![512, 2048]⟩
abbrev S2048x1024 : Shape := ⟨2, ![2048, 1024]⟩
abbrev S512x1024 : Shape := ⟨2, ![512, 1024]⟩
abbrev S1024x2048 : Shape := ⟨2, ![1024, 2048]⟩

abbrev nBuf : Space → Nat
  | .hbm => 8
  | .vmem => 10
  | .smem => 0
  | _ => 0

abbrev bufTy : (tb : Table) → Fin (tcTables nBuf tb) → BufTy
  | .hbm, ⟨0, _⟩ => ⟨S16x2048x2048, .bf16⟩
  | .hbm, ⟨1, _⟩ => ⟨S16x2048x1024, .f32⟩
  | .hbm, ⟨2, _⟩ => ⟨S16x2048x1024, .f32⟩
  | .hbm, ⟨3, _⟩ => ⟨S16x1024x2048, .f32⟩
  | .hbm, ⟨4, _⟩ => ⟨S16x2048x1024, .bf16⟩
  | .hbm, ⟨5, _⟩ => ⟨S16x2048x1024, .bf16⟩
  | .hbm, ⟨6, _⟩ => ⟨S16x1024x2048, .bf16⟩
  | .hbm, ⟨7, _⟩ => ⟨S16x2048x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x512x2048, .bf16⟩
  | .local _ .vmem, ⟨9, _⟩ => ⟨S1x512x2048, .bf16⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ExpertReferenceIdeal.lean ====
abbrev S16x2048x2048 : Shape := ⟨3, ![16, 2048, 2048]⟩
abbrev S16x2048x1024 : Shape := ⟨3, ![16, 2048, 1024]⟩
abbrev S16x1024x2048 : Shape := ⟨3, ![16, 1024, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S16x2048x1024, .f32⟩
  | .hbm, ⟨2, _⟩ => ⟨S16x2048x1024, .f32⟩
  | .hbm, ⟨3, _⟩ => ⟨S16x1024x2048, .f32⟩
  | .hbm, ⟨4, _⟩ => ⟨S16x2048x2048, .f32⟩
  | .hbm, ⟨5, _⟩ => ⟨S16x2048x1024, .f32⟩
  | .hbm, ⟨6, _⟩ => ⟨S16x2048x1024, .f32⟩
  | .hbm, ⟨7, _⟩ => ⟨S16x2048x1024, .f32⟩
  | .hbm, ⟨8, _⟩ => ⟨S_, .f32⟩
  | .hbm, ⟨9, _⟩ => ⟨S16x2048x1024, .f32⟩
  | .hbm, ⟨10, _⟩ => ⟨S16x2048x1024, .f32⟩
  | .hbm, ⟨11, _⟩ => ⟨S_, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S16x2048x2048, .f32⟩
  | .hbm, ⟨18, _⟩ => ⟨S16x2048x2048, .bf16⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== QkAKernel.lean ====
abbrev S4x4096x2048 : Shape := ⟨3, ![4, 4096, 2048]⟩
abbrev S2048x22784 : Shape := ⟨2, ![2048, 22784]⟩
abbrev S16384x2048 : Shape := ⟨2, ![16384, 2048]⟩
abbrev S2048x4608 : Shape := ⟨2, ![2048, 4608]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x4096x1x128 : Shape := ⟨4, ![1, 4096, 1, 128]⟩
abbrev S16384x4608 : Shape := ⟨2, ![16384, 4608]⟩
abbrev S1024x2048 : Shape := ⟨2, ![1024, 2048]⟩
abbrev S2048x768 : Shape := ⟨2, ![2048, 768]⟩
abbrev S1024x128 : Shape := ⟨2, ![1024, 128]⟩
abbrev S1024x768 : Shape := ⟨2, ![1024, 768]⟩

abbrev nBuf : Space → Nat
  | .hbm => 33
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048x22784, .f32⟩
  | .hbm, ⟨2, _⟩ => ⟨S16384x2048, .f32⟩
  | .hbm, ⟨3, _⟩ => ⟨S16384x2048, .bf16⟩
  | .hbm, ⟨4, _⟩ => ⟨S2048x4608, .f32⟩
  | .hbm, ⟨5, _⟩ => ⟨S2048x4608, .bf16⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S4096, .i32⟩
  | .hbm, ⟨15, _⟩ => ⟨S4096, .f32⟩
  | .hbm, ⟨16, _⟩ => ⟨S4096x1, .f32⟩
  | .hbm, ⟨17, _⟩ => ⟨S1x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x128, .f32⟩
  | .hbm, ⟨24, _⟩ => ⟨S1x4096x1x128, .f32⟩
  | .hbm, ⟨25, _⟩ => ⟨S1x4096x1x128, .f32⟩
  | .hbm, ⟨26, _⟩ => ⟨S4096x128, .f32⟩
  | .hbm, ⟨27, _⟩ => ⟨S4096x64, .f32⟩
  | .hbm, ⟨28, _⟩ => ⟨S4096x128, .f32⟩
  | .hbm, ⟨29, _⟩ => ⟨S1x4096x1x128, .f32⟩
  | .hbm, ⟨30, _⟩ => ⟨S1x4096x1x128, .f32⟩
  | .hbm, ⟨31, _⟩ => ⟨S4096x128, .f32⟩
  | .hbm, ⟨32, _⟩ => ⟨S16384x4608, .bf16⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x768, .bf16⟩
  | .local _ .vmem, ⟨9, _⟩ => ⟨S1024x768, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkAReferenceIdeal.lean ====
abbrev S4x4096x2048 : Shape := ⟨3, ![4, 4096, 2048]⟩
abbrev S2048x22784 : Shape := ⟨2, ![2048, 22784]⟩
abbrev S4x4096x22784 : Shape := ⟨3, ![4, 4096, 22784]⟩
abbrev S4x4096x4608 : Shape := ⟨3, ![4, 4096, 4608]⟩
abbrev S4x4096x36x128 : Shape := ⟨4, ![4, 4096, 36, 128]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S4x4096x36x64 : Shape := ⟨4, ![4, 4096, 36, 64]⟩
abbrev S1x4096x1x64 : Shape := ⟨4, ![1, 4096, 1, 64]⟩
abbrev S16384x4608 : Shape := ⟨2, ![16384, 4608]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x22784, .f32⟩
  | .hbm, ⟨2, _⟩ => ⟨S4x4096x22784, .f32⟩
  | .hbm, ⟨3, _⟩ => ⟨S4x4096x4608, .f32⟩
  | .hbm, ⟨4, _⟩ => ⟨S4x4096x36x128, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S4096, .i32⟩
  | .hbm, ⟨14, _⟩ => ⟨S4096, .f32⟩
  | .hbm, ⟨15, _⟩ => ⟨S4096x1, .f32⟩
  | .hbm, ⟨16, _⟩ => ⟨S1x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x1x64, .f32⟩
  | .hbm, ⟨22, _⟩ => ⟨S4096x64, .f32⟩
  | .hbm, ⟨23, _⟩ => ⟨S4096x1x64, .f32⟩
  | .hbm, ⟨24, _⟩ => ⟨S4x4096x36x64, .f32⟩
  | .hbm, ⟨25, _⟩ => ⟨S4x4096x36x64, .f32⟩
  | .hbm, ⟨26, _⟩ => ⟨S1x4096x1x64, .f32⟩
  | .hbm, ⟨27, _⟩ => ⟨S4x4096x36x64, .f32⟩
  | .hbm, ⟨28, _⟩ => ⟨S4x4096x36x64, .f32⟩
  | .hbm, ⟨29, _⟩ => ⟨S1x4096x1x64, .f32⟩
  | .hbm, ⟨30, _⟩ => ⟨S4x4096x36x64, .f32⟩
  | .hbm, ⟨31, _⟩ => ⟨S4x4096x36x64, .f32⟩
  | .hbm, ⟨32, _⟩ => ⟨S4x4096x36x64, .f32⟩
  | .hbm, ⟨33, _⟩ => ⟨S1x4096x1x64, .f32⟩
  | .hbm, ⟨34, _⟩ => ⟨S4x4096x36x64, .f32⟩
  | .hbm, ⟨35, _⟩ => ⟨S4x4096x36x64, .f32⟩
  | .hbm, ⟨36, _⟩ => ⟨S1x4096x1x64, .f32⟩
  | .hbm, ⟨37, _⟩ => ⟨S4x4096x36x64, .f32⟩
  | .hbm, ⟨38, _⟩ => ⟨S4x4096x36x64, .f32⟩
  | .hbm, ⟨39, _⟩ => ⟨S4x4096x36x64, .f32⟩
  | .hbm, ⟨40, _⟩ => ⟨S4x4096x36x128, .f32⟩
  | .hbm, ⟨41, _⟩ => ⟨S4x4096x36x128, .bf16⟩
  | .hbm, ⟨42, _⟩ => ⟨S16384x4608, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩

abbrev nD : Nat := 1
abbrev τ : Topo := Topo.v7x

variable {F : FTy → Type} [FloatOps F]
-- ==== MergeKernel.lean ====
abbrev S16384x768 : Shape := ⟨2, ![16384, 768]⟩
abbrev S16384x1024 : Shape := ⟨2, ![16384, 1024]⟩
abbrev S3840x2048 : Shape := ⟨2, ![3840, 2048]⟩
abbrev S16384x8192 : Shape := ⟨2, ![16384, 8192]⟩
abbrev S768x2048 : Shape := ⟨2, ![768, 2048]⟩
abbrev S1024x2048 : Shape := ⟨2, ![1024, 2048]⟩
abbrev S16384x2048 : Shape := ⟨2, ![16384, 2048]⟩
abbrev S1024x768 : Shape := ⟨2, ![1024, 768]⟩
abbrev S1024x1024 : Shape := ⟨2, ![1024, 1024]⟩
abbrev S768x512 : Shape := ⟨2, ![768, 512]⟩
abbrev S1024x512 : Shape := ⟨2, ![1024, 512]⟩

abbrev nBuf : Space → Nat
  | .hbm => 12
  | .vmem => 26
  | .smem => 0
  | _ => 0

abbrev bufTy : (tb : Table) → Fin (tcTables nBuf tb) → BufTy
  | .hbm, ⟨0, _⟩ => ⟨S16384x768, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S3840x2048, .f32⟩
  | .hbm, ⟨5, _⟩ => ⟨S16384x8192, .bf16⟩
  | .hbm, ⟨6, _⟩ => ⟨S3840x2048, .bf16⟩
  | .hbm, ⟨7, _⟩ => ⟨S768x2048, .bf16⟩
  | .hbm, ⟨8, _⟩ => ⟨S1024x2048, .bf16⟩
  | .hbm, ⟨9, _⟩ => ⟨S1024x2048, .bf16⟩
  | .hbm, ⟨10, _⟩ => ⟨S1024x2048, .bf16⟩
  | .hbm, ⟨11, _⟩ => ⟨S16384x2048, .bf16⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S768x512, .bf16⟩
  | .local _ .vmem, ⟨9, _⟩ => ⟨S768x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeReferenceIdeal.lean ====
abbrev S16384x768 : Shape := ⟨2, ![16384, 768]⟩
abbrev S16384x1024 : Shape := ⟨2, ![16384, 1024]⟩
abbrev S3840x2048 : Shape := ⟨2, ![3840, 2048]⟩
abbrev S16384x8192 : Shape := ⟨2, ![16384, 8192]⟩
abbrev S16384x2048 : Shape := ⟨2, ![16384, 2048]⟩
abbrev S768x2048 : Shape := ⟨2, ![768, 2048]⟩
abbrev S1024x2048 : Shape := ⟨2, ![1024, 2048]⟩

abbrev nBuf : Space → Nat
  | .hbm => 34
  | .vmem => 0
  | .smem => 0
  | _ => 0

abbrev bufTy : (tb : Table) → Fin (tcTables nBuf tb) → BufTy
  | .hbm, ⟨0, _⟩ => ⟨S16384x768, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S3840x2048, .f32⟩
  | .hbm, ⟨5, _⟩ => ⟨S16384x8192, .bf16⟩
  | .hbm, ⟨6, _⟩ => ⟨S16384x2048, .bf16⟩
  | .hbm, ⟨7, _⟩ => ⟨S16384x2048, .f32⟩
  | .hbm, ⟨8, _⟩ => ⟨S16384x768, .f32⟩
  | .hbm, ⟨9, _⟩ => ⟨S768x2048, .f32⟩
  | .hbm, ⟨10, _⟩ => ⟨S16384x2048, .f32⟩
  | .hbm, ⟨11, _⟩ => ⟨S16384x2048, .f32⟩
  | .hbm, ⟨12, _⟩ => ⟨S16384x2048, .bf16⟩
  | .hbm, ⟨13, _⟩ => ⟨S16384x2048, .f32⟩
  | .hbm, ⟨14, _⟩ => ⟨S16384x1024, .f32⟩
  | .hbm, ⟨15, _⟩ => ⟨S1024x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .bf16⟩
  | .hbm, ⟨20, _⟩ => ⟨S16384x2048, .f32⟩
  | .hbm, ⟨21, _⟩ => ⟨S16384x1024, .f32⟩
  | .hbm, ⟨22, _⟩ => ⟨S1024x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .bf16⟩
  | .hbm, ⟨27, _⟩ => ⟨S16384x2048, .f32⟩
  | .hbm, ⟨28, _⟩ => ⟨S16384x1024, .f32⟩
  | .hbm, ⟨29, _⟩ => ⟨S1024x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .bf16⟩
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== QkvDKernel.lean ====
abbrev S4x4096x2048 : Shape := ⟨3, ![4, 4096, 2048]⟩
abbrev S2048x22784 : Shape := ⟨2, ![2048, 22784]⟩
abbrev S16384x2048 : Shape := ⟨2, ![16384, 2048]⟩
abbrev S2048x3072 : Shape := ⟨2, ![2048, 3072]⟩
abbrev S16384x3072 : Shape := ⟨2, ![16384, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x22784, .f32⟩
  | .hbm, ⟨2, _⟩ => ⟨S16384x2048, .f32⟩
  | .hbm, ⟨3, _⟩ => ⟨S16384x2048, .bf16⟩
  | .hbm, ⟨4, _⟩ => ⟨S2048x3072, .f32⟩
  | .hbm, ⟨5, _⟩ => ⟨S2048x3072, .bf16⟩
  | .hbm, ⟨6, _⟩ => ⟨S16384x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvDReferenceIdeal.lean ====
abbrev S4x4096x2048 : Shape := ⟨3, ![4, 4096, 2048]⟩
abbrev S2048x22784 : Shape := ⟨2, ![2048, 22784]⟩
abbrev S4x4096x22784 : Shape := ⟨3, ![4, 4096, 22784]⟩
abbrev S4x4096x3072 : Shape := ⟨3, ![4, 4096, 3072]⟩
abbrev S16384x3072 : Shape := ⟨2, ![16384, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x22784, .f32⟩
  | .hbm, ⟨2, _⟩ => ⟨S4x4096x22784, .f32⟩
  | .hbm, ⟨3, _⟩ => ⟨S4x4096x3072, .f32⟩
  | .hbm, ⟨4, _⟩ => ⟨S4x4096x3072, .bf16⟩
  | .hbm, ⟨5, _⟩ => ⟨S16384x3072, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== VAKernel.lean ====
abbrev S4x4096x2048 : Shape := ⟨3, ![4, 4096, 2048]⟩
abbrev S2048x22784 : Shape := ⟨2, ![2048, 22784]⟩
abbrev S16384x2048 : Shape := ⟨2, ![16384, 2048]⟩
abbrev S2048x2304 : Shape := ⟨2, ![2048, 2304]⟩
abbrev S16384x2304 : Shape := ⟨2, ![16384, 2304]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x22784, .f32⟩
  | .hbm, ⟨2, _⟩ => ⟨S16384x2048, .f32⟩
  | .hbm, ⟨3, _⟩ => ⟨S16384x2048, .bf16⟩
  | .hbm, ⟨4, _⟩ => ⟨S2048x2304, .f32⟩
  | .hbm, ⟨5, _⟩ => ⟨S2048x2304, .bf16⟩
  | .hbm, ⟨6, _⟩ => ⟨S16384x2304, .bf16⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== VAReferenceIdeal.lean ====
abbrev S4x4096x2048 : Shape := ⟨3, ![4, 4096, 2048]⟩
abbrev S2048x22784 : Shape := ⟨2, ![2048, 22784]⟩
abbrev S4x4096x22784 : Shape := ⟨3, ![4, 4096, 22784]⟩
abbrev S4x4096x2304 : Shape := ⟨3, ![4, 4096, 2304]⟩
abbrev S16384x2304 : Shape := ⟨2, ![16384, 2304]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x22784, .f32⟩
  | .hbm, ⟨2, _⟩ => ⟨S4x4096x22784, .f32⟩
  | .hbm, ⟨3, _⟩ => ⟨S4x4096x2304, .f32⟩
  | .hbm, ⟨4, _⟩ => ⟨S4x4096x2304, .bf16⟩
  | .hbm, ⟨5, _⟩ => ⟨S16384x2304, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== QkBKernel.lean ====
abbrev S4x4096x2048 : Shape := ⟨3, ![4, 4096, 2048]⟩
abbrev S2048x22784 : Shape := ⟨2, ![2048, 22784]⟩
abbrev S16384x2048 : Shape := ⟨2, ![16384, 2048]⟩
abbrev S2048x2048 : Shape := ⟨2, ![2048, 2048]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1024x2048 : Shape := ⟨2, ![1024, 2048]⟩
abbrev S2048x1024 : Shape := ⟨2, ![2048, 1024]⟩
abbrev S1024x128 : Shape := ⟨2, ![1024, 128]⟩
abbrev S1024x1024 : Shape := ⟨2, ![1024, 1024]⟩

abbrev nBuf : Space → Nat
  | .hbm => 33
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048x22784, .f32⟩
  | .hbm, ⟨2, _⟩ => ⟨S16384x2048, .f32⟩
  | .hbm, ⟨3, _⟩ => ⟨S16384x2048, .bf16⟩
  | .hbm, ⟨4, _⟩ => ⟨S2048x2048, .f32⟩
  | .hbm, ⟨5, _⟩ => ⟨S2048x2048, .bf16⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096, .i32⟩
  | .hbm, ⟨15, _⟩ => ⟨S4096, .f32⟩
  | .hbm, ⟨16, _⟩ => ⟨S4096x1, .f32⟩
  | .hbm, ⟨17, _⟩ => ⟨S1x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x64, .f32⟩
  | .hbm, ⟨24, _⟩ => ⟨S1x4096x1x64, .f32⟩
  | .hbm, ⟨25, _⟩ => ⟨S1x4096x2x64, .f32⟩
  | .hbm, ⟨26, _⟩ => ⟨S4096x128, .f32⟩
  | .hbm, ⟨27, _⟩ => ⟨S4096x32, .f32⟩
  | .hbm, ⟨28, _⟩ => ⟨S4096x64, .f32⟩
  | .hbm, ⟨29, _⟩ => ⟨S1x4096x1x64, .f32⟩
  | .hbm, ⟨30, _⟩ => ⟨S1x4096x2x64, .f32⟩
  | .hbm, ⟨31, _⟩ => ⟨S4096x128, .f32⟩
  | .hbm, ⟨32, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkBReferenceIdeal.lean ====
abbrev S4x4096x2048 : Shape := ⟨3, ![4, 4096, 2048]⟩
abbrev S2048x22784 : Shape := ⟨2, ![2048, 22784]⟩
abbrev S4x4096x22784 : Shape := ⟨3, ![4, 4096, 22784]⟩
abbrev S4x4096x32x64 : Shape := ⟨4, ![4, 4096, 32, 64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4x4096x32x32 : Shape := ⟨4, ![4, 4096, 32, 32]⟩
abbrev S1x4096x1x32 : Shape := ⟨4, ![1, 4096, 1, 32]⟩
abbrev S16384x2048 : Shape := ⟨2, ![16384, 2048]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x22784, .f32⟩
  | .hbm, ⟨2, _⟩ => ⟨S4x4096x22784, .f32⟩
  | .hbm, ⟨3, _⟩ => ⟨S4x4096x2048, .f32⟩
  | .hbm, ⟨4, _⟩ => ⟨S4x4096x32x64, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4096, .i32⟩
  | .hbm, ⟨14, _⟩ => ⟨S4096, .f32⟩
  | .hbm, ⟨15, _⟩ => ⟨S4096x1, .f32⟩
  | .hbm, ⟨16, _⟩ => ⟨S1x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x1x32, .f32⟩
  | .hbm, ⟨22, _⟩ => ⟨S4096x32, .f32⟩
  | .hbm, ⟨23, _⟩ => ⟨S4096x1x32, .f32⟩
  | .hbm, ⟨24, _⟩ => ⟨S4x4096x32x32, .f32⟩
  | .hbm, ⟨25, _⟩ => ⟨S4x4096x32x32, .f32⟩
  | .hbm, ⟨26, _⟩ => ⟨S1x4096x1x32, .f32⟩
  | .hbm, ⟨27, _⟩ => ⟨S4x4096x32x32, .f32⟩
  | .hbm, ⟨28, _⟩ => ⟨S4x4096x32x32, .f32⟩
  | .hbm, ⟨29, _⟩ => ⟨S1x4096x1x32, .f32⟩
  | .hbm, ⟨30, _⟩ => ⟨S4x4096x32x32, .f32⟩
  | .hbm, ⟨31, _⟩ => ⟨S4x4096x32x32, .f32⟩
  | .hbm, ⟨32, _⟩ => ⟨S4x4096x32x32, .f32⟩
  | .hbm, ⟨33, _⟩ => ⟨S1x4096x1x32, .f32⟩
  | .hbm, ⟨34, _⟩ => ⟨S4x4096x32x32, .f32⟩
  | .hbm, ⟨35, _⟩ => ⟨S4x4096x32x32, .f32⟩
  | .hbm, ⟨36, _⟩ => ⟨S1x4096x1x32, .f32⟩
  | .hbm, ⟨37, _⟩ => ⟨S4x4096x32x32, .f32⟩
  | .hbm, ⟨38, _⟩ => ⟨S4x4096x32x32, .f32⟩
  | .hbm, ⟨39, _⟩ => ⟨S4x4096x32x32, .f32⟩
  | .hbm, ⟨40, _⟩ => ⟨S4x4096x32x64, .f32⟩
  | .hbm, ⟨41, _⟩ => ⟨S4x4096x32x64, .bf16⟩
  | .hbm, ⟨42, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩

abbrev nD : Nat := 1
abbrev τ : Topo := Topo.v7x

variable {F : FTy → Type} [FloatOps F]
-- ==== OutKernel.lean ====
abbrev S16384x2048 : Shape := ⟨2, ![16384, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S16384x2048, .f32⟩
  | .hbm, ⟨9, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutReferenceIdeal.lean ====
abbrev S16384x2048 : Shape := ⟨2, ![16384, 2048]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x2048, .f32⟩
  | .hbm, ⟨33, _⟩ => ⟨S16384x2048, .f32⟩
  | .hbm, ⟨34, _⟩ => ⟨S1x2048, .f32⟩
  | .hbm, ⟨35, _⟩ => ⟨S16384x2048, .f32⟩
  | .hbm, ⟨36, _⟩ => ⟨S16384x2048, .f32⟩
  | .hbm, ⟨37, _⟩ => ⟨S1x2048, .f32⟩
  | .hbm, ⟨38, _⟩ => ⟨S16384x2048, .f32⟩
  | .hbm, ⟨39, _⟩ => ⟨S16384x2048, .f32⟩
  | .hbm, ⟨40, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== QkCKernel.lean ====
abbrev S4x4096x2048 : Shape := ⟨3, ![4, 4096, 2048]⟩
abbrev S2048x22784 : Shape := ⟨2, ![2048, 22784]⟩
abbrev S16384x2048 : Shape := ⟨2, ![16384, 2048]⟩
abbrev S2048x1280 : Shape := ⟨2, ![2048, 1280]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x4096x1x128 : Shape := ⟨4, ![1, 4096, 1, 128]⟩
abbrev S16384x1280 : Shape := ⟨2, ![16384, 1280]⟩
abbrev S1024x2048 : Shape := ⟨2, ![1024, 2048]⟩
abbrev S1024x128 : Shape := ⟨2, ![1024, 128]⟩
abbrev S1024x1280 : Shape := ⟨2, ![1024, 1280]⟩

abbrev nBuf : Space → Nat
  | .hbm => 33
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2048x22784, .f32⟩
  | .hbm, ⟨2, _⟩ => ⟨S16384x2048, .f32⟩
  | .hbm, ⟨3, _⟩ => ⟨S16384x2048, .bf16⟩
  | .hbm, ⟨4, _⟩ => ⟨S2048x1280, .f32⟩
  | .hbm, ⟨5, _⟩ => ⟨S2048x1280, .bf16⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S4096, .i32⟩
  | .hbm, ⟨15, _⟩ => ⟨S4096, .f32⟩
  | .hbm, ⟨16, _⟩ => ⟨S4096x1, .f32⟩
  | .hbm, ⟨17, _⟩ => ⟨S1x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x128, .f32⟩
  | .hbm, ⟨24, _⟩ => ⟨S1x4096x1x128, .f32⟩
  | .hbm, ⟨25, _⟩ => ⟨S1x4096x1x128, .f32⟩
  | .hbm, ⟨26, _⟩ => ⟨S4096x128, .f32⟩
  | .hbm, ⟨27, _⟩ => ⟨S4096x64, .f32⟩
  | .hbm, ⟨28, _⟩ => ⟨S4096x128, .f32⟩
  | .hbm, ⟨29, _⟩ => ⟨S1x4096x1x128, .f32⟩
  | .hbm, ⟨30, _⟩ => ⟨S1x4096x1x128, .f32⟩
  | .hbm, ⟨31, _⟩ => ⟨S4096x128, .f32⟩
  | .hbm, ⟨32, _⟩ => ⟨S16384x1280, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x1280, .bf16⟩
  | .local _ .vmem, ⟨8, _⟩ => ⟨S1024x1280, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkCReferenceIdeal.lean ====
abbrev S4x4096x2048 : Shape := ⟨3, ![4, 4096, 2048]⟩
abbrev S2048x22784 : Shape := ⟨2, ![2048, 22784]⟩
abbrev S4x4096x22784 : Shape := ⟨3, ![4, 4096, 22784]⟩
abbrev S4x4096x1280 : Shape := ⟨3, ![4, 4096, 1280]⟩
abbrev S4x4096x10x128 : Shape := ⟨4, ![4, 4096, 10, 128]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S4x4096x10x64 : Shape := ⟨4, ![4, 4096, 10, 64]⟩
abbrev S1x4096x1x64 : Shape := ⟨4, ![1, 4096, 1, 64]⟩
abbrev S16384x1280 : Shape := ⟨2, ![16384, 1280]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x22784, .f32⟩
  | .hbm, ⟨2, _⟩ => ⟨S4x4096x22784, .f32⟩
  | .hbm, ⟨3, _⟩ => ⟨S4x4096x1280, .f32⟩
  | .hbm, ⟨4, _⟩ => ⟨S4x4096x10x128, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S4096, .i32⟩
  | .hbm, ⟨14, _⟩ => ⟨S4096, .f32⟩
  | .hbm, ⟨15, _⟩ => ⟨S4096x1, .f32⟩
  | .hbm, ⟨16, _⟩ => ⟨S1x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x1x64, .f32⟩
  | .hbm, ⟨22, _⟩ => ⟨S4096x64, .f32⟩
  | .hbm, ⟨23, _⟩ => ⟨S4096x1x64, .f32⟩
  | .hbm, ⟨24, _⟩ => ⟨S4x4096x10x64, .f32⟩
  | .hbm, ⟨25, _⟩ => ⟨S4x4096x10x64, .f32⟩
  | .hbm, ⟨26, _⟩ => ⟨S1x4096x1x64, .f32⟩
  | .hbm, ⟨27, _⟩ => ⟨S4x4096x10x64, .f32⟩
  | .hbm, ⟨28, _⟩ => ⟨S4x4096x10x64, .f32⟩
  | .hbm, ⟨29, _⟩ => ⟨S1x4096x1x64, .f32⟩
  | .hbm, ⟨30, _⟩ => ⟨S4x4096x10x64, .f32⟩
  | .hbm, ⟨31, _⟩ => ⟨S4x4096x10x64, .f32⟩
  | .hbm, ⟨32, _⟩ => ⟨S4x4096x10x64, .f32⟩
  | .hbm, ⟨33, _⟩ => ⟨S1x4096x1x64, .f32⟩
  | .hbm, ⟨34, _⟩ => ⟨S4x4096x10x64, .f32⟩
  | .hbm, ⟨35, _⟩ => ⟨S4x4096x10x64, .f32⟩
  | .hbm, ⟨36, _⟩ => ⟨S1x4096x1x64, .f32⟩
  | .hbm, ⟨37, _⟩ => ⟨S4x4096x10x64, .f32⟩
  | .hbm, ⟨38, _⟩ => ⟨S4x4096x10x64, .f32⟩
  | .hbm, ⟨39, _⟩ => ⟨S4x4096x10x64, .f32⟩
  | .hbm, ⟨40, _⟩ => ⟨S4x4096x10x128, .f32⟩
  | .hbm, ⟨41, _⟩ => ⟨S4x4096x10x128, .bf16⟩
  | .hbm, ⟨42, _⟩ => ⟨S16384x1280, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩

abbrev nD : Nat := 1
abbrev τ : Topo := Topo.v7x

variable {F : FTy → Type} [FloatOps F]
-- ==== VBKernel.lean ====
abbrev S4x4096x2048 : Shape := ⟨3, ![4, 4096, 2048]⟩
abbrev S2048x22784 : Shape := ⟨2, ![2048, 22784]⟩
abbrev S16384x2048 : Shape := ⟨2, ![16384, 2048]⟩
abbrev S2048x1024 : Shape := ⟨2, ![2048, 1024]⟩
abbrev S16384x1024 : Shape := ⟨2, ![16384, 1024]⟩
abbrev S1024x2048 : Shape := ⟨2, ![1024, 2048]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048x22784, .f32⟩
  | .hbm, ⟨2, _⟩ => ⟨S16384x2048, .f32⟩
  | .hbm, ⟨3, _⟩ => ⟨S16384x2048, .bf16⟩
  | .hbm, ⟨4, _⟩ => ⟨S2048x1024, .f32⟩
  | .hbm, ⟨5, _⟩ => ⟨S2048x1024, .bf16⟩
  | .hbm, ⟨6, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== VBReferenceIdeal.lean ====
abbrev S4x4096x2048 : Shape := ⟨3, ![4, 4096, 2048]⟩
abbrev S2048x22784 : Shape := ⟨2, ![2048, 22784]⟩
abbrev S4x4096x22784 : Shape := ⟨3, ![4, 4096, 22784]⟩
abbrev S4x4096x1024 : Shape := ⟨3, ![4, 4096, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x22784, .f32⟩
  | .hbm, ⟨2, _⟩ => ⟨S4x4096x22784, .f32⟩
  | .hbm, ⟨3, _⟩ => ⟨S4x4096x1024, .f32⟩
  | .hbm, ⟨4, _⟩ => ⟨S4x4096x1024, .bf16⟩
  | .hbm, ⟨5, _⟩ => ⟨S16384x1024, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== VCKernel.lean ====
abbrev S4x4096x2048 : Shape := ⟨3, ![4, 4096, 2048]⟩
abbrev S2048x22784 : Shape := ⟨2, ![2048, 22784]⟩
abbrev S16384x2048 : Shape := ⟨2, ![16384, 2048]⟩
abbrev S2048x256 : Shape := ⟨2, ![2048, 256]⟩
abbrev S16384x256 : Shape := ⟨2, ![16384, 256]⟩
abbrev S1024x2048 : Shape := ⟨2, ![1024, 2048]⟩
abbrev S1024x256 : Shape := ⟨2, ![1024, 256]⟩

abbrev nBuf : Space → Nat
  | .hbm => 7
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048x22784, .f32⟩
  | .hbm, ⟨2, _⟩ => ⟨S16384x2048, .f32⟩
  | .hbm, ⟨3, _⟩ => ⟨S16384x2048, .bf16⟩
  | .hbm, ⟨4, _⟩ => ⟨S2048x256, .f32⟩
  | .hbm, ⟨5, _⟩ => ⟨S2048x256, .bf16⟩
  | .hbm, ⟨6, _⟩ => ⟨S16384x256, .bf16⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S1024x256, .bf16⟩
  | .local _ .vmem, ⟨4, _⟩ => ⟨S1024x256, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== VCReferenceIdeal.lean ====
abbrev S4x4096x2048 : Shape := ⟨3, ![4, 4096, 2048]⟩
abbrev S2048x22784 : Shape := ⟨2, ![2048, 22784]⟩
abbrev S4x4096x22784 : Shape := ⟨3, ![4, 4096, 22784]⟩
abbrev S4x4096x256 : Shape := ⟨3, ![4, 4096, 256]⟩
abbrev S16384x256 : Shape := ⟨2, ![16384, 256]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x22784, .f32⟩
  | .hbm, ⟨2, _⟩ => ⟨S4x4096x22784, .f32⟩
  | .hbm, ⟨3, _⟩ => ⟨S4x4096x256, .f32⟩
  | .hbm, ⟨4, _⟩ => ⟨S4x4096x256, .bf16⟩
  | .hbm, ⟨5, _⟩ => ⟨S16384x256, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== CombineKernel.lean ====
abbrev S16x2048x2048 : Shape := ⟨3, ![16, 2048, 2048]⟩
abbrev S4x4096x128 : Shape := ⟨3, ![4, 4096, 128]⟩
abbrev S4x4096x2048 : Shape := ⟨3, ![4, 4096, 2048]⟩
abbrev S2048 : Shape := ⟨1, ![2048]⟩
abbrev S1x2048 : Shape := ⟨2, ![1, 2048]⟩
abbrev S1x512x2048 : Shape := ⟨3, ![1, 512, 2048]⟩
abbrev S1x512x128 : Shape := ⟨3, ![1, 512, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S512x512 : Shape := ⟨2, ![512, 512]⟩

abbrev nBuf : Space → Nat
  | .hbm => 10
  | .vmem => 15
  | .smem => 0
  | _ => 0

abbrev bufTy : (tb : Table) → Fin (tcTables nBuf tb) → BufTy
  | .hbm, ⟨0, _⟩ => ⟨S16x2048x2048, .bf16⟩
  | .hbm, ⟨1, _⟩ => ⟨S4x4096x128, .f32⟩
  | .hbm, ⟨2, _⟩ => ⟨S4x4096x128, .f32⟩
  | .hbm, ⟨3, _⟩ => ⟨S4x4096x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S4x4096x2048, .f32⟩
  | .hbm, ⟨9, _⟩ => ⟨S4x4096x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x2048, .f32⟩
  | .local _ .vmem, ⟨7, _⟩ => ⟨S1x512x2048, .f32⟩
  | .local _ .vmem, ⟨8, _⟩ => ⟨S1x2048, .f32⟩
  | .local _ .vmem, ⟨9, _⟩ => ⟨S1x2048, .f32⟩
  | .local _ .vmem, ⟨10, _⟩ => ⟨S1x512x2048, .f32⟩
  | .local _ .vmem, ⟨11, _⟩ => ⟨S1x512x2048, .f32⟩
  | .local _ .vmem, ⟨12, _⟩ => ⟨S1x512x2048, .bf16⟩
  | .local _ .vmem, ⟨13, _⟩ => ⟨S1x512x2048, .bf16⟩
  | .local _ .vmem, ⟨14, _⟩ => ⟨S512x2048, .f32⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 8, 16], ![false, false, false]⟩

def k0_cond2 (i : grid0.Coords) : BitVec 1 :=
  let arg2 : BitVec 32 := BitVec.ofNat 32 (i 2).val
  let c15_i32 : BitVec 32 := 15#32
  let v35 : BitVec 1 := Scalar.cmpi .eq arg2 c15_i32
  let v36 : BitVec 32 := Scalar.extui v35
  let c0_i32_17 : BitVec 32 := 0#32
  let v37 : BitVec 1 := Scalar.cmpi .ne v36 c0_i32_17
  v37

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== CombineReferenceIdeal.lean ====
abbrev S16x2048x2048 : Shape := ⟨3, ![16, 2048, 2048]⟩
abbrev S4x4096x128 : Shape := ⟨3, ![4, 4096, 128]⟩
abbrev S4x4096x2048 : Shape := ⟨3, ![4, 4096, 2048]⟩
abbrev S2048 : Shape := ⟨1, ![2048]⟩
abbrev S16x4x512x2048 : Shape := ⟨4, ![16, 4, 512, 2048]⟩
abbrev S4x4096x16 : Shape := ⟨3, ![4, 4096, 16]⟩
abbrev S4x4096x16x1 : Shape := ⟨4, ![4, 4096, 16, 1]⟩
abbrev S512 : Shape := ⟨1, ![512]⟩
abbrev S1x1x1x512 : Shape := ⟨4, ![1, 1, 1, 512]⟩
abbrev S4x4096x16x512 : Shape := ⟨4, ![4, 4096, 16, 512]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S4x4096x128, .f32⟩
  | .hbm, ⟨2, _⟩ => ⟨S4x4096x128, .f32⟩
  | .hbm, ⟨3, _⟩ => ⟨S4x4096x2048, .f32⟩
  | .hbm, ⟨4, _⟩ => ⟨S2048, .f32⟩
  | .hbm, ⟨5, _⟩ => ⟨S2048, .f32⟩
  | .hbm, ⟨6, _⟩ => ⟨S16x2048x2048, .f32⟩
  | .hbm, ⟨7, _⟩ => ⟨S16x4x512x2048, .f32⟩
  | .hbm, ⟨8, _⟩ => ⟨S4x4096x16, .f32⟩
  | .hbm, ⟨9, _⟩ => ⟨S4x4096x16x1, .f32⟩
  | .hbm, ⟨10, _⟩ => ⟨S512, .i32⟩
  | .hbm, ⟨11, _⟩ => ⟨S512, .f32⟩
  | .hbm, ⟨12, _⟩ => ⟨S1x1x1x512, .f32⟩
  | .hbm, ⟨13, _⟩ => ⟨S4x4096x16x512, .f32⟩
  | .hbm, ⟨14, _⟩ => ⟨S4x4096x16x512, .f32⟩
  | .hbm, ⟨15, _⟩ => ⟨S4x4096x16x512, .i1⟩
  | .hbm, ⟨16, _⟩ => ⟨S4x4096x16, .f32⟩
  | .hbm, ⟨17, _⟩ => ⟨S4x4096x16x1, .f32⟩
  | .hbm, ⟨18, _⟩ => ⟨S_, .f32⟩
  | .hbm, ⟨19, _⟩ => ⟨S_, .f32⟩
  | .hbm, ⟨20, _⟩ => ⟨S4x4096x16x512, .f32⟩
  | .hbm, ⟨21, _⟩ => ⟨S4x4096x16x512, .f32⟩
  | .hbm, ⟨22, _⟩ => ⟨S4x4096x16x512, .f32⟩
  | .hbm, ⟨23, _⟩ => ⟨S_, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x2048, .f32⟩
  | .hbm, ⟨44, _⟩ => ⟨S4x4096x2048, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x1, .f32⟩
  | .hbm, ⟨49, _⟩ => ⟨S4x4096x2048, .f32⟩
  | .hbm, ⟨50, _⟩ => ⟨S4x4096x2048, .f32⟩
  | .hbm, ⟨51, _⟩ => ⟨S1x1x2048, .f32⟩
  | .hbm, ⟨52, _⟩ => ⟨S4x4096x2048, .f32⟩
  | .hbm, ⟨53, _⟩ => ⟨S4x4096x2048, .f32⟩
  | .hbm, ⟨54, _⟩ => ⟨S1x1x2048, .f32⟩
  | .hbm, ⟨55, _⟩ => ⟨S4x4096x2048, .f32⟩
  | .hbm, ⟨56, _⟩ => ⟨S4x4096x2048, .f32⟩
  | .hbm, ⟨57, _⟩ => ⟨S4x4096x2048, .bf16⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== GatherKernel.lean ====
abbrev S4x4096x2048 : Shape := ⟨3, ![4, 4096, 2048]⟩
abbrev S4x16x4096 : Shape := ⟨3, ![4, 16, 4096]⟩
abbrev S16x2048x2048 : Shape := ⟨3, ![16, 2048, 2048]⟩
abbrev S1x4096x2048 : Shape := ⟨3, ![1, 4096, 2048]⟩
abbrev S1x16x4096 : Shape := ⟨3, ![1, 16, 4096]⟩
abbrev S1x512x2048 : Shape := ⟨3, ![1, 512, 2048]⟩
abbrev S1x1x4096 : Shape := ⟨3, ![1, 1, 4096]⟩
abbrev S1x4096 : Shape := ⟨2, ![1, 4096]⟩
abbrev S512x4096 : Shape := ⟨2, ![512, 4096]⟩
abbrev S4096x2048 : Shape := ⟨2, ![4096, 2048]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x2048, .bf16⟩
  | .hbm, ⟨1, _⟩ => ⟨S4x16x4096, .i32⟩
  | .hbm, ⟨2, _⟩ => ⟨S16x2048x2048, .bf16⟩
  | .local _ .vmem, ⟨0, _⟩ => ⟨S1x4096x2048, .bf16⟩
  | .local _ .vmem, ⟨1, _⟩ => ⟨S1x4096x2048, .bf16⟩
  | .local _ .vmem, ⟨2, _⟩ => ⟨S1x16x4096, .i32⟩
  | .local _ .vmem, ⟨3, _⟩ => ⟨S1x16x4096, .i32⟩
  | .local _ .vmem, ⟨4, _⟩ => ⟨S1x512x2048, .bf16⟩
  | .local _ .vmem, ⟨5, _⟩ => ⟨S1x512x2048, .bf16⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_off1 (i : grid0.Coords) : Fin 3 → Nat :=
  let c0 : Index := 0#32
  let arg1 : BitVec 32 := BitVec.ofNat 32 (i 1).val
  let v0 : Index := Scalar.indexCast arg1
  let c0_0 : Index := 0#32
  ![0, v0.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x4096x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatherReferenceIdeal.lean ====
abbrev S4x4096x2048 : Shape := ⟨3, ![4, 4096, 2048]⟩
abbrev S4x16x4096 : Shape := ⟨3, ![4, 16, 4096]⟩
abbrev S4x16x1x4096 : Shape := ⟨4, ![4, 16, 1, 4096]⟩
abbrev S512 : Shape := ⟨1, ![512]⟩
abbrev S512x1 : Shape := ⟨2, ![512, 1]⟩
abbrev S1x1x512x1 : Shape := ⟨4, ![1, 1, 512, 1]⟩
abbrev S4x16x512x4096 : Shape := ⟨4, ![4, 16, 512, 4096]⟩
abbrev S_ : Shape := ⟨0, ![]⟩
abbrev S4x2048x16x512 : Shape := ⟨4, ![4, 2048, 16, 512]⟩
abbrev S16x4x512x2048 : Shape := ⟨4, ![16, 4, 512, 2048]⟩
abbrev S16x2048x2048 : Shape := ⟨3, ![16, 2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x16x4096, .i32⟩
  | .hbm, ⟨2, _⟩ => ⟨S4x16x1x4096, .i32⟩
  | .hbm, ⟨3, _⟩ => ⟨S512, .i32⟩
  | .hbm, ⟨4, _⟩ => ⟨S512x1, .i32⟩
  | .hbm, ⟨5, _⟩ => ⟨S1x1x512x1, .i32⟩
  | .hbm, ⟨6, _⟩ => ⟨S4x16x512x4096, .i32⟩
  | .hbm, ⟨7, _⟩ => ⟨S4x16x512x4096, .i32⟩
  | .hbm, ⟨8, _⟩ => ⟨S4x16x512x4096, .i1⟩
  | .hbm, ⟨9, _⟩ => ⟨S_, .f32⟩
  | .hbm, ⟨10, _⟩ => ⟨S_, .f32⟩
  | .hbm, ⟨11, _⟩ => ⟨S4x16x512x4096, .f32⟩
  | .hbm, ⟨12, _⟩ => ⟨S4x16x512x4096, .f32⟩
  | .hbm, ⟨13, _⟩ => ⟨S4x16x512x4096, .f32⟩
  | .hbm, ⟨14, _⟩ => ⟨S4x4096x2048, .f32⟩
  | .hbm, ⟨15, _⟩ => ⟨S4x2048x16x512, .f32⟩
  | .hbm, ⟨16, _⟩ => ⟨S16x4x512x2048, .f32⟩
  | .hbm, ⟨17, _⟩ => ⟨S16x4x512x2048, .bf16⟩
  | .hbm, ⟨18, _⟩ => ⟨S16x2048x2048, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== MixKernel.lean ====
abbrev S16384x768 : Shape := ⟨2, ![16384, 768]⟩
abbrev S16384x128 : Shape := ⟨2, ![16384, 128]⟩
abbrev S1024x768 : Shape := ⟨2, ![1024, 768]⟩
abbrev S1024x128 : Shape := ⟨2, ![1024, 128]⟩
abbrev S1024x1 : Shape := ⟨2, ![1024, 1]⟩

abbrev nBuf : Space → Nat
  | .hbm => 7
  | .vmem => 14
  | .smem => 0
  | _ => 0

abbrev bufTy : (tb : Table) → Fin (tcTables nBuf tb) → BufTy
  | .hbm, ⟨0, _⟩ => ⟨S16384x768, .bf16⟩
  | .hbm, ⟨1, _⟩ => ⟨S16384x768, .bf16⟩
  | .hbm, ⟨2, _⟩ => ⟨S16384x768, .bf16⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S16384x768, .bf16⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x768, .bf16⟩
  | .local _ .vmem, ⟨13, _⟩ => ⟨S1024x768, .bf16⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixReferenceIdeal.lean ====
abbrev S16384x768 : Shape := ⟨2, ![16384, 768]⟩
abbrev S16384x128 : Shape := ⟨2, ![16384, 128]⟩
abbrev S16384x6 : Shape := ⟨2, ![16384, 6]⟩
abbrev S1x16384x6 : Shape := ⟨3, ![1, 16384, 6]⟩
abbrev S3x16384x6 : Shape := ⟨3, ![3, 16384, 6]⟩
abbrev S_ : Shape := ⟨0, ![]⟩
abbrev S16384x6x128 : Shape := ⟨3, ![16384, 6, 128]⟩
abbrev S1x16384x6x128 : Shape := ⟨4, ![1, 16384, 6, 128]⟩
abbrev S3x16384x6x128 : Shape := ⟨4, ![3, 16384, 6, 128]⟩

abbrev nBuf : Space → Nat
  | .hbm => 40
  | .vmem => 0
  | .smem => 0
  | _ => 0

abbrev bufTy : (tb : Table) → Fin (tcTables nBuf tb) → BufTy
  | .hbm, ⟨0, _⟩ => ⟨S16384x768, .bf16⟩
  | .hbm, ⟨1, _⟩ => ⟨S16384x768, .bf16⟩
  | .hbm, ⟨2, _⟩ => ⟨S16384x768, .bf16⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S16384x6, .f32⟩
  | .hbm, ⟨7, _⟩ => ⟨S16384x6, .f32⟩
  | .hbm, ⟨8, _⟩ => ⟨S16384x6, .f32⟩
  | .hbm, ⟨9, _⟩ => ⟨S1x16384x6, .f32⟩
  | .hbm, ⟨10, _⟩ => ⟨S1x16384x6, .f32⟩
  | .hbm, ⟨11, _⟩ => ⟨S1x16384x6, .f32⟩
  | .hbm, ⟨12, _⟩ => ⟨S3x16384x6, .f32⟩
  | .hbm, ⟨13, _⟩ => ⟨S_, .f32⟩
  | .hbm, ⟨14, _⟩ => ⟨S16384x6, .f32⟩
  | .hbm, ⟨15, _⟩ => ⟨S_, .f32⟩
  | .hbm, ⟨16, _⟩ => ⟨S16384x6, .f32⟩
  | .hbm, ⟨17, _⟩ => ⟨S16384x6, .f32⟩
  | .hbm, ⟨18, _⟩ => ⟨S1x16384x6, .f32⟩
  | .hbm, ⟨19, _⟩ => ⟨S3x16384x6, .f32⟩
  | .hbm, ⟨20, _⟩ => ⟨S3x16384x6, .f32⟩
  | .hbm, ⟨21, _⟩ => ⟨S3x16384x6, .f32⟩
  | .hbm, ⟨22, _⟩ => ⟨S_, .f32⟩
  | .hbm, ⟨23, _⟩ => ⟨S16384x6, .f32⟩
  | .hbm, ⟨24, _⟩ => ⟨S1x16384x6, .f32⟩
  | .hbm, ⟨25, _⟩ => ⟨S3x16384x6, .f32⟩
  | .hbm, ⟨26, _⟩ => ⟨S3x16384x6, .f32⟩
  | .hbm, ⟨27, _⟩ => ⟨S16384x768, .f32⟩
  | .hbm, ⟨28, _⟩ => ⟨S16384x6x128, .f32⟩
  | .hbm, ⟨29, _⟩ => ⟨S16384x768, .f32⟩
  | .hbm, ⟨30, _⟩ => ⟨S16384x6x128, .f32⟩
  | .hbm, ⟨31, _⟩ => ⟨S16384x768, .f32⟩
  | .hbm, ⟨32, _⟩ => ⟨S16384x6x128, .f32⟩
  | .hbm, ⟨33, _⟩ => ⟨S1x16384x6x128, .f32⟩
  | .hbm, ⟨34, _⟩ => ⟨S1x16384x6x128, .f32⟩
  | .hbm, ⟨35, _⟩ => ⟨S1x16384x6x128, .f32⟩
  | .hbm, ⟨36, _⟩ => ⟨S3x16384x6x128, .f32⟩
  | .hbm, ⟨37, _⟩ => ⟨S16384x6x128, .f32⟩
  | .hbm, ⟨38, _⟩ => ⟨S16384x6x128, .bf16⟩
  | .hbm, ⟨39, _⟩ => ⟨S16384x768, .bf16⟩
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== WinCKernel.lean ====
abbrev S4x4096x1280 : Shape := ⟨3, ![4, 4096, 1280]⟩
abbrev S4x4096x256 : Shape := ⟨3, ![4, 4096, 256]⟩
abbrev S8 : Shape := ⟨1, ![8]⟩
abbrev S4x4096x1024 : Shape := ⟨3, ![4, 4096, 1024]⟩
abbrev S1x256x1024 : Shape := ⟨3, ![1, 256, 1024]⟩
abbrev S1x4096x256 : Shape := ⟨3, ![1, 4096, 256]⟩
abbrev S256x512 : Shape := ⟨2, ![256, 512]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩
abbrev S256 : Shape := ⟨1, ![256]⟩
abbrev S256x1 : Shape := ⟨2, ![256, 1]⟩
abbrev S1 : Shape := ⟨1, ![1]⟩

abbrev nBuf : Space → Nat
  | .hbm => 4
  | .vmem => 8
  | .smem => 1
  | _ => 0

abbrev bufTy : (tb : Table) → Fin (tcTables nBuf tb) → BufTy
  | .hbm, ⟨0, _⟩ => ⟨S4x4096x1280, .bf16⟩
  | .hbm, ⟨1, _⟩ => ⟨S4x4096x256, .bf16⟩
  | .hbm, ⟨2, _⟩ => ⟨S8, .f32⟩
  | .hbm, ⟨3, _⟩ => ⟨S4x4096x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x256x1024, .bf16⟩
  | .local _ .vmem, ⟨7, _⟩ => ⟨S1x256x1024, .bf16⟩
  | .local _ .smem, ⟨0, _⟩ => ⟨S8, .f32⟩
  | _, _ => ⟨S4x4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 1, 16], ![false, false, false]⟩

def k0_mult1 (i : grid0.Coords) : BitVec 32 :=
  let c3584_i32 : BitVec 32 := 3584#32
  let c0_i32 : BitVec 32 := 0#32
  let arg2 : BitVec 32 := BitVec.ofNat 32 (i 2).val
  let c256_i32 : BitVec 32 := 256#32
  let v0 : BitVec 32 := Scalar.muli arg2 c256_i32
  let c128_i32 : BitVec 32 := 128#32
  let v1 : BitVec 32 := Scalar.subi v0 c128_i32
  let v2 : BitVec 32 := Scalar.maxsi c0_i32 v1
  let v3 : BitVec 32 := Scalar.minsi c3584_i32 v2
  v3
def k0_off1 (i : grid0.Coords) : Fin 3 → Nat :=
  let c0_4 : Index := 0#32
  let c3584_i32 : BitVec 32 := 3584#32
  let c0_i32 : BitVec 32 := 0#32
  let arg2 : BitVec 32 := BitVec.ofNat 32 (i 2).val
  let c256_i32 : BitVec 32 := 256#32
  let v0 : BitVec 32 := Scalar.muli arg2 c256_i32
  let c128_i32 : BitVec 32 := 128#32
  let v1 : BitVec 32 := Scalar.subi v0 c128_i32
  let v2 : BitVec 32 := Scalar.maxsi c0_i32 v1
  let v3 : BitVec 32 := Scalar.minsi c3584_i32 v2
  let v4 : BitVec 32 := v3
  let v18 : Index := Scalar.indexCast v4
  let c0_5 : Index := 0#32
  ![0, v18.toNat, 0]
def k0_off2 (i : grid0.Coords) : Fin 3 → Nat :=
  let c0_64 : Index := 0#32
  let c3584_i32 : BitVec 32 := 3584#32
  let c0_i32 : BitVec 32 := 0#32
  let arg2 : BitVec 32 := BitVec.ofNat 32 (i 2).val
  let c256_i32 : BitVec 32 := 256#32
  let v0 : BitVec 32 := Scalar.muli arg2 c256_i32
  let c128_i32 : BitVec 32 := 128#32
  let v1 : BitVec 32 := Scalar.subi v0 c128_i32
  let v2 : BitVec 32 := Scalar.maxsi c0_i32 v1
  let v3 : BitVec 32 := Scalar.minsi c3584_i32 v2
  let v4 : BitVec 32 := v3
  let v158 : Index := Scalar.indexCast v4
  let c128_65 : Index := 128#32
  ![0, v158.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c4_i32 : BitVec 32 := 4#32
  let c0_i32_0 : BitVec 32 := 0#32
  ![arg0.toNat, c0_i32.toNat, c4_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .smem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== WinCKernelIdeal.lean ====
variable {F : FTy → Type} [FloatOps F] [Named F]
def κ : String → Option EReal := fun
  | "mask" => some ⊥
  | _ => none
-- ==== WinCReferenceIdeal.lean ====
abbrev S4x4096x1280 : Shape := ⟨3, ![4, 4096, 1280]⟩
abbrev S4x4096x256 : Shape := ⟨3, ![4, 4096, 256]⟩
abbrev S8 : Shape := ⟨1, ![8]⟩
abbrev S4x4096x1024 : Shape := ⟨3, ![4, 4096, 1024]⟩
abbrev S4x4096x2x4x128 : Shape := ⟨5, ![4, 4096, 2, 4, 128]⟩
abbrev S4x4096x2x128 : Shape := ⟨4, ![4, 4096, 2, 128]⟩
abbrev S4x2x4096x4096x4 : Shape := ⟨5, ![4, 2, 4096, 4096, 4]⟩
abbrev S4x2x4x4096x4096 : Shape := ⟨5, ![4, 2, 4, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2x4 : Shape := ⟨2, ![2, 4]⟩
abbrev S1x2x4x1 : Shape := ⟨4, ![1, 2, 4, 1]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩
abbrev S4x4096x2x4 : Shape := ⟨4, ![4, 4096, 2, 4]⟩
abbrev S4x4096x2x4x1 : Shape := ⟨5, ![4, 4096, 2, 4, 1]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x1280, .bf16⟩
  | .hbm, ⟨1, _⟩ => ⟨S4x4096x256, .bf16⟩
  | .hbm, ⟨2, _⟩ => ⟨S8, .f32⟩
  | .hbm, ⟨3, _⟩ => ⟨S4x4096x1280, .f32⟩
  | .hbm, ⟨4, _⟩ => ⟨S4x4096x1024, .f32⟩
  | .hbm, ⟨5, _⟩ => ⟨S4x4096x2x4x128, .f32⟩
  | .hbm, ⟨6, _⟩ => ⟨S4x4096x256, .f32⟩
  | .hbm, ⟨7, _⟩ => ⟨S4x4096x2x128, .f32⟩
  | .hbm, ⟨8, _⟩ => ⟨S4x4096x256, .f32⟩
  | .hbm, ⟨9, _⟩ => ⟨S4x4096x2x128, .f32⟩
  | .hbm, ⟨10, _⟩ => ⟨S4x2x4096x4096x4, .f32⟩
  | .hbm, ⟨11, _⟩ => ⟨S4x2x4x4096x4096, .f32⟩
  | .hbm, ⟨12, _⟩ => ⟨S_, .f32⟩
  | .hbm, ⟨13, _⟩ => ⟨S4x2x4x4096x4096, .f32⟩
  | .hbm, ⟨14, _⟩ => ⟨S4x2x4x4096x4096, .f32⟩
  | .hbm, ⟨15, _⟩ => ⟨S4096, .i32⟩
  | .hbm, ⟨16, _⟩ => ⟨S4096x1, .i32⟩
  | .hbm, ⟨17, _⟩ => ⟨S1x4096, .i32⟩
  | .hbm, ⟨18, _⟩ => ⟨S4096x4096, .i32⟩
  | .hbm, ⟨19, _⟩ => ⟨S4096x4096, .i32⟩
  | .hbm, ⟨20, _⟩ => ⟨S4096x4096, .i32⟩
  | .hbm, ⟨21, _⟩ => ⟨S4096x4096, .i32⟩
  | .hbm, ⟨22, _⟩ => ⟨S_, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S4x2x4x4096x4096, .i1⟩
  | .hbm, ⟨28, _⟩ => ⟨S4x2x4x4096x4096, .f32⟩
  | .hbm, ⟨29, _⟩ => ⟨S4x2x4x4096x4096, .f32⟩
  | .hbm, ⟨30, _⟩ => ⟨S2x4, .f32⟩
  | .hbm, ⟨31, _⟩ => ⟨S1x2x4x1, .f32⟩
  | .hbm, ⟨32, _⟩ => ⟨S_, .f32⟩
  | .hbm, ⟨33, _⟩ => ⟨S4x2x4x4096, .f32⟩
  | .hbm, ⟨34, _⟩ => ⟨S4x2x4x4096, .f32⟩
  | .hbm, ⟨35, _⟩ => ⟨S4x2x4x4096, .f32⟩
  | .hbm, ⟨36, _⟩ => ⟨S4x2x4x4096x1, .f32⟩
  | .hbm, ⟨37, _⟩ => ⟨S4x2x4x4096x4096, .f32⟩
  | .hbm, ⟨38, _⟩ => ⟨S4x2x4x4096x4096, .f32⟩
  | .hbm, ⟨39, _⟩ => ⟨S4x2x4x4096x4096, .f32⟩
  | .hbm, ⟨40, _⟩ => ⟨S_, .f32⟩
  | .hbm, ⟨41, _⟩ => ⟨S4x2x4x4096, .f32⟩
  | .hbm, ⟨42, _⟩ => ⟨S4x2x4x4096, .f32⟩
  | .hbm, ⟨43, _⟩ => ⟨S4x2x4x4096, .f32⟩
  | .hbm, ⟨44, _⟩ => ⟨S4x2x4x4096, .f32⟩
  | .hbm, ⟨45, _⟩ => ⟨S4x2x4x4096, .f32⟩
  | .hbm, ⟨46, _⟩ => ⟨S4x2x128x4x4096, .f32⟩
  | .hbm, ⟨47, _⟩ => ⟨S4x4096x2x4x128, .f32⟩
  | .hbm, ⟨48, _⟩ => ⟨S4x4096x2x4, .f32⟩
  | .hbm, ⟨49, _⟩ => ⟨S4x4096x2x4x1, .f32⟩
  | .hbm, ⟨50, _⟩ => ⟨S4x4096x2x4x128, .f32⟩
  | .hbm, ⟨51, _⟩ => ⟨S4x4096x2x4x128, .f32⟩
  | .hbm, ⟨52, _⟩ => ⟨S4x4096x2x4x128, .bf16⟩
  | .hbm, ⟨53, _⟩ => ⟨S4x4096x1024, .bf16⟩
  | _, _ => ⟨S4x4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== Proof.DiffMath.lean ====
module

public import Idealize.ShloMosaic.Lib.Pipeline.ValueKit
public import Idealize.ShloMosaic.Lib.Pointwise

/-! # Differential attention, entry by entry

The layer's mathematics on extended reals: two softmax maps per head, their difference weighted by a learned scalar,
the weighted sum of the values, and a root-mean-square normalisation over the head. -/

@[expose] public section
noncomputable section
open Idealize.ShloMosaic

namespace Cert.DiffMath

/-- The largest entry of a row, started at the word for minus infinity. -/
def rowMax {n : Nat} (f : Fin n → EReal) : EReal :=
  Finset.fold max (Ideal.ofBits FTy.f32 0xFF800000#32) f Finset.univ

/-- Entry `k` of the softmax of a row. -/
def softmax {n : Nat} (f : Fin n → EReal) (k : Fin n) : EReal :=
  Ideal.div (Ideal.exp (f k - rowMax f)) (∑ x, Ideal.exp (f x - rowMax f))

/-- The scaled score of query row `q` against key row `k`, in batch `b`, head `h`, map `g`: a product over the 64
    features of that map. Keys lie 1024 columns after the queries. -/
def score (X : (⟨3, ![4, 4096, 2048]⟩ : Shape).Idx → EReal) (b : Fin 4) (h : Fin 8) (g : Fin 2) (q k : Fin 4096) : EReal :=
  (∑ d : Fin 64, X (ix3 b q ⟨h.val * 128 + g.val * 64 + d.val, by omega⟩)
      * X (ix3 b k ⟨1024 + (h.val * 128 + g.val * 64 + d.val), by omega⟩)) * Ideal.ofBits FTy.f32 0x3E000000#32

/-- The scalar that weights the second map. -/
def lambda (L : (⟨2, ![4, 64]⟩ : Shape).Idx → EReal) : EReal :=
  Ideal.exp (∑ x : Fin 64, L (ix2 0 x) * L (ix2 1 x)) - Ideal.exp (∑ x : Fin 64, L (ix2 2 x) * L (ix2 3 x))
    + Ideal.ofBits FTy.f32 0x3E4CCCCD#32

/-- The attention weight of key `k` for query `q`. -/
def weight (X : (⟨3, ![4, 4096, 2048]⟩ : Shape).Idx → EReal) (L : (⟨2, ![4, 64]⟩ : Shape).Idx → EReal)
    (b : Fin 4) (h : Fin 8) (q k : Fin 4096) : EReal :=
  softmax (score X b h 0 q) k - lambda L * softmax (score X b h 1 q) k

/-- The weighted sum of the value rows, feature `e` of head `h`. -/
def attended (X : (⟨3, ![4, 4096, 2048]⟩ : Shape).Idx → EReal) (V : (⟨3, ![4, 4096, 1024]⟩ : Shape).Idx → EReal)
    (L : (⟨2, ![4, 64]⟩ : Shape).Idx → EReal) (b : Fin 4) (h : Fin 8) (q : Fin 4096) (e : Fin 128) : EReal :=
  ∑ k : Fin 4096, weight X L b h q k * V (ix3 b k ⟨h.val * 128 + e.val, by omega⟩)

/-- A head's row divided by its root mean square, times the learned gain and the layer's constant. -/
def normed (o : Fin 128 → EReal) (W : Fin 128 → EReal) (e : Fin 128) : EReal :=
  o e * Ideal.rsqrt (Ideal.div (∑ x : Fin 128, o x * o x) (Ideal.ofBits FTy.f32 0x43000000#32)
    + Ideal.ofBits FTy.f32 0x3727C5AC#32) * W e * Ideal.ofBits FTy.f32 0x3F4CCCCD#32

/-- Taking the maximum with the starting value once more changes nothing. -/
theorem max_rowMax {n : Nat} (f : Fin n → EReal) :
    max (Ideal.ofBits FTy.f32 0xFF800000#32) (rowMax f) = rowMax f :=
  max_eq_right ((Finset.le_fold_max _).2 (Or.inl le_rfl))

/-- A sum over 128 lanes that keeps only the lanes below 64 is the sum over the first half. -/
theorem sum_low (f : Fin 128 → EReal) :
    (∑ x : Fin 128, Scalar.select (IntOp.cmpi .slt (BitVec.ofNat 32 x.val) 64#32) (f x) 0)
      = ∑ d : Fin 64, f ⟨d.val, by omega⟩ := by
  rw [Fin.sum_univ_two_halves 64 64 rfl]
  have hi : ∀ d : Fin 64, Scalar.select (IntOp.cmpi .slt (BitVec.ofNat 32 (64 + d.val)) 64#32) (f ⟨64 + d.val, by omega⟩) (0 : EReal) = 0 := by
    intro d
    rw [show IntOp.cmpi .slt (BitVec.ofNat 32 (64 + d.val)) 64#32 = 0#1 by revert d; decide]
    rfl
  have lo : ∀ d : Fin 64, Scalar.select (IntOp.cmpi .slt (BitVec.ofNat 32 d.val) 64#32) (f ⟨d.val, by omega⟩) (0 : EReal) = f ⟨d.val, by omega⟩ := by
    intro d
    rw [show IntOp.cmpi .slt (BitVec.ofNat 32 d.val) 64#32 = 1#1 by revert d; decide]
    rfl
  simp only [hi, lo, Finset.sum_const_zero, add_zero]

/-- The same for the lanes from 64 on. -/
theorem sum_high (f : Fin 128 → EReal) :
    (∑ x : Fin 128, Scalar.select (IntOp.cmpi .sge (BitVec.ofNat 32 x.val) 64#32) (f x) 0)
      = ∑ d : Fin 64, f ⟨64 + d.val, by omega⟩ := by
  rw [Fin.sum_univ_two_halves 64 64 rfl]
  have hi : ∀ d : Fin 64, Scalar.select (IntOp.cmpi .sge (BitVec.ofNat 32 (64 + d.val)) 64#32) (f ⟨64 + d.val, by omega⟩) (0 : EReal) = f ⟨64 + d.val, by omega⟩ := by
    intro d
    rw [show IntOp.cmpi .sge (BitVec.ofNat 32 (64 + d.val)) 64#32 = 1#1 by revert d; decide]
    rfl
  have lo : ∀ d : Fin 64, Scalar.select (IntOp.cmpi .sge (BitVec.ofNat 32 d.val) 64#32) (f ⟨d.val, by omega⟩) (0 : EReal) = 0 := by
    intro d
    rw [show IntOp.cmpi .sge (BitVec.ofNat 32 d.val) 64#32 = 0#1 by revert d; decide]
    rfl
  simp only [hi, lo, Finset.sum_const_zero, zero_add]

end Cert.DiffMath
-- ==== Proof.DiffValue.lean ====
module

public import proofs.«01_k».proof.Proof.Gen.DiffKernelIdeal.Value
public import Idealize.ShloMosaic.Lib.Pipeline.ValueKit
public import Idealize.ShloMosaic.Lib.Pointwise
public import Idealize.ShloMosaic.Lib.Claim
public import proofs.«01_k».proof.Proof.DiffMath

/-! # What the differential-attention kernel leaves in its result array -/

@[expose] public section
set_option maxRecDepth 16384
noncomputable section
open Idealize.ShloMosaic Idealize.ShloMosaic.TcCoe Idealize.SL.Sem
open Idealize.ShloMosaic.Pipeline (Dat)
namespace Cert.DiffKernelIdeal.Hand
open Cert.DiffKernelIdeal Cert.DiffKernelIdeal.Gen Cert.DiffMath

/-- The scaled score of row `r` of a query block against row `j` of a key block, map `g`. -/
def blockScore (q : FVec Ideal S1x256x128 .bf16) (k : FVec Ideal S1x4096x128 .bf16) (g : Fin 2) (r : Fin 256) (j : Fin 4096) : EReal :=
  (∑ d : Fin 64, q (ix3 0 r ⟨g.val * 64 + d.val, by omega⟩) * k (ix3 0 j ⟨g.val * 64 + d.val, by omega⟩)) * Ideal.ofBits FTy.f32 0x3E000000#32

/-- The body's scalar. -/
theorem scalar_at (L : FVec Ideal S4x64 .f32) : k0_pay2 (F := Ideal) L (ix2 0 0) = lambda L := by
  pointwise [k0_pay2]
  rfl

/-- The body's first softmax map. -/
theorem first_at (q : FVec Ideal S1x256x128 .bf16) (k : FVec Ideal S1x4096x128 .bf16) (r : Fin 256) (j : Fin 4096) :
    k0_pay6 (F := Ideal) q k (ix2 r j) = softmax (blockScore q k 0 r) j := by
  have e : ∀ x : Fin 4096, (∑ d : Fin 128, Scalar.select (IntOp.cmpi .slt (BitVec.ofNat 32 d.val) 64#32) (q (ix3 0 r d) * k (ix3 0 x d)) (0 : EReal)) * Ideal.ofBits FTy.f32 0x3E000000#32 = blockScore q k 0 r x := by
    intro x
    rw [sum_low (fun d => q (ix3 0 r d) * k (ix3 0 x d)), blockScore]
    simp only [Fin.val_zero, zero_mul, zero_add]
  pointwise [k0_pay6, k0_pay3, k0_pay4, k0_pay5]
  simp only [e]
  rfl

/-- The body's result block, from its input blocks. -/
theorem payload_at (L : FVec Ideal S4x64 .f32) (q : FVec Ideal S1x256x128 .bf16) (k : FVec Ideal S1x4096x128 .bf16) (v : FVec Ideal S1x4096x128 .bf16)
    (w : FVec Ideal S1x128 .f32) (r : Fin 256) (e : Fin 128) :
    k0_pay1 (F := Ideal) (k0_pay2 L) (k0_pay3 q) (k0_pay4 k) k0_pay5 (k0_pay6 q k) k0_pay7 v w (ix3 0 r e)
      = normed (fun e => ∑ j : Fin 4096, (softmax (blockScore q k 0 r) j - lambda L * softmax (blockScore q k 1 r) j) * v (ix3 0 j e))
          (fun e => w (ix2 0 e)) e := by
  have e1 : ∀ x : Fin 4096, (∑ d : Fin 128, Scalar.select (IntOp.cmpi .sge (BitVec.ofNat 32 d.val) 64#32) (q (ix3 0 r d) * k (ix3 0 x d)) (0 : EReal)) * Ideal.ofBits FTy.f32 0x3E000000#32 = blockScore q k 1 r x := by
    intro x
    rw [sum_high (fun d => q (ix3 0 r d) * k (ix3 0 x d)), blockScore]
    simp only [Fin.val_one, one_mul]
  generalize hb : k0_pay6 (F := Ideal) q k = b
  generalize hs : k0_pay2 (F := Ideal) L = s
  pointwise [k0_pay1, k0_pay3, k0_pay4, k0_pay5, k0_pay7]
  subst hb hs
  simp only [e1, scalar_at, first_at]
  rfl

variable (m : (ℓ : Loc nD τ sig) → Buf (Elt Ideal) ℓ)

/-- The blocks of a grid point: batch, head and query tile from the point's number. -/
theorem idx : ∀ t : Fin cfg0.N, win0_0.index t = ![0, 0] ∧ win0_1.index t = ![0, 0]
    ∧ win0_2.index t = ![t.val / 128, t.val % 16, t.val / 16 % 8] ∧ win0_3.index t = ![t.val / 128, 0, 8 + t.val / 16 % 8]
    ∧ win0_4.index t = ![t.val / 128, 0, t.val / 16 % 8] ∧ win0_5.index t = ![t.val / 128, t.val % 16, t.val / 16 % 8] :=
  (by decide +kernel : ∀ t : Fin grid0.N, _)

/-- The result array, entry by entry. -/
def REF (X : FVec Ideal S4x4096x2048 .bf16) (V : FVec Ideal S4x4096x1024 .bf16) (L : FVec Ideal S4x64 .f32) (W : FVec Ideal S128 .f32) :
    FVec Ideal S4x4096x1024 .bf16 :=
  fun i => normed (attended X V L (i 0) ⟨(i 2).val / 128, by have := (i 2).isLt; change (i 2).val < 1024 at this; omega⟩ (i 1)) (fun e => W (ix1 e)) ⟨(i 2).val % 128, by omega⟩

/-- The gain vector the launch holds as a one-row array. -/
theorem gain_at (c : Dev nD) (e : Fin 128) : (V m c main_v0 : FVec Ideal S1x128 .f32) (ix2 0 e) = (m ((c.tc : Thread nD τ).loc main_arg3) : FVec Ideal S128 .f32) (ix1 e) := by
  entry_read
  pointwise

/-- What a grid point stores is the result array's block there. -/
theorem point (c : Dev nD) (t : Fin cfg0.N) (r : Fin 256) (e : Fin 128) :
    k0_pay1 (k0_pay2 (iblk m c 0 t)) (k0_pay3 (iblk m c 2 t)) (k0_pay4 (iblk m c 3 t)) k0_pay5 (k0_pay6 (iblk m c 2 t) (iblk m c 3 t)) k0_pay7 (iblk m c 4 t) (iblk m c 1 t) (ix3 0 r e)
      = REF (m ((c.tc : Thread nD τ).loc main_arg0)) (m ((c.tc : Thread nD τ).loc main_arg1)) (m ((c.tc : Thread nD τ).loc main_arg2)) (m ((c.tc : Thread nD τ).loc main_arg3))
          (((cfg0.win 5).blk t).view.emb (ix3 0 r e)) := by
  obtain ⟨i0, i1, i2, i3, i4, i5⟩ := idx t
  have n : t.val < 512 := t.isLt
  have p : ((cfg0.win 5).blk t).view.emb (ix3 0 r e)
      = ix3 (⟨t.val / 128, by omega⟩ : Fin 4) (⟨t.val % 16 * 256 + r.val, by omega⟩ : Fin 4096) (⟨t.val / 16 % 8 * 128 + e.val, by omega⟩ : Fin 1024) := by
    blk_ext [i5]
  have bq : ∀ d : Fin 128, (iblk m c 2 t : FVec Ideal S1x256x128 .bf16) (ix3 0 r d)
      = (m ((c.tc : Thread nD τ).loc main_arg0) : FVec Ideal S4x4096x2048 .bf16)
        (ix3 (⟨t.val / 128, by omega⟩ : Fin 4) (⟨t.val % 16 * 256 + r.val, by omega⟩ : Fin 4096) (⟨t.val / 16 % 8 * 128 + d.val, by omega⟩ : Fin 2048)) := by
    intro d; blk_ext [iblk, V, i2]
  have bk : ∀ (j : Fin 4096) (d : Fin 128), (iblk m c 3 t : FVec Ideal S1x4096x128 .bf16) (ix3 0 j d)
      = (m ((c.tc : Thread nD τ).loc main_arg0) : FVec Ideal S4x4096x2048 .bf16)
        (ix3 (⟨t.val / 128, by omega⟩ : Fin 4) j (⟨1024 + (t.val / 16 % 8 * 128 + d.val), by omega⟩ : Fin 2048)) := by
    intro j d; blk_ext [iblk, V, i3]
  have bv : ∀ (j : Fin 4096) (d : Fin 128), (iblk m c 4 t : FVec Ideal S1x4096x128 .bf16) (ix3 0 j d)
      = (m ((c.tc : Thread nD τ).loc main_arg1) : FVec Ideal S4x4096x1024 .bf16)
        (ix3 (⟨t.val / 128, by omega⟩ : Fin 4) j (⟨t.val / 16 % 8 * 128 + d.val, by omega⟩ : Fin 1024)) := by
    intro j d; blk_ext [iblk, V, i4]
  have bl : (iblk m c 0 t : FVec Ideal S4x64 .f32) = (m ((c.tc : Thread nD τ).loc main_arg2) : FVec Ideal S4x64 .f32) := by
    funext i; blk_ext [iblk, V, i0]
  have bw : ∀ d : Fin 128, (iblk m c 1 t : FVec Ideal S1x128 .f32) (ix2 0 d) = (m ((c.tc : Thread nD τ).loc main_arg3) : FVec Ideal S128 .f32) (ix1 d) := by
    intro d
    rw [← gain_at m c d]
    blk_ext [iblk, i1]
  have bs : ∀ (g : Fin 2) (j : Fin 4096), blockScore (iblk m c 2 t) (iblk m c 3 t) g r j
      = score (m ((c.tc : Thread nD τ).loc main_arg0)) ⟨t.val / 128, by omega⟩ ⟨t.val / 16 % 8, by omega⟩ g ⟨t.val % 16 * 256 + r.val, by omega⟩ j := by
    intro g j
    unfold blockScore score
    simp only [bq, bk, add_assoc]
  refine (payload_at _ _ _ _ _ r e).trans ?_
  rw [p, bl]
  unfold REF
  have q1 : (t.val / 16 % 8 * 128 + e.val) / 128 = t.val / 16 % 8 := by omega
  have q2 : (t.val / 16 % 8 * 128 + e.val) % 128 = e.val := by omega
  simp only [ix3_0, ix3_1, ix3_2, q1, q2, bw, bv, funext (bs _)]
  rfl

/-- The result array after the run. -/
theorem final (c : Dev nD) : (dats m 0 c).arrAt 5 cfg0.N
    = REF (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t _ y => ?_
  blk_simp
  rw [after0_5]
  frame_out
  idx_vars y
  obtain rfl : y0 = 0 := Subsingleton.elim y0 0
  exact point m c t y1 y2

end Cert.DiffKernelIdeal.Hand
-- ==== Proof.DiffRef.lean ====
module

public import proofs.«01_k».proof.Proof.Gen.DiffReferenceIdeal.Run
public import Idealize.ShloMosaic.Lib.Pointwise
public import proofs.«01_k».proof.Proof.DiffMath

/-! # What the differential-attention reference returns, entry by entry -/

@[expose] public section
set_option maxRecDepth 16384
noncomputable section
open Idealize.ShloMosaic Idealize.ShloMosaic.TcCoe Idealize.SL.Sem
namespace Cert.DiffReferenceIdeal.Hand
open Cert.DiffReferenceIdeal Cert.DiffReferenceIdeal.Gen Cert.DiffMath

/-- A five-axis index made from a four-axis one and a last coordinate. -/
theorem lift5 {a b c n m : Nat} (w : (⟨5, ![a, b, c, n, m]⟩ : Shape).Reduces [4] ⟨4, ![a, b, c, n]⟩)
    (i : Fin a) (j : Fin b) (g : Fin c) (q : Fin n) (k : Fin ((⟨5, ![a, b, c, n, m]⟩ : Shape).size 4)) :
    w.lift (ix4 i j g q) k = ix5 i j g q k := by
  funext x
  apply Fin.ext
  rw [Shape.Reduces.lift_val]
  fin_cases x <;> rfl

/-- The maximum over the last of five axes, at an index, for any sizes. -/
theorem maxLast {a b c n m : Nat} (s : FVec Ideal (⟨5, ![a, b, c, n, m]⟩ : Shape) .f32)
    (w' : (⟨5, ![a, b, c, n, m]⟩ : Shape).ReducesTo [4] ⟨4, ![a, b, c, n]⟩)
    (w : (⟨5, ![a, b, c, n, m]⟩ : Shape).Reduces [4] ⟨4, ![a, b, c, n]⟩)
    (z : FVec Ideal (⟨0, ![]⟩ : Shape) .f32) (hz : 0 < (⟨0, ![]⟩ : Shape).numel)
    (y : FVec Ideal (⟨4, ![a, b, c, n]⟩ : Shape) .f32) (i : Fin a) (j : Fin b) (g : Fin c) (q : Fin n) :
    maximumf y (Host.reduce FloatOps.maximumf s z w' hz) (ix4 i j g q)
      = max (y (ix4 i j g q)) (Finset.fold max (z (Shape.Idx.first hz)) (fun k : Fin m => s (ix5 i j g q k)) Finset.univ) := by
  show FloatOps.maximumf (y (ix4 i j g q)) (Host.reduce FloatOps.maximumf s z w' hz (ix4 i j g q)) = _
  rw [Host.reduce_eq_fold_single FloatOps.maximumf s _ w' w hz]
  rw [show (s ∘ w.lift (ix4 i j g q)) = fun k => s (ix5 i j g q k) from funext fun k => congrArg s (lift5 w i j g q k)]
  rfl

/-- The scores of all heads and both maps. -/
def scores (X : FVec Ideal S4x4096x2048 .bf16) : FVec Ideal S4x8x2x4096x4096 .f32 :=
  mulf (Host.dotGeneral dot_S4x4096x8x2x64_S4x4096x8x2x64_S4x8x2x4096x4096_4_4_1_1_023_023 none
      (shapeCast S4x4096x8x2x64 (extractStridedSlice S4x4096x1024 ![0, 0, 0] (extf .f32 X bitsLt_bf16_f32) slices_S4x4096x2048_S4x4096x1024_0_0_0) shapeCasts_S4x4096x1024_S4x4096x8x2x64)
      (shapeCast S4x4096x8x2x64 (extractStridedSlice S4x4096x1024 ![0, 0, 1024] (extf .f32 X bitsLt_bf16_f32) slices_S4x4096x2048_S4x4096x1024_0_0_1024) shapeCasts_S4x4096x1024_S4x4096x8x2x64))
    (broadcastInDim S4x8x2x4096x4096 ![] bcast_S_S4x8x2x4096x4096 (constant S_ .f32 0x3E000000#32))

/-- The largest score of each row. -/
def rowmax (s : FVec Ideal S4x8x2x4096x4096 .f32) : FVec Ideal S4x8x2x4096 .f32 :=
  maximumf (broadcastInDim S4x8x2x4096 ![] bcast_S_S4x8x2x4096 (constant S_ .f32 0xFF800000#32))
    (Host.reduce FloatOps.maximumf s (constant S_ .f32 0xFF800000#32) reducesTo_S4x8x2x4096x4096_S4x8x2x4096_d4 h_S_)

/-- The exponentials of the scores less a value per row. -/
def shifted (s : FVec Ideal S4x8x2x4096x4096 .f32) (w : FVec Ideal S4x8x2x4096 .f32) : FVec Ideal S4x8x2x4096x4096 .f32 :=
  Host.exp (subf s (broadcastInDim S4x8x2x4096x4096 ![0, 1, 2, 3, 4] bcast_S4x8x2x4096x1_S4x8x2x4096x4096_0_1_2_3_4
    (broadcastInDim S4x8x2x4096x1 ![0, 1, 2, 3] bcast_S4x8x2x4096_S4x8x2x4096x1_0_1_2_3 w)))

/-- Each row divided by its sum. -/
def normalised (e : FVec Ideal S4x8x2x4096x4096 .f32) : FVec Ideal S4x8x2x4096x4096 .f32 :=
  Host.divf e (broadcastInDim S4x8x2x4096x4096 ![0, 1, 2, 3, 4] bcast_S4x8x2x4096x1_S4x8x2x4096x4096_0_1_2_3_4
    (broadcastInDim S4x8x2x4096x1 ![0, 1, 2, 3] bcast_S4x8x2x4096_S4x8x2x4096x1_0_1_2_3
      (Host.reduceAdd e (constant S_ .f32 0x00000000#32) reducesTo_S4x8x2x4096x4096_S4x8x2x4096_d4 h_S_)))

/-- The learned scalar. -/
def scalar (L : FVec Ideal S4x64 .f32) : FVec Ideal S_ .f32 :=
  addf (subf
      (Host.exp (Host.reduceAdd (mulf (shapeCast S64 (extractStridedSlice S1x64 ![0, 0] L slices_S4x64_S1x64_0_0) shapeCasts_S1x64_S64) (shapeCast S64 (extractStridedSlice S1x64 ![1, 0] L slices_S4x64_S1x64_1_0) shapeCasts_S1x64_S64)) (constant S_ .f32 0x00000000#32) reducesTo_S64_S_d0 h_S_))
      (Host.exp (Host.reduceAdd (mulf (shapeCast S64 (extractStridedSlice S1x64 ![2, 0] L slices_S4x64_S1x64_2_0) shapeCasts_S1x64_S64) (shapeCast S64 (extractStridedSlice S1x64 ![3, 0] L slices_S4x64_S1x64_3_0) shapeCasts_S1x64_S64)) (constant S_ .f32 0x00000000#32) reducesTo_S64_S_d0 h_S_)))
    (constant S_ .f32 0x3E4CCCCD#32)

/-- The first map less the scalar times the second. -/
def mixed (a : FVec Ideal S4x8x2x4096x4096 .f32) (l : FVec Ideal S_ .f32) : FVec Ideal S4x8x4096x4096 .f32 :=
  subf (shapeCast S4x8x4096x4096 (extractStridedSlice S4x8x1x4096x4096 ![0, 0, 0, 0, 0] a slices_S4x8x2x4096x4096_S4x8x1x4096x4096_0_0_0_0_0) shapeCasts_S4x8x1x4096x4096_S4x8x4096x4096)
    (mulf (broadcastInDim S4x8x4096x4096 ![] bcast_S_S4x8x4096x4096 l)
      (shapeCast S4x8x4096x4096 (extractStridedSlice S4x8x1x4096x4096 ![0, 0, 1, 0, 0] a slices_S4x8x2x4096x4096_S4x8x1x4096x4096_0_0_1_0_0) shapeCasts_S4x8x1x4096x4096_S4x8x4096x4096))

/-- The weights applied to the values, heads moved behind the rows. -/
def applied (V : FVec Ideal S4x4096x1024 .bf16) (a : FVec Ideal S4x8x4096x4096 .f32) : FVec Ideal S4x4096x8x128 .f32 :=
  transpose S4x4096x8x128 [0, 3, 1, 2] (Host.dotGeneral dot_S4x4096x8x128_S4x8x4096x4096_S4x8x128x4096_1_3_3_2_02_01 none
    (shapeCast S4x4096x8x128 (extf .f32 V bitsLt_bf16_f32) shapeCasts_S4x4096x1024_S4x4096x8x128) a) transposes_S4x8x128x4096_S4x4096x8x128_0_3_1_2

/-- The normalisation of every head, put back into rows of 1024. -/
def finished (o : FVec Ideal S4x4096x8x128 .f32) (W : FVec Ideal S128 .f32) : FVec Ideal S4x4096x1024 .bf16 :=
  shapeCast S4x4096x1024 (truncf .bf16 (mulf (mulf (mulf o (broadcastInDim S4x4096x8x128 ![0, 1, 2, 3] bcast_S4x4096x8x1_S4x4096x8x128_0_1_2_3
      (Host.rsqrt (addf (Host.divf (broadcastInDim S4x4096x8x1 ![0, 1, 2] bcast_S4x4096x8_S4x4096x8x1_0_1_2
        (Host.reduceAdd (mulf o o) (constant S_ .f32 0x00000000#32) reducesTo_S4x4096x8x128_S4x4096x8_d3 h_S_)) (broadcastInDim S4x4096x8x1 ![] bcast_S_S4x4096x8x1 (constant S_ .f32 0x43000000#32)))
        (broadcastInDim S4x4096x8x1 ![] bcast_S_S4x4096x8x1 (constant S_ .f32 0x3727C5AC#32))))))
      (broadcastInDim S4x4096x8x128 ![0, 1, 2, 3] bcast_S1x1x1x128_S4x4096x8x128_0_1_2_3 (broadcastInDim S1x1x1x128 ![3] bcast_S128_S1x1x1x128_3 W)))
      (broadcastInDim S4x4096x8x128 ![] bcast_S_S4x4096x8x128 (constant S_ .f32 0x3F4CCCCD#32))) bitsLt_bf16_f32) shapeCasts_S4x4096x8x128_S4x4096x1024

/-- The reference's whole result, stage by stage. -/
theorem result_eq (m : (ℓ : Loc nD τ sig) → Buf (Elt Ideal) ℓ) (c : Dev nD) :
    Cert.DiffReferenceIdeal.Value.res_out0 m c
      = finished (applied (m ((c.tc : Thread nD τ).loc main_arg1))
          (mixed (normalised (shifted (scores (m ((c.tc : Thread nD τ).loc main_arg0))) (rowmax (scores (m ((c.tc : Thread nD τ).loc main_arg0))))))
            (scalar (m ((c.tc : Thread nD τ).loc main_arg2)))))
          (m ((c.tc : Thread nD τ).loc main_arg3)) := by
  rfl

/-- A score is the specification's. -/
theorem scores_at (X : FVec Ideal S4x4096x2048 .bf16) (b : Fin 4) (h : Fin 8) (g : Fin 2) (q k : Fin 4096) :
    scores X (ix5 b h g q k) = score X b h g q k := by
  pointwise [scores]
  rfl

theorem reduces4 : S4x8x2x4096x4096.Reduces [4] S4x8x2x4096 := by decide

/-- The largest score of a row. -/
theorem rowmax_at (s : FVec Ideal S4x8x2x4096x4096 .f32) (b : Fin 4) (h : Fin 8) (g : Fin 2) (q : Fin 4096) :
    rowmax s (ix4 b h g q) = rowMax fun k => s (ix5 b h g q k) :=
  (maxLast s reducesTo_S4x8x2x4096x4096_S4x8x2x4096_d4 reduces4 _ h_S_ _ b h g q).trans (max_rowMax _)

theorem shifted_at (s : FVec Ideal S4x8x2x4096x4096 .f32) (w : FVec Ideal S4x8x2x4096 .f32) (b : Fin 4) (h : Fin 8) (g : Fin 2) (q k : Fin 4096) :
    shifted s w (ix5 b h g q k) = Ideal.exp (s (ix5 b h g q k) - w (ix4 b h g q)) := by
  pointwise [shifted]

theorem normalised_at (s : FVec Ideal S4x8x2x4096x4096 .f32) (b : Fin 4) (h : Fin 8) (g : Fin 2) (q k : Fin 4096) :
    normalised s (ix5 b h g q k) = Ideal.div (s (ix5 b h g q k)) (∑ x : Fin 4096, s (ix5 b h g q x)) := by
  pointwise [normalised]

theorem scalar_at (L : FVec Ideal S4x64 .f32) (i : S_.Idx) : scalar L i = lambda L := by
  pointwise [scalar]
  rfl

theorem mixed_at (a : FVec Ideal S4x8x2x4096x4096 .f32) (l : FVec Ideal S_ .f32) (b : Fin 4) (h : Fin 8) (q k : Fin 4096) :
    mixed a l (ix4 b h q k) = a (ix5 b h 0 q k) - l ix0 * a (ix5 b h 1 q k) := by
  pointwise [mixed]

theorem applied_at (V : FVec Ideal S4x4096x1024 .bf16) (a : FVec Ideal S4x8x4096x4096 .f32) (b : Fin 4) (h : Fin 8) (q : Fin 4096) (e : Fin 128) :
    applied V a (ix4 b q h e) = ∑ k : Fin 4096, V (ix3 b k ⟨h.val * 128 + e.val, by omega⟩) * a (ix4 b h q k) := by
  pointwise [applied]

theorem finished_at (o : FVec Ideal S4x4096x8x128 .f32) (W : FVec Ideal S128 .f32) (b : Fin 4) (q : Fin 4096) (w : Fin 1024) :
    finished o W (ix3 b q w) = normed (fun e => o (ix4 b q ⟨w.val / 128, by omega⟩ e)) (fun e => W (ix1 e)) ⟨w.val % 128, by omega⟩ := by
  pointwise [finished]
  rfl

/-- **The reference's result at an entry.** -/
theorem result_at (m : (ℓ : Loc nD τ sig) → Buf (Elt Ideal) ℓ) (c : Dev nD) (b : Fin 4) (q : Fin 4096) (w : Fin 1024) :
    (Cert.DiffReferenceIdeal.Value.res_out0 m c : FVec Ideal S4x4096x1024 .bf16) (ix3 b q w)
      = normed (attended (m ((c.tc : Thread nD τ).loc main_arg0)) (m ((c.tc : Thread nD τ).loc main_arg1))
          (m ((c.tc : Thread nD τ).loc main_arg2)) b ⟨w.val / 128, by omega⟩ q)
          (fun e => (m ((c.tc : Thread nD τ).loc main_arg3) : FVec Ideal S128 .f32) (ix1 e)) ⟨w.val % 128, by omega⟩ := by
  rw [result_eq, finished_at]
  congr 1
  funext e
  rw [applied_at]
  unfold attended
  refine Finset.sum_congr rfl fun k _ => ?_
  rw [mul_comm, mixed_at, normalised_at, normalised_at, scalar_at]
  simp only [shifted_at, rowmax_at, scores_at]
  rfl

end Cert.DiffReferenceIdeal.Hand
-- ==== Proof.WinMath.lean ====
module

public import proofs.«01_k».proof.Proof.DiffMath
public import Idealize.ShloMosaic.Lib.Pointwise
public import Idealize.ShloMosaic.Adequacy

/-! # Attention over a band of keys: numbers

A row of scores that is minus infinity outside a window of keys gives the same result over all keys and over the window. -/

@[expose] public section
noncomputable section
open Idealize.ShloMosaic

namespace Cert.WinMath

/-- The weighted mean of values `V`, weighted by the exponentials of the scores `S`, with `z` as a further score in the
    denominator. -/
def attend {n : Nat} (S V : Fin n → EReal) (z : EReal) : EReal :=
  Ideal.div (∑ k, Ideal.exp (S k - max (DiffMath.rowMax S) z) * V k)
    ((∑ k, Ideal.exp (S k - max (DiffMath.rowMax S) z)) + Ideal.exp (z - max (DiffMath.rowMax S) z))

/-- Whether two positions are at most 128 apart, as the word that a comparison gives. -/
def near (q k : Nat) : BitVec 1 :=
  IntOp.cmpi .sle (IntOp.absi (BitVec.ofNat 32 q - BitVec.ofNat 32 k)) 128#32

/-- The word for minus infinity is minus infinity. -/
theorem lowest : Ideal.ofBits FTy.f32 0xFF800000#32 = (⊥ : EReal) := by
  simp [Ideal.ofBits, Ideal.ieee]

/-- Minus infinity has exponential zero, whatever is subtracted from it. -/
theorem exp_low (m : EReal) : Ideal.exp (⊥ - m) = 0 := by
  rw [sub_eq_add_neg, EReal.bot_add]
  rfl

/-- The largest score of all keys is the largest of the window. -/
theorem rowMax_window (S : Fin 4096 → EReal) (st : Nat) (hst : st + 512 ≤ 4096)
    (out : ∀ k : Fin 4096, k.val < st ∨ st + 512 ≤ k.val → S k = ⊥) :
    DiffMath.rowMax S = DiffMath.rowMax fun w : Fin 512 => S ⟨st + w.val, by omega⟩ := by
  unfold DiffMath.rowMax
  rw [lowest]
  apply le_antisymm
  · refine (Finset.fold_max_le _).2 ⟨bot_le, fun k _ => ?_⟩
    by_cases h : k.val < st ∨ st + 512 ≤ k.val
    · rw [out k h]
      exact bot_le
    · refine (Finset.le_fold_max _).2 (Or.inr ⟨⟨k.val - st, by omega⟩, Finset.mem_univ _, le_of_eq ?_⟩)
      exact congrArg S (Fin.ext (show k.val = st + (k.val - st) by omega))
  · refine (Finset.fold_max_le _).2 ⟨bot_le, fun w _ => ?_⟩
    exact (Finset.le_fold_max _).2 (Or.inr ⟨⟨st + w.val, by omega⟩, Finset.mem_univ _, le_rfl⟩)

/-- A sum over all keys of what vanishes outside the window is the sum over the window. -/
theorem sum_window (f : Fin 4096 → EReal) (st : Nat) (hst : st + 512 ≤ 4096)
    (out : ∀ k : Fin 4096, k.val < st ∨ st + 512 ≤ k.val → f k = 0) :
    ∑ k, f k = ∑ w : Fin 512, f ⟨st + w.val, by omega⟩ := by
  refine (Fintype.sum_of_injective (fun w : Fin 512 => (⟨st + w.val, by omega⟩ : Fin 4096)) ?_ _ _ ?_ fun _ => rfl).symm
  · intro a b h
    exact Fin.ext (by have := congrArg Fin.val h; dsimp only at this; omega)
  · intro k hk
    refine out k ?_
    by_contra h
    exact hk ⟨⟨k.val - st, by omega⟩, Fin.ext (show st + (k.val - st) = k.val by omega)⟩

/-- The result over all keys is the result over the window. -/
theorem attend_window (S V : Fin 4096 → EReal) (z : EReal) (st : Nat) (hst : st + 512 ≤ 4096)
    (out : ∀ k : Fin 4096, k.val < st ∨ st + 512 ≤ k.val → S k = ⊥) :
    attend S V z = attend (fun w : Fin 512 => S ⟨st + w.val, by omega⟩) (fun w : Fin 512 => V ⟨st + w.val, by omega⟩) z := by
  unfold attend
  rw [← rowMax_window S st hst out, sum_window (fun k => Ideal.exp (S k - max (DiffMath.rowMax S) z) * V k) st hst (fun k h => by rw [out k h, exp_low, zero_mul]),
    sum_window (fun k => Ideal.exp (S k - max (DiffMath.rowMax S) z)) st hst (fun k h => by rw [out k h, exp_low])]

/-- Two positions more than 128 apart are not near. -/
theorem not_near (q k : Nat) (hq : q < 4096) (hk : k < 4096) (h : k + 128 < q ∨ q + 128 < k) : near q k = 0#1 := by
  have up : ∀ d : Fin 4096, 128 < d.val → IntOp.cmpi .sle (IntOp.absi (BitVec.ofNat 32 d.val)) 128#32 = 0#1 := by decide +kernel
  have down : ∀ d : Fin 4096, 128 < d.val → IntOp.cmpi .sle (IntOp.absi (-BitVec.ofNat 32 d.val)) 128#32 = 0#1 := by decide +kernel
  unfold near
  rcases h with h | h
  · have e : BitVec.ofNat 32 q - BitVec.ofNat 32 k = BitVec.ofNat 32 (q - k) := by
      conv_lhs => rw [show q = (q - k) + k by omega, BitVec.ofNat_add]
      exact BitVec.add_sub_cancel _ _
    rw [e]
    exact up ⟨q - k, by omega⟩ (show 128 < q - k by omega)
  · have e : BitVec.ofNat 32 q - BitVec.ofNat 32 k = -BitVec.ofNat 32 (k - q) := by
      conv_lhs => rw [show k = (k - q) + q by omega, BitVec.ofNat_add]
      bv_omega
    rw [e]
    exact down ⟨k - q, by omega⟩ (show 128 < k - q by omega)

/-- The score of key `k` for query `q` in head `h` of batch `b`, minus infinity where the two are more than 128 apart. -/
def score (A : (⟨3, ![4, 4096, 1280]⟩ : Shape).Idx → EReal) (b : Fin 4) (h : Fin 8) (q k : Fin 4096) : EReal :=
  Scalar.select (near q.val k.val)
    ((∑ x : Fin 128, A (ix3 b q ⟨h.val * 128 + x.val, by omega⟩) * A (ix3 b k ⟨1024 + (h.val / 4 * 128 + x.val), by omega⟩)) * Ideal.ofBits FTy.f32 0x3DB504F3#32) ⊥

/-- The attention's result for query `q` in head `h` of batch `b`. -/
def result (A : (⟨3, ![4, 4096, 1280]⟩ : Shape).Idx → EReal) (B : (⟨3, ![4, 4096, 256]⟩ : Shape).Idx → EReal) (C : (⟨1, ![8]⟩ : Shape).Idx → EReal)
    (b : Fin 4) (h : Fin 8) (q : Fin 4096) (d : Fin 128) : EReal :=
  attend (score A b h q) (fun k => B (ix3 b k ⟨h.val / 4 * 128 + d.val, by omega⟩)) (C (ix1 h))

/-- The result for a query from a window of keys that holds all those at most 128 away. -/
theorem result_window (A : (⟨3, ![4, 4096, 1280]⟩ : Shape).Idx → EReal) (B : (⟨3, ![4, 4096, 256]⟩ : Shape).Idx → EReal) (C : (⟨1, ![8]⟩ : Shape).Idx → EReal)
    (b : Fin 4) (h : Fin 8) (q : Fin 4096) (d : Fin 128) (st : Nat) (hst : st + 512 ≤ 4096) (lo : st ≤ q.val - 128) (hi : q.val + 128 < st + 512 ∨ st + 512 = 4096) :
    result A B C b h q d = attend (fun w : Fin 512 => score A b h q ⟨st + w.val, by omega⟩)
      (fun w : Fin 512 => B (ix3 b ⟨st + w.val, by omega⟩ ⟨h.val / 4 * 128 + d.val, by omega⟩)) (C (ix1 h)) := by
  unfold result
  refine attend_window _ _ _ st hst fun k hk => ?_
  unfold score
  rw [not_near q.val k.val q.isLt k.isLt (by omega)]
  rfl

end Cert.WinMath
-- ==== Proof.WinRef.lean ====
module

public import proofs.«01_k».proof.Proof.Gen.WinCReferenceIdeal
public import proofs.«01_k».proof.Proof.Gen.WinCReferenceIdeal.Run
public import proofs.«01_k».proof.Proof.WinMath
public import proofs.«01_k».proof.Proof.DiffRef
public import Idealize.ShloMosaic.Lib.Pointwise

/-! # What the windowed-attention reference returns, entry by entry -/

@[expose] public section
set_option maxRecDepth 16384
noncomputable section
open Idealize.ShloMosaic Idealize.ShloMosaic.TcCoe Idealize.SL.Sem

namespace Cert.WinCReferenceIdeal.Hand
open Cert.WinCReferenceIdeal Cert.WinCReferenceIdeal.Gen Cert.WinMath

/-- The scores of the reference, masked. -/
def scores (A : FVec Ideal S4x4096x1280 .bf16) : FVec Ideal S4x2x4x4096x4096 .f32 :=
  (select (broadcastInDim S4x2x4x4096x4096 ![3, 4] bcast_S4096x4096_S4x2x4x4096x4096_3_4 (cmpi .sle (absi (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))) (broadcastInDim S4096x4096 ![] bcast_S_S4096x4096 (constantI S_ 32 128#32)))) (mulf (transpose S4x2x4x4096x4096 [0, 1, 4, 3, 2] (Host.dotGeneral dot_S4x4096x2x128_S4x4096x2x4x128_S4x2x4096x4096x4_3_4_1_13_02_02 none (shapeCast _ (extractStridedSlice S4x4096x256 ![0, 0, 1024] (extf .f32 A bitsLt_bf16_f32) slices_S4x4096x1280_S4x4096x256_0_0_1024) shapeCasts_S4x4096x256_S4x4096x2x128) (shapeCast _ (extractStridedSlice S4x4096x1024 ![0, 0, 0] (extf .f32 A bitsLt_bf16_f32) slices_S4x4096x1280_S4x4096x1024_0_0_0) shapeCasts_S4x4096x1024_S4x4096x2x4x128)) transposes_S4x2x4096x4096x4_S4x2x4x4096x4096_0_1_4_3_2) (broadcastInDim S4x2x4x4096x4096 ![] bcast_S_S4x2x4x4096x4096 (constant S_ .f32 0x3DB504F3#32))) (broadcastInDim S4x2x4x4096x4096 ![] bcast_S_S4x2x4x4096x4096 (id (constant S_ .f32 0xFF800000#32))))

/-- The sinks, one for each head, for every query. -/
def sinks (C : FVec Ideal S8 .f32) : FVec Ideal S4x2x4x4096 .f32 :=
  (broadcastInDim S4x2x4x4096 ![0, 1, 2, 3] bcast_S1x2x4x1_S4x2x4x4096_0_1_2_3 (broadcastInDim S1x2x4x1 ![1, 2] bcast_S2x4_S1x2x4x1_1_2 (shapeCast _ C shapeCasts_S8_S2x4)))

/-- The greatest of each query's scores and its sink. -/
def tops (S : FVec Ideal S4x2x4x4096x4096 .f32) (Z : FVec Ideal S4x2x4x4096 .f32) : FVec Ideal S4x2x4x4096 .f32 :=
  (maximumf (Host.reduce FloatOps.maximumf S (constant S_ .f32 0xFF800000#32) reducesTo_S4x2x4x4096x4096_S4x2x4x4096_d4 h_S_) Z)

/-- The exponentials of the scores. -/
def weights (S : FVec Ideal S4x2x4x4096x4096 .f32) (T : FVec Ideal S4x2x4x4096 .f32) : FVec Ideal S4x2x4x4096x4096 .f32 :=
  (Host.exp (subf S (broadcastInDim S4x2x4x4096x4096 ![0, 1, 2, 3, 4] bcast_S4x2x4x4096x1_S4x2x4x4096x4096_0_1_2_3_4 (broadcastInDim S4x2x4x4096x1 ![0, 1, 2, 3] bcast_S4x2x4x4096_S4x2x4x4096x1_0_1_2_3 T))))

/-- The weighted means of the values, laid out as the result. -/
def join (B : FVec Ideal S4x4096x256 .bf16) (Z : FVec Ideal S4x2x4x4096 .f32) (T : FVec Ideal S4x2x4x4096 .f32) (W : FVec Ideal S4x2x4x4096x4096 .f32) : FVec Ideal S4x4096x1024 .bf16 :=
  shapeCast _ (truncf .bf16 (Host.divf (transpose S4x4096x2x4x128 [0, 4, 1, 3, 2] (Host.dotGeneral dot_S4x4096x2x128_S4x2x4x4096x4096_S4x2x128x4x4096_1_4_3_23_02_01 none (shapeCast _ (extf .f32 B bitsLt_bf16_f32) shapeCasts_S4x4096x256_S4x4096x2x128) W) transposes_S4x2x128x4x4096_S4x4096x2x4x128_0_4_1_3_2) (broadcastInDim S4x4096x2x4x128 ![0, 1, 2, 3, 4] bcast_S4x4096x2x4x1_S4x4096x2x4x128_0_1_2_3_4 (broadcastInDim S4x4096x2x4x1 ![0, 1, 2, 3] bcast_S4x4096x2x4_S4x4096x2x4x1_0_1_2_3 (transpose S4x4096x2x4 [0, 3, 1, 2] (addf (Host.reduceAdd W (constant S_ .f32 0x00000000#32) reducesTo_S4x2x4x4096x4096_S4x2x4x4096_d4 h_S_) (Host.exp (subf Z T))) transposes_S4x2x4x4096_S4x4096x2x4_0_3_1_2)))) bitsLt_bf16_f32) shapeCasts_S4x4096x2x4x128_S4x4096x1024

/-- The reference's result. -/
def term (A : FVec Ideal S4x4096x1280 .bf16) (B : FVec Ideal S4x4096x256 .bf16) (C : FVec Ideal S8 .f32) : FVec Ideal S4x4096x1024 .bf16 :=
  join B (sinks C) (tops (scores A) (sinks C)) (weights (scores A) (tops (scores A) (sinks C)))

theorem result_eq (m : (ℓ : Loc nD τ sig) → Buf (Elt Ideal) ℓ) (c : Dev nD) : Value.res_out0 m c
    = term (m ((c.tc : Thread nD τ).loc main_arg0)) (m ((c.tc : Thread nD τ).loc main_arg1)) (m ((c.tc : Thread nD τ).loc main_arg2)) := rfl

/-- A masked score of the reference. -/
theorem scores_at (A : FVec Ideal S4x4096x1280 .bf16) (b : Fin 4) (g : Fin 2) (h : Fin 4) (q k : Fin 4096) :
    scores A (ix5 b g h q k) = score A b ⟨g.val * 4 + h.val, by omega⟩ q k := by
  pointwise [scores]
  have e : (id (constant (F := Ideal) S_ FTy.f32 0xFF800000#32) ix0 : EReal) = ⊥ := lowest
  rw [e]
  unfold score near
  refine congrArg (fun z => Scalar.select _ (z * Ideal.ofBits FTy.f32 0x3DB504F3#32) (⊥ : EReal)) (Finset.sum_congr rfl fun x _ => ?_)
  rw [mul_comm]
  refine congrArg₂ (· * ·) (congrArg A (congrArg (ix3 b q) (Fin.ext ?_))) (congrArg A (congrArg (ix3 b k) (Fin.ext ?_)))
  · dsimp only; omega
  · dsimp only; omega

/-- A sink, by its head. -/
theorem sinks_at (C : FVec Ideal S8 .f32) (b : Fin 4) (g : Fin 2) (h : Fin 4) (q : Fin 4096) :
    sinks C (ix4 b g h q) = C (ix1 (⟨g.val * 4 + h.val, by omega⟩ : Fin 8)) := by
  pointwise [sinks]

/-- The last axis of the scores can be reduced. -/
theorem last : (⟨5, ![4, 2, 4, 4096, 4096]⟩ : Shape).Reduces [4] ⟨4, ![4, 2, 4, 4096]⟩ := by decide

/-- The maximum over the last of five axes and a further value, at an index, for any sizes. -/
theorem maxOver {a b c n e : Nat} (s : FVec Ideal (⟨5, ![a, b, c, n, e]⟩ : Shape) .f32)
    (w' : (⟨5, ![a, b, c, n, e]⟩ : Shape).ReducesTo [4] ⟨4, ![a, b, c, n]⟩) (w : (⟨5, ![a, b, c, n, e]⟩ : Shape).Reduces [4] ⟨4, ![a, b, c, n]⟩)
    (z : FVec Ideal (⟨0, ![]⟩ : Shape) .f32) (hz : 0 < (⟨0, ![]⟩ : Shape).numel)
    (y : FVec Ideal (⟨4, ![a, b, c, n]⟩ : Shape) .f32) (i : Fin a) (j : Fin b) (g : Fin c) (q : Fin n) :
    maximumf (Host.reduce FloatOps.maximumf s z w' hz) y (ix4 i j g q)
      = max (Finset.fold max (z (Shape.Idx.first hz)) (fun k : Fin e => s (ix5 i j g q k)) Finset.univ) (y (ix4 i j g q)) :=
  (max_comm _ _).trans ((DiffReferenceIdeal.Hand.maxLast s w' w z hz y i j g q).trans (max_comm _ _))

/-- The greatest score of a query, or its sink. -/
theorem tops_at (S : FVec Ideal S4x2x4x4096x4096 .f32) (Z : FVec Ideal S4x2x4x4096 .f32) (b : Fin 4) (g : Fin 2) (h : Fin 4) (q : Fin 4096) :
    tops S Z (ix4 b g h q) = max (DiffMath.rowMax fun k : Fin 4096 => S (ix5 b g h q k)) (Z (ix4 b g h q)) := by
  unfold tops DiffMath.rowMax
  exact maxOver S reducesTo_S4x2x4x4096x4096_S4x2x4x4096_d4 last (constant S_ .f32 0xFF800000#32) h_S_ Z b g h q

/-- The exponential of a score. -/
theorem weights_at (S : FVec Ideal S4x2x4x4096x4096 .f32) (T : FVec Ideal S4x2x4x4096 .f32) (b : Fin 4) (g : Fin 2) (h : Fin 4) (q k : Fin 4096) :
    weights S T (ix5 b g h q k) = Ideal.exp (S (ix5 b g h q k) - T (ix4 b g h q)) := by
  pointwise [weights]

/-- An entry of the weighted means. -/
theorem join_at (B : FVec Ideal S4x4096x256 .bf16) (Z : FVec Ideal S4x2x4x4096 .f32) (T : FVec Ideal S4x2x4x4096 .f32) (W : FVec Ideal S4x2x4x4096x4096 .f32) (b : Fin 4) (q : Fin 4096) (n : Fin 1024) :
    join B Z T W (ix3 b q n) = Ideal.div
      (∑ k : Fin 4096, B (ix3 b k (⟨n.val / 512 * 128 + n.val % 128, by omega⟩ : Fin 256)) * W (ix5 b (⟨n.val / 512, by omega⟩ : Fin 2) (⟨n.val / 128 % 4, by omega⟩ : Fin 4) q k))
      ((∑ k : Fin 4096, W (ix5 b (⟨n.val / 512, by omega⟩ : Fin 2) (⟨n.val / 128 % 4, by omega⟩ : Fin 4) q k))
        + Ideal.exp (Z (ix4 b (⟨n.val / 512, by omega⟩ : Fin 2) (⟨n.val / 128 % 4, by omega⟩ : Fin 4) q) - T (ix4 b (⟨n.val / 512, by omega⟩ : Fin 2) (⟨n.val / 128 % 4, by omega⟩ : Fin 4) q))) := by
  pointwise [join]

/-- An entry of the reference's result. -/
theorem term_at (A : FVec Ideal S4x4096x1280 .bf16) (B : FVec Ideal S4x4096x256 .bf16) (C : FVec Ideal S8 .f32) (b : Fin 4) (q : Fin 4096) (n : Fin 1024) :
    term A B C (ix3 b q n) = result A B C b ⟨n.val / 128, by omega⟩ q ⟨n.val % 128, by omega⟩ := by
  have hh : (⟨n.val / 512 * 4 + n.val / 128 % 4, by omega⟩ : Fin 8) = ⟨n.val / 128, by omega⟩ := Fin.ext (by dsimp only; omega)
  have hb : (⟨n.val / 512 * 128 + n.val % 128, by omega⟩ : Fin 256) = ⟨n.val / 128 / 4 * 128 + n.val % 128, by omega⟩ := Fin.ext (by dsimp only; omega)
  unfold term
  rw [join_at]
  simp only [weights_at, tops_at, sinks_at, scores_at, hh, hb]
  unfold result attend
  exact congrArg₂ Ideal.div (Finset.sum_congr rfl fun k _ => mul_comm _ _) rfl

end Cert.WinCReferenceIdeal.Hand
-- ==== Proof.WinC.lean ====
module

public import proofs.«01_k».proof.Defs
public import proofs.«01_k».proof.Proof.Gen.WinCKernelIdeal
public import proofs.«01_k».proof.Proof.Gen.WinCKernelIdeal.Value
public import proofs.«01_k».proof.Proof.Gen.WinCReferenceIdeal
public import proofs.«01_k».proof.Proof.Gen.WinCReferenceIdeal.Run
public import proofs.«01_k».proof.Proof.WinMath
public import proofs.«01_k».proof.Proof.WinRef
public import Idealize.ShloMosaic.Lib.Pipeline.ValueKit
public import Idealize.ShloMosaic.Lib.Pointwise
public import Idealize.ShloMosaic.Lib.Claim
public import Idealize.ShloMosaic.Adequacy

/-! # Attention over a window of keys, with a sink -/

@[expose] public section
set_option maxRecDepth 16384
noncomputable section
open Idealize.ShloMosaic Idealize.ShloMosaic.TcCoe Idealize.SL.Sem
open Idealize.ShloMosaic.Pipeline (Dat)

namespace Cert.WinCKernelIdeal.Hand
open Cert.WinCKernelIdeal Cert.WinCKernelIdeal.Gen Cert.WinMath

variable (m : (ℓ : Loc nD τ sig) → Buf (Elt Ideal) ℓ)

/-- The result array, entry by entry. -/
def REF (A : FVec Ideal S4x4096x1280 .bf16) (B : FVec Ideal S4x4096x256 .bf16) (C : FVec Ideal S8 .f32) : FVec Ideal S4x4096x1024 .bf16 :=
  fun i => result A B C (i 0) ⟨(i 2).val / 128, by have : (i 2).val < 1024 := (i 2).isLt; omega⟩ (i 1) ⟨(i 2).val % 128, by omega⟩

/-- The first key of the window of query block `a`. -/
def start (a : Nat) : Nat := min 3584 (a * 256 - 128)

/-- The query block of a grid point. -/
theorem block : ∀ t : Fin cfg0.N, (grid0.coords t 2).val = t.val % 16 :=
  (by decide +kernel : ∀ t : Fin grid0.N, _)

/-- The row of keys from which each query block loads, as the word that the body computes. -/
theorem start_word : ∀ a : Fin 16, Scalar.minsi 3584#32 (Scalar.maxsi 0#32 (Scalar.subi (Scalar.muli (BitVec.ofNat 32 a.val) 256#32) 128#32)) = BitVec.ofNat 32 (start a.val) := by
  decide +kernel

/-- Which keys of the window a query attends to. -/
theorem mask_at (t : Fin cfg0.N) (r : Fin 256) (w : Fin 512) :
    k0_pay2 (grid0.coords t) (ix2 r w) = near (t.val % 16 * 256 + r.val) (start (t.val % 16) + w.val) := by
  pointwise [k0_pay2]
  rw [block t, start_word ⟨t.val % 16, by omega⟩]
  unfold near
  rw [BitVec.ofNat_add, BitVec.ofNat_add, BitVec.ofNat_mul]
  rfl

/-- One head's result block, from its queries, keys and values. -/
theorem head_at (i : grid0.Coords) (q : Vec Ideal S1x256x128 .bf16) (k v : Vec Ideal S1x512x128 .bf16) (s : Elt Ideal .f32) (r : Fin 256) (d : Fin 128) :
    k0_pay18 (F := Ideal) (k0_pay2 i) q k v s (ix3 0 r d)
      = attend (fun w : Fin 512 => Scalar.select (k0_pay2 i (ix2 r w)) ((∑ x : Fin 128, q (ix3 0 r x) * k (ix3 0 w x)) * Ideal.ofBits FTy.f32 0x3DB504F3#32) (⊥ : EReal))
          (fun w => v (ix3 0 w d)) s := by
  pointwise [k0_pay18]
  rfl

/-- The blocks of a grid point: the batch is the slower coordinate, the query block the faster. -/
theorem idx : ∀ t : Fin cfg0.N, win0_0.index t = ![t.val / 16, t.val % 16, 0] ∧ win0_1.index t = ![t.val / 16, 0, 4] ∧ win0_2.index t = ![t.val / 16, 0, 0]
    ∧ win0_3.index t = ![0] ∧ win0_4.index t = ![t.val / 16, t.val % 16, 0] :=
  (by decide +kernel : ∀ t : Fin grid0.N, _)

/-- Where the first four heads load their keys and values. -/
theorem low : ∀ t : Fin cfg0.N, k0_off1 (grid0.coords t) = ![0, start (t.val % 16), 0] :=
  (by decide +kernel : ∀ t : Fin grid0.N, _)

/-- Where the last four heads load their keys and values. -/
theorem high : ∀ t : Fin cfg0.N, k0_off2 (grid0.coords t) = ![0, start (t.val % 16), 128] :=
  (by decide +kernel : ∀ t : Fin grid0.N, _)

theorem start_le (a : Nat) : start a + 512 ≤ 4096 := by unfold start; omega

/-- The queries that a head loads. -/
theorem queries_at (c : Dev nD) (t : Fin cfg0.N) (u : t.val < 64) (o : Nat) (ho : o + 128 ≤ 1024) (inb) (r : Fin 256) (x : Fin 128) :
    (View.ld (X0_0 m c t) (Rect.unit (s := S1x256x1024) ![0, 0, o] ![1, 256, 128] inb) : FVec Ideal S1x256x128 .bf16) (ix3 0 r x)
      = (m ((c.tc : Thread nD τ).loc main_arg0) : FVec Ideal S4x4096x1280 .bf16) (ix3 (⟨t.val / 16, by omega⟩ : Fin 4) (⟨t.val % 16 * 256 + r.val, by omega⟩ : Fin 4096) (⟨o + x.val, by omega⟩ : Fin 1280)) := by
  obtain ⟨i0, i1, i2, i3, i4⟩ := idx t
  refine (View.ld_unit_apply_of _ _ _ _ _ (ix3 0 r (⟨o + x.val, by omega⟩ : Fin 1024)) ?_).trans ?_
  · intro a
    fin_cases a
    · rfl
    · exact (Nat.zero_add _).symm
    · rfl
  unfold X0_0 Pipeline.Window.fill
  rw [dif_pos (moved0_0 t _)]
  blk_ext [iblk, V, i0]

/-- The keys that a head loads. -/
theorem keys_at (c : Dev nD) (t : Fin cfg0.N) (u : t.val < 64) (o : Nat) (ho : o + 128 ≤ 256) (off : Fin 3 → Nat) (hoff : off = ![0, start (t.val % 16), o]) (inb) (w : Fin 512) (x : Fin 128) :
    (View.ld (iblk m c 1 t) (Rect.unit (s := S1x4096x256) off ![1, 512, 128] inb) : FVec Ideal S1x512x128 .bf16) (ix3 0 w x)
      = (m ((c.tc : Thread nD τ).loc main_arg0) : FVec Ideal S4x4096x1280 .bf16) (ix3 (⟨t.val / 16, by omega⟩ : Fin 4) (⟨start (t.val % 16) + w.val, by have := start_le (t.val % 16); omega⟩ : Fin 4096) (⟨1024 + (o + x.val), by omega⟩ : Fin 1280)) := by
  obtain ⟨i0, i1, i2, i3, i4⟩ := idx t
  have l := start_le (t.val % 16)
  subst hoff
  refine (View.ld_unit_apply_of _ _ _ _ _ (ix3 0 (⟨start (t.val % 16) + w.val, by omega⟩ : Fin 4096) (⟨o + x.val, by omega⟩ : Fin 256)) ?_).trans ?_
  · intro a
    fin_cases a
    · rfl
    · rfl
    · rfl
  blk_ext [iblk, V, i1]

/-- The values that a head loads. -/
theorem values_at (c : Dev nD) (t : Fin cfg0.N) (u : t.val < 64) (o : Nat) (ho : o + 128 ≤ 256) (off : Fin 3 → Nat) (hoff : off = ![0, start (t.val % 16), o]) (inb) (w : Fin 512) (x : Fin 128) :
    (View.ld (iblk m c 2 t) (Rect.unit (s := S1x4096x256) off ![1, 512, 128] inb) : FVec Ideal S1x512x128 .bf16) (ix3 0 w x)
      = (m ((c.tc : Thread nD τ).loc main_arg1) : FVec Ideal S4x4096x256 .bf16) (ix3 (⟨t.val / 16, by omega⟩ : Fin 4) (⟨start (t.val % 16) + w.val, by have := start_le (t.val % 16); omega⟩ : Fin 4096) (⟨o + x.val, by omega⟩ : Fin 256)) := by
  obtain ⟨i0, i1, i2, i3, i4⟩ := idx t
  have l := start_le (t.val % 16)
  subst hoff
  refine (View.ld_unit_apply_of _ _ _ _ _ (ix3 0 (⟨start (t.val % 16) + w.val, by omega⟩ : Fin 4096) (⟨o + x.val, by omega⟩ : Fin 256)) ?_).trans ?_
  · intro a
    fin_cases a
    · rfl
    · rfl
    · rfl
  blk_ext [iblk, V, i2]

/-- The sink that a head loads. -/
theorem sink_at (c : Dev nD) (t : Fin cfg0.N) (h : Fin 8) (inb) (z) :
    View.ld (iblk m c 3 t) (Rect.unit (s := S8) ![h.val] ![1] inb) (Shape.Idx.first z)
      = (m ((c.tc : Thread nD τ).loc main_arg2) : FVec Ideal S8 .f32) (ix1 h) := by
  obtain ⟨i0, i1, i2, i3, i4⟩ := idx t
  refine (View.ld_unit_apply_of _ _ _ _ _ (ix1 h) ?_).trans ?_
  · intro a
    fin_cases a
    rfl
  blk_ext [iblk, V, i3]

/-- What a head stores is the result array's tile there. -/
theorem tile (A : FVec Ideal S4x4096x1280 .bf16) (B : FVec Ideal S4x4096x256 .bf16) (C : FVec Ideal S8 .f32) (t : Fin cfg0.N) (u : t.val < 64) (h : Fin 8)
    (q : Vec Ideal S1x256x128 .bf16) (k v : Vec Ideal S1x512x128 .bf16) (s : Elt Ideal .f32)
    (hq : ∀ (r : Fin 256) (x : Fin 128), q (ix3 0 r x) = A (ix3 (⟨t.val / 16, by omega⟩ : Fin 4) (⟨t.val % 16 * 256 + r.val, by omega⟩ : Fin 4096) (⟨h.val * 128 + x.val, by omega⟩ : Fin 1280)))
    (hk : ∀ (w : Fin 512) (x : Fin 128), k (ix3 0 w x) = A (ix3 (⟨t.val / 16, by omega⟩ : Fin 4) (⟨start (t.val % 16) + w.val, by have := start_le (t.val % 16); omega⟩ : Fin 4096) (⟨1024 + (h.val / 4 * 128 + x.val), by omega⟩ : Fin 1280)))
    (hv : ∀ (w : Fin 512) (x : Fin 128), v (ix3 0 w x) = B (ix3 (⟨t.val / 16, by omega⟩ : Fin 4) (⟨start (t.val % 16) + w.val, by have := start_le (t.val % 16); omega⟩ : Fin 4096) (⟨h.val / 4 * 128 + x.val, by omega⟩ : Fin 256)))
    (hs : s = C (ix1 h)) (r : Fin 256) (d : Fin 128) (n : Fin 1024) (e : n.val = h.val * 128 + d.val) :
    k0_pay18 (F := Ideal) (k0_pay2 (grid0.coords t)) q k v s (ix3 0 r d)
      = REF A B C (ix3 (⟨t.val / 16, by omega⟩ : Fin 4) (⟨t.val % 16 * 256 + r.val, by omega⟩ : Fin 4096) n) := by
  have l := start_le (t.val % 16)
  have hh : (⟨n.val / 128, by omega⟩ : Fin 8) = h := Fin.ext (show n.val / 128 = h.val by omega)
  have hd : (⟨n.val % 128, by omega⟩ : Fin 128) = d := Fin.ext (show n.val % 128 = d.val by omega)
  have lo : start (t.val % 16) ≤ t.val % 16 * 256 + r.val - 128 := by unfold start; omega
  have hi : t.val % 16 * 256 + r.val + 128 < start (t.val % 16) + 512 ∨ start (t.val % 16) + 512 = 4096 := by unfold start; omega
  show _ = result A B C (⟨t.val / 16, by omega⟩ : Fin 4) (⟨n.val / 128, by omega⟩ : Fin 8) (⟨t.val % 16 * 256 + r.val, by omega⟩ : Fin 4096) (⟨n.val % 128, by omega⟩ : Fin 128)
  rw [hh, hd, hs]
  rw [head_at (grid0.coords t) q k v (C (ix1 h)) r d,
    result_window A B C (⟨t.val / 16, by omega⟩ : Fin 4) h (⟨t.val % 16 * 256 + r.val, by omega⟩ : Fin 4096) d (start (t.val % 16)) l lo hi]
  unfold score
  simp only [hq, hk, hv, mask_at]

/-- The result array after the run. -/
theorem final (c : Dev nD) : (dats m 0 c).arrAt 4 cfg0.N
    = REF (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  blk_simp
  rw [after0_4]
  unfold outsAt0
  frame_out
  have u : t.val < 64 := t.isLt
  idx_vars y
  obtain ⟨i0, i1, i2, i3, i4⟩ := idx t
  have p : ((View.whole main_v0).slice (win0_4.rect t)).emb (ix3 y0 y1 y2) = ix3 (⟨t.val / 16, by omega⟩ : Fin 4) (⟨t.val % 16 * 256 + y1.val, by omega⟩ : Fin 4096) y2 := by
    blk_ext [i4]
  rw [p]
  canon_tiles z h
  all_goals
    idx_vars z
    have z00 : z0 = 0 := Subsingleton.elim _ _
    subst z00
    have e1 : y1 = z1 := Fin.ext h1
    subst e1
  · exact tile _ _ _ t u 7 _ _ _ _ (queries_at m c t u 896 (by decide) _) (keys_at m c t u 128 (by decide) _ (high t) _) (values_at m c t u 128 (by decide) _ (high t) _) (sink_at m c t 7 _ _) y1 z2 y2 h2
  · exact tile _ _ _ t u 6 _ _ _ _ (queries_at m c t u 768 (by decide) _) (keys_at m c t u 128 (by decide) _ (high t) _) (values_at m c t u 128 (by decide) _ (high t) _) (sink_at m c t 6 _ _) y1 z2 y2 h2
  · exact tile _ _ _ t u 5 _ _ _ _ (queries_at m c t u 640 (by decide) _) (keys_at m c t u 128 (by decide) _ (high t) _) (values_at m c t u 128 (by decide) _ (high t) _) (sink_at m c t 5 _ _) y1 z2 y2 h2
  · exact tile _ _ _ t u 4 _ _ _ _ (queries_at m c t u 512 (by decide) _) (keys_at m c t u 128 (by decide) _ (high t) _) (values_at m c t u 128 (by decide) _ (high t) _) (sink_at m c t 4 _ _) y1 z2 y2 h2
  · exact tile _ _ _ t u 3 _ _ _ _ (queries_at m c t u 384 (by decide) _) (keys_at m c t u 0 (by decide) _ (low t) _) (values_at m c t u 0 (by decide) _ (low t) _) (sink_at m c t 3 _ _) y1 z2 y2 h2
  · exact tile _ _ _ t u 2 _ _ _ _ (queries_at m c t u 256 (by decide) _) (keys_at m c t u 0 (by decide) _ (low t) _) (values_at m c t u 0 (by decide) _ (low t) _) (sink_at m c t 2 _ _) y1 z2 y2 h2
  · exact tile _ _ _ t u 1 _ _ _ _ (queries_at m c t u 128 (by decide) _) (keys_at m c t u 0 (by decide) _ (low t) _) (values_at m c t u 0 (by decide) _ (low t) _) (sink_at m c t 1 _ _) y1 z2 y2 h2
  · exact tile _ _ _ t u 0 _ _ _ _ (queries_at m c t u 0 (by decide) _) (keys_at m c t u 0 (by decide) _ (low t) _) (values_at m c t u 0 (by decide) _ (low t) _) (sink_at m c t 0 _ _) y1 z2 y2 (h2.trans (Nat.zero_add _).symm)

end Cert.WinCKernelIdeal.Hand

/-- The reference leaves its arguments as they were. -/
theorem WinC.reference_frame : Cert.quiescent_WinCReferenceIdeal := by
  intro m ρ _
  exact (θ_run Cert.WinCReferenceIdeal.defs _ _).mono
    (fun r k => ⟨fun c => (k c).2, sem_eq_zero_of_no_sems (by decide) r.2⟩) (Cert.WinCReferenceIdeal.Value.run m ρ)

/-- The masking constant may be read as minus infinity. -/
theorem WinC.preserved : Cert.preserves_WinCKernel_WinCKernelIdeal :=
  IdealRules.named_const.statement Cert.WinCKernelIdeal.κ "mask" .f32 0xF149F2CA#32 ⊥ rfl

set_option maxRecDepth 200000 in
/-- From the same arguments the kernel and the reference return the same array. -/
theorem WinC.algebraic : Cert.algebraic_WinCKernelIdeal_WinCReferenceIdeal := by
  pair_intro
  · run_from Cert.WinCKernelIdeal.Value.run_blocks m g
  · run_from Cert.WinCReferenceIdeal.Value.run m' g'
    rw [Cert.WinCKernelIdeal.Hand.final m c]
    funext i
    idx_vars i
    refine (congrFun (Cert.WinCReferenceIdeal.Hand.result_eq m' c) _).trans ?_
    obtain ⟨e0, e1, e2⟩ := hagree c
    rw [e0, e1, e2]
    exact Cert.WinCReferenceIdeal.Hand.term_at _ _ _ i0 i1 i2
-- ==== Proof.CombineMath.lean ====
module

public import Idealize.ShloMosaic.Lib.Pipeline.ValueKit
public import Idealize.ShloMosaic.Lib.Pointwise
public import Idealize.ShloMosaic.Lib.WordCmp

/-! # Picking one row of a block by its number: sums with at most one term -/

@[expose] public section
noncomputable section
open Idealize.ShloMosaic

namespace Cert.CombineMath

/-- A slot's number as the comparison reads it. -/
abbrev num (c : ℕ) : EReal := FloatOps.sitofp (F := Ideal) FTy.f32 (BitVec.ofNat 32 c)

theorem num_inj (c d : Fin 512) (h : num c.val = num d.val) : c = d := by
  have e : ((BitVec.ofNat 32 c.val).toInt : ℝ) = ((BitVec.ofNat 32 d.val).toInt : ℝ) := EReal.coe_injective h
  have e' := BitVec.toInt_inj.mp (Int.cast_injective e)
  have e'' := congrArg BitVec.toNat e'
  simp only [BitVec.toNat_ofNat] at e''
  apply Fin.ext
  omega

/-- The reading of a bit, as a number. -/
theorem bit (p : Prop) [Decidable p] :
    FloatOps.sitofp (F := Ideal) FTy.f32 (BitVec.setWidth 32 (BitVec.ofBool (decide p))) = if p then (1 : EReal) else 0 := by
  by_cases h : p
  · rw [decide_eq_true h, if_pos h]
    show (((BitVec.setWidth 32 (BitVec.ofBool true)).toInt : ℝ) : EReal) = 1
    rw [show (BitVec.setWidth 32 (BitVec.ofBool true)).toInt = 1 by decide]
    norm_num
  · rw [decide_eq_false h, if_neg h]
    show (((BitVec.setWidth 32 (BitVec.ofBool false)).toInt : ℝ) : EReal) = 0
    rw [show (BitVec.setWidth 32 (BitVec.ofBool false)).toInt = 0 by decide]
    norm_num

/-- What an expert adds to a token: the row of its block whose number the token's slot names, times the token's gate. -/
def part (s g : EReal) (y : Fin 512 → EReal) : EReal := ∑ c : Fin 512, (if s = num c.val then g else 0) * y c

/-- The gate may be multiplied in after the row is picked. -/
theorem pick (s g : EReal) (y : Fin 512 → EReal) :
    (g * ∑ c : Fin 512, FloatOps.sitofp (F := Ideal) FTy.f32 (BitVec.setWidth 32 (BitVec.ofBool (decide (num c.val = s)))) * y c) = part s g y := by
  unfold part
  simp only [bit]
  by_cases h : ∃ c : Fin 512, num c.val = s
  · obtain ⟨c, h⟩ := h
    rw [Finset.sum_eq_single c, Finset.sum_eq_single c, if_pos h, if_pos h.symm, one_mul]
    · intro d _ hd
      rw [if_neg fun e => hd (num_inj d c (e.symm.trans h.symm)), zero_mul]
    · exact fun e => absurd (Finset.mem_univ c) e
    · intro d _ hd
      rw [if_neg fun e => hd (num_inj d c (e.trans h.symm)), zero_mul]
    · exact fun e => absurd (Finset.mem_univ c) e
  · rw [Finset.sum_eq_zero, Finset.sum_eq_zero, mul_zero]
    · intro d _
      rw [if_neg fun e => h ⟨d, e.symm⟩, zero_mul]
    · intro d _
      rw [if_neg fun e => h ⟨d, e⟩, zero_mul]

/-- The one lane whose number is `e`. -/
theorem lane (e : Fin 16) (f : Fin 128 → EReal) :
    (∑ x : Fin 128, Scalar.select (IntOp.cmpi .eq (BitVec.ofNat 32 x.val) (BitVec.ofNat 32 e.val)) (f x) 0) = f ⟨e.val, by omega⟩ := by
  have h : ∀ x : Fin 128, Scalar.select (IntOp.cmpi .eq (BitVec.ofNat 32 x.val) (BitVec.ofNat 32 e.val)) (f x) (0 : EReal) = if x.val = e.val then f x else 0 := by
    intro x
    rw [WordCmp.cmpi_eq_ofNat (by omega) (by omega)]
    by_cases p : x.val = e.val
    · rw [decide_eq_true p, if_pos p]; rfl
    · rw [decide_eq_false p, if_neg p]; rfl
  simp only [h]
  rw [Finset.sum_eq_single (⟨e.val, by omega⟩ : Fin 128)]
  · rw [if_pos rfl]
  · intro d _ hd
    exact if_neg fun q => hd (Fin.ext q)
  · exact fun q => absurd (Finset.mem_univ _) q

end Cert.CombineMath
-- ==== Proof.Out.lean ====
module

public import proofs.«01_k».proof.Defs
public import proofs.«01_k».proof.Proof.Gen.OutKernelIdeal
public import proofs.«01_k».proof.Proof.Gen.OutKernelIdeal.Value
public import proofs.«01_k».proof.Proof.Gen.OutReferenceIdeal
public import proofs.«01_k».proof.Proof.Gen.OutReferenceIdeal.Run
public import Idealize.ShloMosaic.Lib.Pipeline.ValueKit
public import Idealize.ShloMosaic.Lib.Pointwise
public import Idealize.ShloMosaic.Lib.Claim
public import Idealize.ShloMosaic.Adequacy

/-! # The output projection and the layer normalisation -/

@[expose] public section
set_option maxRecDepth 16384
noncomputable section
open Idealize.ShloMosaic Idealize.ShloMosaic.TcCoe Idealize.SL.Sem
open Idealize.ShloMosaic.Pipeline (Dat)

namespace Cert.OutMath

/-- The residual stream, scaled, plus the mixed row against a column of the weights. -/
def resid (a : (⟨2, ![16384, 2048]⟩ : Shape).Idx → EReal) (w : (⟨2, ![2048, 2048]⟩ : Shape).Idx → EReal)
    (x : (⟨2, ![16384, 2048]⟩ : Shape).Idx → EReal) (r : Fin 16384) (n : Fin 2048) : EReal :=
  Ideal.ofBits .f32 0x3FD744FD#32 * x (ix2 r n) + ∑ k : Fin 2048, a (ix2 r k) * w (ix2 k n)

/-- The mean of a row. -/
def mean (y : Fin 2048 → EReal) : EReal := Ideal.div (∑ k : Fin 2048, y k) (Ideal.ofBits .f32 0x45000000#32)

/-- A row less its mean, over the root of its variance plus a small constant, scaled and shifted. -/
def layerNorm (y : Fin 2048 → EReal) (g b : EReal) (n : Fin 2048) : EReal :=
  (y n - mean y) * Ideal.rsqrt (Ideal.div (∑ k : Fin 2048, (y k - mean y) * (y k - mean y)) (Ideal.ofBits .f32 0x45000000#32) + Ideal.ofBits .f32 0x3727C5AC#32) * g + b

/-- The layer's output, entry by entry. -/
def out (a : (⟨2, ![16384, 2048]⟩ : Shape).Idx → EReal) (w : (⟨2, ![2048, 2048]⟩ : Shape).Idx → EReal)
    (x : (⟨2, ![16384, 2048]⟩ : Shape).Idx → EReal) (g b : (⟨1, ![2048]⟩ : Shape).Idx → EReal) (r : Fin 16384) (n : Fin 2048) : EReal :=
  layerNorm (fun k => resid a w x r k) (g (ix1 n)) (b (ix1 n)) n

end Cert.OutMath

namespace Cert.OutKernelIdeal.Hand
open Cert.OutKernelIdeal Cert.OutKernelIdeal.Gen Cert.OutMath

variable (m : (ℓ : Loc nD τ sig) → Buf (Elt Ideal) ℓ)

/-- A result array, entry by entry. -/
def REF {φ : FTy} (a : FVec Ideal S16384x2048 .bf16) (w : FVec Ideal S2048x2048 .f32) (x : FVec Ideal S16384x2048 .f32) (g b : FVec Ideal S2048 .f32) : FVec Ideal S16384x2048 φ :=
  fun i => out a w x g b (i 0) (i 1)

/-- The body's first result block, from its input blocks. -/
theorem payload_at (x : FVec Ideal S256x2048 .f32) (a : FVec Ideal S256x2048 .bf16) (w : FVec Ideal S2048x2048 .bf16) (g b : FVec Ideal S1x2048 .f32) (r : Fin 256) (n : Fin 2048) :
    k0_pay1 (F := Ideal) x a w g b (ix2 r n)
      = layerNorm (fun n => Ideal.ofBits .f32 0x3FD744FD#32 * x (ix2 r n) + ∑ k : Fin 2048, a (ix2 r k) * w (ix2 k n)) (g (ix2 0 n)) (b (ix2 0 n)) n := by
  pointwise [k0_pay1]
  rfl

/-- The body's second result block is the first, rounded. -/
theorem payload2_at (x : FVec Ideal S256x2048 .f32) (a : FVec Ideal S256x2048 .bf16) (w : FVec Ideal S2048x2048 .bf16) (g b : FVec Ideal S1x2048 .f32) (r : Fin 256) (n : Fin 2048) :
    k0_pay2 (F := Ideal) x a w g b (ix2 r n) = k0_pay1 (F := Ideal) x a w g b (ix2 r n) := by
  rfl

/-- The blocks of a grid point: the row block is the point's number. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- The weights as the launch holds them. -/
theorem weights_at (c : Dev nD) (k n : Fin 2048) : (V m c main_v0 : FVec Ideal S2048x2048 .bf16) (ix2 k n)
    = (m ((c.tc : Thread nD τ).loc main_arg1) : FVec Ideal S2048x2048 .f32) (ix2 k n) := by
  entry_read
  pointwise

/-- The scale as the launch holds it. -/
theorem scale_at (c : Dev nD) (n : Fin 2048) : (V m c main_v1 : FVec Ideal S1x2048 .f32) (ix2 0 n)
    = (m ((c.tc : Thread nD τ).loc main_arg3) : FVec Ideal S2048 .f32) (ix1 n) := by
  entry_read
  pointwise

/-- The shift as the launch holds it. -/
theorem shift_at (c : Dev nD) (n : Fin 2048) : (V m c main_v2 : FVec Ideal S1x2048 .f32) (ix2 0 n)
    = (m ((c.tc : Thread nD τ).loc main_arg4) : FVec Ideal S2048 .f32) (ix1 n) := by
  entry_read
  pointwise

/-- What the body computes at a grid point, over the arguments. -/
theorem core (c : Dev nD) (t : Fin cfg0.N) (r : Fin 256) (n : Fin 2048) (h : t.val * 256 + r.val < 16384) :
    k0_pay1 (F := Ideal) (iblk m c 2 t) (iblk m c 0 t) (iblk m c 1 t) (iblk m c 3 t) (iblk m c 4 t) (ix2 r n)
      = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (⟨t.val * 256 + r.val, h⟩ : Fin 16384) n := by
  obtain ⟨i0, i1, i2, i3, i4, i5, i6⟩ := idx t
  have b0 : ∀ k : Fin 2048, (iblk m c 0 t : FVec Ideal S256x2048 .bf16) (ix2 r k)
      = (m ((c.tc : Thread nD τ).loc main_arg0) : FVec Ideal S16384x2048 .bf16) (ix2 (⟨t.val * 256 + r.val, h⟩ : Fin 16384) k) := by
    intro k; blk_ext [iblk, V, i0]
  have b1 : ∀ k j : Fin 2048, (iblk m c 1 t : FVec Ideal S2048x2048 .bf16) (ix2 k j)
      = (m ((c.tc : Thread nD τ).loc main_arg1) : FVec Ideal S2048x2048 .f32) (ix2 k j) := by
    intro k j
    refine Eq.trans ?_ (weights_at m c k j)
    blk_ext [iblk, i1]
  have b2 : ∀ k : Fin 2048, (iblk m c 2 t : FVec Ideal S256x2048 .f32) (ix2 r k)
      = (m ((c.tc : Thread nD τ).loc main_arg2) : FVec Ideal S16384x2048 .f32) (ix2 (⟨t.val * 256 + r.val, h⟩ : Fin 16384) k) := by
    intro k; blk_ext [iblk, V, i2]
  have b3 : (iblk m c 3 t : FVec Ideal S1x2048 .f32) (ix2 0 n)
      = (m ((c.tc : Thread nD τ).loc main_arg3) : FVec Ideal S2048 .f32) (ix1 n) := by
    refine Eq.trans ?_ (scale_at m c n)
    blk_ext [iblk, i3]
  have b4 : (iblk m c 4 t : FVec Ideal S1x2048 .f32) (ix2 0 n)
      = (m ((c.tc : Thread nD τ).loc main_arg4) : FVec Ideal S2048 .f32) (ix1 n) := by
    refine Eq.trans ?_ (shift_at m c n)
    blk_ext [iblk, i4]
  refine (payload_at _ _ _ _ _ r n).trans ?_
  unfold out resid
  simp only [b0, b1, b2, b3, b4]

/-- What a grid point stores is the first result array's block there. -/
theorem point (c : Dev nD) (t : Fin cfg0.N) (r : Fin 256) (n : Fin 2048) :
    k0_pay1 (F := Ideal) (iblk m c 2 t) (iblk m c 0 t) (iblk m c 1 t) (iblk m c 3 t) (iblk m c 4 t) (ix2 r n)
      = REF (φ := .f32) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (((cfg0.win 5).blk t).view.emb (ix2 r n)) := by
  obtain ⟨i0, i1, i2, i3, i4, i5, i6⟩ := idx t
  have u : t.val < 64 := t.isLt
  have p : ((cfg0.win 5).blk t).view.emb (ix2 r n) = ix2 (⟨t.val * 256 + r.val, by omega⟩ : Fin 16384) n := by
    blk_ext [i5]
  rw [p]
  exact core m c t r n (by omega)

/-- And the second's. -/
theorem point2 (c : Dev nD) (t : Fin cfg0.N) (r : Fin 256) (n : Fin 2048) :
    k0_pay2 (F := Ideal) (iblk m c 2 t) (iblk m c 0 t) (iblk m c 1 t) (iblk m c 3 t) (iblk m c 4 t) (ix2 r n)
      = REF (φ := .bf16) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (((cfg0.win 6).blk t).view.emb (ix2 r n)) := by
  obtain ⟨i0, i1, i2, i3, i4, i5, i6⟩ := idx t
  have u : t.val < 64 := t.isLt
  have p : ((cfg0.win 6).blk t).view.emb (ix2 r n) = ix2 (⟨t.val * 256 + r.val, by omega⟩ : Fin 16384) n := by
    blk_ext [i6]
  rw [p]
  exact (payload2_at _ _ _ _ _ r n).trans (core m c t r n (by omega))

/-- The first result array after the run. -/
theorem final (c : Dev nD) : (dats m 0 c).arrAt 5 cfg0.N = REF (φ := .f32) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t _ y => ?_
  blk_simp
  rw [after0_5]
  frame_out
  idx_vars y
  exact point m c t y0 y1

/-- The second result array after the run. -/
theorem final2 (c : Dev nD) : (dats m 0 c).arrAt 6 cfg0.N = REF (φ := .bf16) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t _ y => ?_
  blk_simp
  rw [after0_6]
  frame_out
  idx_vars y
  exact point2 m c t y0 y1

end Cert.OutKernelIdeal.Hand

namespace Cert.OutReferenceIdeal.Hand
open Cert.OutReferenceIdeal Cert.OutReferenceIdeal.Gen Cert.OutMath

/-- The sum the reference normalises. -/
def added (a : FVec Ideal S16384x2048 .bf16) (w : FVec Ideal S2048x2048 .f32) (x : FVec Ideal S16384x2048 .f32) : FVec Ideal S16384x2048 .f32 :=
  addf (mulf (broadcastInDim S16384x2048 ![] bcast_S_S16384x2048 (constant S_ .f32 0x3FD744FD#32)) x) (Host.dotGeneral dot_S16384x2048_S2048x2048_S16384x2048_1_0_0_1_n_n none (extf .f32 a bitsLt_bf16_f32) w)

/-- The rows' means, in one column. -/
def means (y : FVec Ideal S16384x2048 .f32) : FVec Ideal S16384x1 .f32 :=
  Host.divf (broadcastInDim S16384x1 ![0] bcast_S16384_S16384x1_0 (Host.reduceAdd y (constant S_ .f32 0x00000000#32) reducesTo_S16384x2048_S16384_d1 h_S_)) (broadcastInDim S16384x1 ![] bcast_S_S16384x1 (constant S_ .f32 0x45000000#32))

/-- The reference's normalisation. -/
def term (y : FVec Ideal S16384x2048 .f32) (g b : FVec Ideal S2048 .f32) : FVec Ideal S16384x2048 .f32 :=
  addf (mulf (mulf (subf y (broadcastInDim S16384x2048 ![0, 1] bcast_S16384x1_S16384x2048_0_1 (means y))) (broadcastInDim S16384x2048 ![0, 1] bcast_S16384x1_S16384x2048_0_1 (Host.rsqrt (addf (Host.divf (broadcastInDim S16384x1 ![0] bcast_S16384_S16384x1_0 (Host.reduceAdd (mulf (subf y (broadcastInDim S16384x2048 ![0, 1] bcast_S16384x1_S16384x2048_0_1 (means y))) (subf y (broadcastInDim S16384x2048 ![0, 1] bcast_S16384x1_S16384x2048_0_1 (means y)))) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32)))))) (broadcastInDim S16384x2048 ![0, 1] bcast_S1x2048_S16384x2048_0_1 (broadcastInDim S1x2048 ![1] bcast_S2048_S1x2048_1 g))) (broadcastInDim S16384x2048 ![0, 1] bcast_S1x2048_S16384x2048_0_1 (broadcastInDim S1x2048 ![1] bcast_S2048_S1x2048_1 b))

theorem added_at (a : FVec Ideal S16384x2048 .bf16) (w : FVec Ideal S2048x2048 .f32) (x : FVec Ideal S16384x2048 .f32) (r : Fin 16384) (n : Fin 2048) :
    added a w x (ix2 r n) = resid a w x r n := by
  pointwise [added]
  rfl

theorem means_at (y : FVec Ideal S16384x2048 .f32) (r : Fin 16384) (n : Fin 1) : means y (ix2 r n) = mean fun k => y (ix2 r k) := by
  pointwise [means]
  rfl

theorem term_at (a : FVec Ideal S16384x2048 .bf16) (w : FVec Ideal S2048x2048 .f32) (x : FVec Ideal S16384x2048 .f32) (g b : FVec Ideal S2048 .f32) (r : Fin 16384) (n : Fin 2048) :
    term (added a w x) g b (ix2 r n) = out a w x g b r n := by
  pointwise [term]
  unfold out layerNorm
  simp only [means_at, added_at]

end Cert.OutReferenceIdeal.Hand

/-- The reference leaves its arguments as they were. -/
theorem Out.reference_frame : Cert.quiescent_OutReferenceIdeal := by
  intro m ρ _
  exact (θ_run Cert.OutReferenceIdeal.defs _ _).mono
    (fun r k => ⟨fun c => (k c).2.2, sem_eq_zero_of_no_sems (by decide) r.2⟩) (Cert.OutReferenceIdeal.Value.run m ρ)

/-- From the same arguments the kernel and the reference return the same two arrays. -/
theorem Out.algebraic : Cert.algebraic_OutKernelIdeal_OutReferenceIdeal := by
  pair_intro
  · run_from Cert.OutKernelIdeal.Value.run_blocks m g
  · run_from Cert.OutReferenceIdeal.Value.run m' g'
    all_goals first
      | rw [Cert.OutKernelIdeal.Hand.final m c]
      | rw [Cert.OutKernelIdeal.Hand.final2 m c]
    all_goals
      funext i
      idx_vars i
      exact Cert.OutReferenceIdeal.Hand.term_at _ _ _ _ _ i0 i1
-- ==== Proof.Combine.lean ====
module

public import proofs.«01_k».proof.Defs
public import proofs.«01_k».proof.Proof.Gen.CombineKernelIdeal
public import proofs.«01_k».proof.Proof.Gen.CombineKernelIdeal.Value
public import proofs.«01_k».proof.Proof.Gen.CombineReferenceIdeal
public import proofs.«01_k».proof.Proof.Gen.CombineReferenceIdeal.Run
public import proofs.«01_k».proof.Proof.CombineMath
public import proofs.«01_k».proof.Proof.Out
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy

/-! # The experts' rows gathered back to their tokens, and the last layer normalisation -/

@[expose] public section
set_option maxRecDepth 16384
noncomputable section
open Idealize.ShloMosaic Idealize.ShloMosaic.TcCoe Idealize.SL.Sem
open Idealize.ShloMosaic.Pipeline (Dat)

namespace Cert.CombineMath
open Cert.OutMath

/-- What the experts send back to token `n` of batch `b`, in column `d`: each expert holds 512 rows for each batch. -/
def sent (y : (⟨3, ![16, 2048, 2048]⟩ : Shape).Idx → EReal) (s g : (⟨3, ![4, 4096, 128]⟩ : Shape).Idx → EReal)
    (b : Fin 4) (n : Fin 4096) (d : Fin 2048) : EReal :=
  ∑ e : Fin 16, part (s (ix3 b n ⟨e.val, by omega⟩)) (g (ix3 b n ⟨e.val, by omega⟩)) fun c => y (ix3 e ⟨b.val * 512 + c.val, by omega⟩ d)

/-- The residual stream, scaled, plus what the experts send back. -/
def total (y : (⟨3, ![16, 2048, 2048]⟩ : Shape).Idx → EReal) (s g : (⟨3, ![4, 4096, 128]⟩ : Shape).Idx → EReal)
    (x : (⟨3, ![4, 4096, 2048]⟩ : Shape).Idx → EReal) (b : Fin 4) (n : Fin 4096) (d : Fin 2048) : EReal :=
  Ideal.ofBits .f32 0x3FD744FD#32 * x (ix3 b n d) + sent y s g b n d

/-- The layer's output, entry by entry. -/
def result (y : (⟨3, ![16, 2048, 2048]⟩ : Shape).Idx → EReal) (s g : (⟨3, ![4, 4096, 128]⟩ : Shape).Idx → EReal)
    (x : (⟨3, ![4, 4096, 2048]⟩ : Shape).Idx → EReal) (u v : (⟨1, ![2048]⟩ : Shape).Idx → EReal) (b : Fin 4) (n : Fin 4096) (d : Fin 2048) : EReal :=
  layerNorm (fun k => total y s g x b n k) (u (ix1 d)) (v (ix1 d)) d

end Cert.CombineMath

namespace Cert.CombineKernelIdeal.Hand
open Cert.CombineKernelIdeal Cert.CombineKernelIdeal.Gen Cert.CombineMath Cert.OutMath

variable (m : (ℓ : Loc nD τ sig) → Buf (Elt Ideal) ℓ)

/-- A result array, entry by entry. -/
def REF {φ : FTy} (y : FVec Ideal S16x2048x2048 .bf16) (s g : FVec Ideal S4x4096x128 .f32) (x : FVec Ideal S4x4096x2048 .f32) (u v : FVec Ideal S2048 .f32) : FVec Ideal S4x4096x2048 φ :=
  fun i => result y s g x u v (i 0) (i 1) (i 2)

/-- One expert's step: its part is added to what is kept. -/
theorem step_at (i : grid0.Coords) (e : Fin 16) (he : (i 2).val = e.val) (s g : FVec Ideal S1x512x128 .f32) (a : FVec Ideal S512x2048 .f32) (y : FVec Ideal S1x512x2048 .bf16) (r : Fin 512) (n : Fin 2048) :
    k0_pay6 (F := Ideal) i s g a y (ix2 r n)
      = a (ix2 r n) + part (s (ix3 0 r ⟨e.val, by omega⟩)) (g (ix3 0 r ⟨e.val, by omega⟩)) fun c => y (ix3 0 c n) := by
  pointwise [k0_pay6]
  rw [he, lane e fun x => g (ix3 0 r x), lane e fun x => s (ix3 0 r x)]
  exact congrArg (a (ix2 r n) + ·) (pick _ _ fun c => y (ix3 0 c n))

/-- The sum starts from zero. -/
theorem zero_at (r : Fin 512) (n : Fin 2048) : k0_pay5 (F := Ideal) (ix2 r n) = 0 := by
  pointwise [k0_pay5]

/-- The first result's block, from the finished sum. -/
theorem payload_at (x : FVec Ideal S1x512x2048 .f32) (a : FVec Ideal S512x2048 .f32) (g b : FVec Ideal S1x2048 .f32) (r : Fin 512) (n : Fin 2048) :
    k0_pay3 (F := Ideal) x a g b (ix3 0 r n)
      = layerNorm (fun k => Ideal.ofBits .f32 0x3FD744FD#32 * x (ix3 0 r k) + a (ix2 r k)) (g (ix2 0 n)) (b (ix2 0 n)) n := by
  pointwise [k0_pay3, k0_pay2]
  rfl

/-- The second result's block is the first's, rounded. -/
theorem payload2_at (x : FVec Ideal S1x512x2048 .f32) (a : FVec Ideal S512x2048 .f32) (g b : FVec Ideal S1x2048 .f32) (r : Fin 512) (n : Fin 2048) :
    k0_pay1 (k0_pay4 (F := Ideal) x a g b) (ix3 0 r n) = k0_pay3 (F := Ideal) x a g b (ix3 0 r n) := by
  rfl

/-- The blocks of a grid point: the batch is the slowest coordinate, then the token block, then the expert. -/
theorem idx : ∀ t : Fin cfg0.N, win0_0.index t = ![t.val % 16, t.val / 128, 0] ∧ win0_1.index t = ![t.val / 128, t.val / 16 % 8, 0]
    ∧ win0_2.index t = ![t.val / 128, t.val / 16 % 8, 0] ∧ win0_3.index t = ![t.val / 128, t.val / 16 % 8, 0]
    ∧ win0_4.index t = ![0, 0] ∧ win0_5.index t = ![0, 0]
    ∧ win0_6.index t = ![t.val / 128, t.val / 16 % 8, 0] ∧ win0_7.index t = ![t.val / 128, t.val / 16 % 8, 0] :=
  (by decide +kernel : ∀ t : Fin grid0.N, _)

/-- The expert of a grid point. -/
theorem expert : ∀ t : Fin cfg0.N, (grid0.coords t 2).val = t.val % 16 :=
  (by decide +kernel : ∀ t : Fin grid0.N, _)

/-- The first expert's point starts the sum. -/
theorem first (c : Dev nD) (t : Fin cfg0.N) (h : t.val % 16 = 0) :
    (outsAt0 m c t.val t.isLt).2.2 = k0_pay6 (F := Ideal) (grid0.coords t) (iblk m c 1 t) (iblk m c 2 t) (k0_pay5 (F := Ideal)) (iblk m c 0 t) := by
  rw [outsAt0_A m c t h (by omega)]
  frame_out

/-- Every later point adds to what the point before left. -/
theorem next (c : Dev nD) (t : Fin cfg0.N) (h : ¬ t.val % 16 = 0) :
    (outsAt0 m c t.val t.isLt).2.2 = k0_pay6 (F := Ideal) (grid0.coords t) (iblk m c 1 t) (iblk m c 2 t) (outsAt0 m c (t.val - 1) (Nat.lt_of_le_of_lt (Nat.sub_le _ _) t.isLt)).2.2 (iblk m c 0 t) := by
  by_cases h1 : t.val % 16 = 15
  · rw [outsAt0_C m c t h h1]
    frame_out
    simp only [read_unread_whole]
  · rw [outsAt0_B m c t h h1]
    frame_out
    simp only [read_unread_whole]

/-- The last expert's point normalises the finished sum. -/
theorem last (c : Dev nD) (t : Fin cfg0.N) (h : t.val % 16 = 15) :
    (outsAt0 m c t.val t.isLt).1 = k0_pay3 (F := Ideal) (iblk m c 3 t) (outsAt0 m c t.val t.isLt).2.2 (iblk m c 4 t) (iblk m c 5 t) := by
  rw [next m c t (by omega), outsAt0_C m c t (by omega) h]
  frame_out
  simp only [read_unread_whole]

/-- And stores it once more, rounded. -/
theorem last2 (c : Dev nD) (t : Fin cfg0.N) (h : t.val % 16 = 15) :
    (outsAt0 m c t.val t.isLt).2.1 = k0_pay1 (k0_pay4 (F := Ideal) (iblk m c 3 t) (outsAt0 m c t.val t.isLt).2.2 (iblk m c 4 t) (iblk m c 5 t)) := by
  rw [next m c t (by omega), outsAt0_C m c t (by omega) h]
  frame_out
  simp only [read_unread_whole]

/-- The batch and the token of row `r` of a grid point's blocks. -/
def batch (t : Fin cfg0.N) : Fin 4 := ⟨t.val / 128, by have u : t.val < 512 := t.isLt; omega⟩
def token (t : Fin cfg0.N) (r : Fin 512) : Fin 4096 := ⟨t.val / 16 % 8 * 512 + r.val, by omega⟩

/-- What the expert of a grid point sends back to row `r`, in column `n`, over the arguments. -/
def own (c : Dev nD) (t : Fin cfg0.N) (r : Fin 512) (n : Fin 2048) : EReal :=
  part ((m ((c.tc : Thread nD τ).loc main_arg1) : FVec Ideal S4x4096x128 .f32) (ix3 (batch t) (token t r) ⟨t.val % 16, by omega⟩))
    ((m ((c.tc : Thread nD τ).loc main_arg2) : FVec Ideal S4x4096x128 .f32) (ix3 (batch t) (token t r) ⟨t.val % 16, by omega⟩))
    fun k => (m ((c.tc : Thread nD τ).loc main_arg0) : FVec Ideal S16x2048x2048 .bf16) (ix3 (⟨t.val % 16, by omega⟩ : Fin 16) (⟨(batch t).val * 512 + k.val, by have := (batch t).isLt; omega⟩ : Fin 2048) n)

/-- One grid point's step, over the arguments. -/
theorem step (c : Dev nD) (t : Fin cfg0.N) (a : FVec Ideal S512x2048 .f32) (r : Fin 512) (n : Fin 2048) :
    k0_pay6 (F := Ideal) (grid0.coords t) (iblk m c 1 t) (iblk m c 2 t) a (iblk m c 0 t) (ix2 r n) = a (ix2 r n) + own m c t r n := by
  obtain ⟨i0, i1, i2, i3, i4, i5, i6, i7⟩ := idx t
  have u : t.val < 512 := t.isLt
  have b1 : (iblk m c 1 t : FVec Ideal S1x512x128 .f32) (ix3 0 r ⟨t.val % 16, by omega⟩)
      = (m ((c.tc : Thread nD τ).loc main_arg1) : FVec Ideal S4x4096x128 .f32) (ix3 (batch t) (token t r) ⟨t.val % 16, by omega⟩) := by
    unfold batch token; blk_ext [iblk, V, i1]
  have b2 : (iblk m c 2 t : FVec Ideal S1x512x128 .f32) (ix3 0 r ⟨t.val % 16, by omega⟩)
      = (m ((c.tc : Thread nD τ).loc main_arg2) : FVec Ideal S4x4096x128 .f32) (ix3 (batch t) (token t r) ⟨t.val % 16, by omega⟩) := by
    unfold batch token; blk_ext [iblk, V, i2]
  have b0 : ∀ k : Fin 512, (iblk m c 0 t : FVec Ideal S1x512x2048 .bf16) (ix3 0 k n)
      = (m ((c.tc : Thread nD τ).loc main_arg0) : FVec Ideal S16x2048x2048 .bf16) (ix3 (⟨t.val % 16, by omega⟩ : Fin 16) (⟨(batch t).val * 512 + k.val, by have := (batch t).isLt; omega⟩ : Fin 2048) n) := by
    intro k; unfold batch; blk_ext [iblk, V, i0]
  refine (step_at (grid0.coords t) ⟨t.val % 16, by omega⟩ (expert t) _ _ _ _ r n).trans ?_
  unfold own
  rw [b1, b2]
  simp only [b0]

/-- The point that is `e` places into a run of 16 belongs to expert `e`, and to the run's batch and tokens. -/
theorem own_run (c : Dev nD) (t p : Fin cfg0.N) (e : Fin 16) (hq : p.val / 16 = t.val / 16) (he : p.val % 16 = e.val) (r : Fin 512) (n : Fin 2048) :
    own m c p r n
      = part ((m ((c.tc : Thread nD τ).loc main_arg1) : FVec Ideal S4x4096x128 .f32) (ix3 (batch t) (token t r) ⟨e.val, by omega⟩))
        ((m ((c.tc : Thread nD τ).loc main_arg2) : FVec Ideal S4x4096x128 .f32) (ix3 (batch t) (token t r) ⟨e.val, by omega⟩))
        fun k => (m ((c.tc : Thread nD τ).loc main_arg0) : FVec Ideal S16x2048x2048 .bf16) (ix3 e (⟨(batch t).val * 512 + k.val, by have := (batch t).isLt; omega⟩ : Fin 2048) n) := by
  have hb : batch p = batch t := Fin.ext (show p.val / 128 = t.val / 128 by omega)
  have ht : token p r = token t r := Fin.ext (show p.val / 16 % 8 * 512 + r.val = t.val / 16 % 8 * 512 + r.val by rw [hq])
  obtain ⟨e, hl⟩ := e
  dsimp only at he
  subst he
  unfold own
  simp only [hb, ht]

/-- The finished sum is what all the experts send back. -/
theorem sum_at (c : Dev nD) (t : Fin cfg0.N) (h : t.val % 16 = 15) (r : Fin 512) (n : Fin 2048) :
    ((outsAt0 m c t.val t.isLt).2.2 : FVec Ideal S512x2048 .f32) (ix2 r n)
      = sent (m ((c.tc : Thread nD τ).loc main_arg0)) (m ((c.tc : Thread nD τ).loc main_arg1)) (m ((c.tc : Thread nD τ).loc main_arg2)) (batch t) (token t r) n := by
  refine (Pipeline.eq_sum_fin_of_reset_step_apply_of_flush (M := EReal) (fun n h => ((outsAt0 m c n h).2.2 : FVec Ideal S512x2048 .f32)) 16 (fun _ => 0)
    (fun p j => own m c p (j 0) (j 1)) (fun p hp j => ?_) (fun p hp j => ?_) t h (ix2 r n)).trans ?_
  · idx_vars j
    refine (congrFun (first m c p hp) _).trans ((step m c p _ j0 j1).trans ?_)
    rw [zero_at]
  · idx_vars j
    exact (congrFun (next m c p hp) _).trans (step m c p _ j0 j1)
  · rw [zero_add]
    unfold sent
    refine Finset.sum_congr rfl fun e _ => ?_
    exact own_run m c t _ e (show (16 * (t.val / 16) + e.val) / 16 = t.val / 16 by omega) (show (16 * (t.val / 16) + e.val) % 16 = e.val by omega) r n

/-- The scale as the launch holds it. -/
theorem scale_at (c : Dev nD) (n : Fin 2048) : (V m c main_v0 : FVec Ideal S1x2048 .f32) (ix2 0 n)
    = (m ((c.tc : Thread nD τ).loc main_arg4) : FVec Ideal S2048 .f32) (ix1 n) := by
  entry_read
  pointwise

/-- The shift as the launch holds it. -/
theorem shift_at (c : Dev nD) (n : Fin 2048) : (V m c main_v1 : FVec Ideal S1x2048 .f32) (ix2 0 n)
    = (m ((c.tc : Thread nD τ).loc main_arg5) : FVec Ideal S2048 .f32) (ix1 n) := by
  entry_read
  pointwise

/-- What the last expert's point stores, over the arguments. -/
theorem core (c : Dev nD) (t : Fin cfg0.N) (h : t.val % 16 = 15) (r : Fin 512) (n : Fin 2048) :
    k0_pay3 (F := Ideal) (iblk m c 3 t) (outsAt0 m c t.val t.isLt).2.2 (iblk m c 4 t) (iblk m c 5 t) (ix3 0 r n)
      = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (batch t) (token t r) n := by
  obtain ⟨i0, i1, i2, i3, i4, i5, i6, i7⟩ := idx t
  have u : t.val < 512 := t.isLt
  have b3 : ∀ k : Fin 2048, (iblk m c 3 t : FVec Ideal S1x512x2048 .f32) (ix3 0 r k)
      = (m ((c.tc : Thread nD τ).loc main_arg3) : FVec Ideal S4x4096x2048 .f32) (ix3 (batch t) (token t r) k) := by
    intro k; unfold batch token; blk_ext [iblk, V, i3]
  have b4 : (iblk m c 4 t : FVec Ideal S1x2048 .f32) (ix2 0 n)
      = (m ((c.tc : Thread nD τ).loc main_arg4) : FVec Ideal S2048 .f32) (ix1 n) := by
    refine Eq.trans ?_ (scale_at m c n)
    blk_ext [iblk, i4]
  have b5 : (iblk m c 5 t : FVec Ideal S1x2048 .f32) (ix2 0 n)
      = (m ((c.tc : Thread nD τ).loc main_arg5) : FVec Ideal S2048 .f32) (ix1 n) := by
    refine Eq.trans ?_ (shift_at m c n)
    blk_ext [iblk, i5]
  refine (payload_at _ _ _ _ r n).trans ?_
  unfold result total
  simp only [b3, b4, b5, sum_at m c t h]

/-- The first result array after the run. -/
theorem final (c : Dev nD) : (dats m 0 c).arrAt 6 cfg0.N = REF (φ := .f32) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  blk_simp
  have h := (flush0_6 t).mp hf
  have u : t.val < 512 := t.isLt
  rw [after0_6, last m c t h]
  obtain ⟨i0, i1, i2, i3, i4, i5, i6, i7⟩ := idx t
  idx_vars y
  have z : y0 = 0 := Subsingleton.elim _ _
  subst z
  have p : ((cfg0.win 6).blk t).view.emb (ix3 0 y1 y2) = ix3 (batch t) (token t y1) y2 := by
    unfold batch token; blk_ext [i6]
  rw [p]
  exact core m c t h y1 y2

/-- The second result array after the run. -/
theorem final2 (c : Dev nD) : (dats m 0 c).arrAt 7 cfg0.N = REF (φ := .bf16) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 7 _ (by decide +kernel) fun t hf y => ?_
  blk_simp
  have h := (flush0_7 t).mp hf
  have u : t.val < 512 := t.isLt
  rw [after0_7, last2 m c t h]
  obtain ⟨i0, i1, i2, i3, i4, i5, i6, i7⟩ := idx t
  idx_vars y
  have z : y0 = 0 := Subsingleton.elim _ _
  subst z
  have p : ((cfg0.win 7).blk t).view.emb (ix3 0 y1 y2) = ix3 (batch t) (token t y1) y2 := by
    unfold batch token; blk_ext [i7]
  rw [p]
  exact (payload2_at _ _ _ _ y1 y2).trans (core m c t h y1 y2)

end Cert.CombineKernelIdeal.Hand

namespace Cert.CombineReferenceIdeal.Hand
open Cert.CombineReferenceIdeal Cert.CombineReferenceIdeal.Gen Cert.CombineMath Cert.OutMath

/-- The reference's weights: the token's gate at the slot it took, zero at the others. -/
def weight (s g : FVec Ideal S4x4096x128 .f32) : FVec Ideal S4x4096x16x512 .f32 :=
  select (cmpf .oeq (broadcastInDim S4x4096x16x512 ![0, 1, 2, 3] bcast_S4x4096x16x1_S4x4096x16x512_0_1_2_3 (broadcastInDim S4x4096x16x1 ![0, 1, 2] bcast_S4x4096x16_S4x4096x16x1_0_1_2 (extractStridedSlice S4x4096x16 ![0, 0, 0] s slices_S4x4096x128_S4x4096x16_0_0_0))) (broadcastInDim S4x4096x16x512 ![0, 1, 2, 3] bcast_S1x1x1x512_S4x4096x16x512_0_1_2_3 (broadcastInDim S1x1x1x512 ![3] bcast_S512_S1x1x1x512_3 (sitofp .f32 (iotaInDim S512 32 0)))))
    (broadcastInDim S4x4096x16x512 ![0, 1, 2, 3] bcast_S4x4096x16x1_S4x4096x16x512_0_1_2_3 (broadcastInDim S4x4096x16x1 ![0, 1, 2] bcast_S4x4096x16_S4x4096x16x1_0_1_2 (extractStridedSlice S4x4096x16 ![0, 0, 0] g slices_S4x4096x128_S4x4096x16_0_0_0)))
    (broadcastInDim S4x4096x16x512 ![] bcast_S_S4x4096x16x512 (constant S_ .f32 0x00000000#32))

/-- The sum the reference normalises. -/
def added (y : FVec Ideal S16x2048x2048 .bf16) (s g : FVec Ideal S4x4096x128 .f32) (x : FVec Ideal S4x4096x2048 .f32) : FVec Ideal S4x4096x2048 .f32 :=
  addf (mulf (broadcastInDim S4x4096x2048 ![] bcast_S_S4x4096x2048 (constant S_ .f32 0x3FD744FD#32)) x)
    (Host.dotGeneral dot_S4x4096x16x512_S16x4x512x2048_S4x4096x2048_32_20_1_3_0_1 none (weight s g) (shapeCast S16x4x512x2048 (extf .f32 y bitsLt_bf16_f32) shapeCasts_S16x2048x2048_S16x4x512x2048))

/-- The rows' means, in one column. -/
def means (y : FVec Ideal S4x4096x2048 .f32) : FVec Ideal S4x4096x1 .f32 :=
  Host.divf (broadcastInDim S4x4096x1 ![0, 1] bcast_S4x4096_S4x4096x1_0_1 (Host.reduceAdd y (constant S_ .f32 0x00000000#32) reducesTo_S4x4096x2048_S4x4096_d2 h_S_)) (broadcastInDim S4x4096x1 ![] bcast_S_S4x4096x1 (constant S_ .f32 0x45000000#32))

/-- The rows less their means. -/
def centred (y : FVec Ideal S4x4096x2048 .f32) : FVec Ideal S4x4096x2048 .f32 :=
  subf y (broadcastInDim S4x4096x2048 ![0, 1, 2] bcast_S4x4096x1_S4x4096x2048_0_1_2 (means y))

/-- The reference's normalisation. -/
def term (y : FVec Ideal S4x4096x2048 .f32) (g b : FVec Ideal S2048 .f32) : FVec Ideal S4x4096x2048 .f32 :=
  addf (mulf (mulf (centred y) (broadcastInDim S4x4096x2048 ![0, 1, 2] bcast_S4x4096x1_S4x4096x2048_0_1_2 (Host.rsqrt (addf (means (mulf (centred y) (centred y))) (broadcastInDim S4x4096x1 ![] bcast_S_S4x4096x1 (constant S_ .f32 0x3727C5AC#32)))))) (broadcastInDim S4x4096x2048 ![0, 1, 2] bcast_S1x1x2048_S4x4096x2048_0_1_2 (broadcastInDim S1x1x2048 ![2] bcast_S2048_S1x1x2048_2 g))) (broadcastInDim S4x4096x2048 ![0, 1, 2] bcast_S1x1x2048_S4x4096x2048_0_1_2 (broadcastInDim S1x1x2048 ![2] bcast_S2048_S1x1x2048_2 b))

theorem weight_at (s g : FVec Ideal S4x4096x128 .f32) (b : Fin 4) (n : Fin 4096) (e : Fin 16) (c : Fin 512) :
    weight s g (ix4 b n e c) = if s (ix3 b n ⟨e.val, by omega⟩) = num c.val then g (ix3 b n ⟨e.val, by omega⟩) else 0 := by
  pointwise [weight]

theorem added_at (y : FVec Ideal S16x2048x2048 .bf16) (s g : FVec Ideal S4x4096x128 .f32) (x : FVec Ideal S4x4096x2048 .f32) (b : Fin 4) (n : Fin 4096) (d : Fin 2048) :
    added y s g x (ix3 b n d) = total y s g x b n d := by
  pointwise [added]
  simp only [weight_at]
  rw [Finset.sum_comm]
  rfl

theorem means_at (y : FVec Ideal S4x4096x2048 .f32) (b : Fin 4) (n : Fin 4096) (d : Fin 1) : means y (ix3 b n d) = mean fun k => y (ix3 b n k) := by
  pointwise [means]
  rfl

theorem centred_at (y : FVec Ideal S4x4096x2048 .f32) (b : Fin 4) (n : Fin 4096) (d : Fin 2048) : centred y (ix3 b n d) = y (ix3 b n d) - mean fun k => y (ix3 b n k) := by
  pointwise [centred]
  rw [means_at]

theorem term_at (y : FVec Ideal S16x2048x2048 .bf16) (s g : FVec Ideal S4x4096x128 .f32) (x : FVec Ideal S4x4096x2048 .f32) (u v : FVec Ideal S2048 .f32) (b : Fin 4) (n : Fin 4096) (d : Fin 2048) :
    term (added y s g x) u v (ix3 b n d) = result y s g x u v b n d := by
  pointwise [term]
  simp only [means_at, centred_at, added_at]
  have e : ∀ k, mulf (centred (added y s g x)) (centred (added y s g x)) (ix3 b n k)
      = (total y s g x b n k - mean fun k => total y s g x b n k) * (total y s g x b n k - mean fun k => total y s g x b n k) := by
    intro k
    pointwise
    simp only [centred_at, added_at]
  simp only [e]
  rfl

variable (m : (ℓ : Loc nD τ sig) → Buf (Elt Ideal) ℓ)

/-- The first array the reference returns. -/
theorem result_eq (c : Dev nD) : Value.res_out0 m c = term (added (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) := by
  rfl

/-- The second is the first, rounded. -/
theorem result2_eq (c : Dev nD) (i : S4x4096x2048.Idx) : (Value.res_out1 m c : FVec Ideal S4x4096x2048 .bf16) i = (Value.res_out0 m c : FVec Ideal S4x4096x2048 .f32) i := by
  rfl

end Cert.CombineReferenceIdeal.Hand

/-- The reference leaves its arguments as they were. -/
theorem Combine.reference_frame : Cert.quiescent_CombineReferenceIdeal := by
  intro m ρ _
  exact (θ_run Cert.CombineReferenceIdeal.defs _ _).mono
    (fun r k => ⟨fun c => (k c).2.2, sem_eq_zero_of_no_sems (by decide) r.2⟩) (Cert.CombineReferenceIdeal.Value.run m ρ)

/-- From the same arguments the kernel and the reference return the same two arrays. -/
theorem Combine.algebraic : Cert.algebraic_CombineKernelIdeal_CombineReferenceIdeal := by
  pair_intro
  · run_from Cert.CombineKernelIdeal.Value.run_blocks m g
  · run_from Cert.CombineReferenceIdeal.Value.run m' g'
    all_goals first
      | rw [Cert.CombineKernelIdeal.Hand.final m c]
      | rw [Cert.CombineKernelIdeal.Hand.final2 m c]
    all_goals
      funext i
      idx_vars i
    · refine (congrFun (Cert.CombineReferenceIdeal.Hand.result_eq m' c) _).trans ?_
      obtain ⟨e0, e1, e2, e3, e4, e5⟩ := hagree c
      rw [e0, e1, e2, e3, e4, e5]
      exact Cert.CombineReferenceIdeal.Hand.term_at _ _ _ _ _ _ i0 i1 i2
    · refine (Cert.CombineReferenceIdeal.Hand.result2_eq m' c _).trans ((congrFun (Cert.CombineReferenceIdeal.Hand.result_eq m' c) _).trans ?_)
      obtain ⟨e0, e1, e2, e3, e4, e5⟩ := hagree c
      rw [e0, e1, e2, e3, e4, e5]
      exact Cert.CombineReferenceIdeal.Hand.term_at _ _ _ _ _ _ i0 i1 i2
-- ==== Proof.Gather.lean ====
module

public import proofs.«01_k».proof.Defs
public import proofs.«01_k».proof.Proof.Gen.GatherKernelIdeal
public import proofs.«01_k».proof.Proof.Gen.GatherKernelIdeal.Value
public import proofs.«01_k».proof.Proof.Gen.GatherReferenceIdeal
public import proofs.«01_k».proof.Proof.Gen.GatherReferenceIdeal.Run
public import proofs.«01_k».proof.Proof.CombineMath
public import Idealize.ShloMosaic.Lib.Pipeline.ValueKit
public import Idealize.ShloMosaic.Lib.Pointwise
public import Idealize.ShloMosaic.Lib.Claim
public import Idealize.ShloMosaic.Adequacy

/-! # The tokens of each expert, gathered into its rows -/

@[expose] public section
set_option maxRecDepth 16384
noncomputable section
open Idealize.ShloMosaic Idealize.ShloMosaic.TcCoe Idealize.SL.Sem
open Idealize.ShloMosaic.Pipeline (Dat)

namespace Cert.GatherMath

/-- The row of expert `e` that slot `c` of batch `b` holds: the tokens whose slot number is `c`, added up. -/
def row (x : (⟨3, ![4, 4096, 2048]⟩ : Shape).Idx → EReal) (s : (⟨3, ![4, 16, 4096]⟩ : Shape).Idx → BitVec 32)
    (e : Fin 16) (b : Fin 4) (c : Fin 512) (d : Fin 2048) : EReal :=
  ∑ n : Fin 4096, (if BitVec.ofNat 32 c.val = s (ix3 b e n) then (1 : EReal) else 0) * x (ix3 b n d)

end Cert.GatherMath

namespace Cert.GatherKernelIdeal.Hand
open Cert.GatherKernelIdeal Cert.GatherKernelIdeal.Gen Cert.GatherMath

variable (m : (ℓ : Loc nD τ sig) → Buf (Elt Ideal) ℓ)

/-- The result array, entry by entry: an expert's rows are numbered by batch, then by slot. -/
def REF (x : FVec Ideal S4x4096x2048 .bf16) (s : IVec S4x16x4096 32) : FVec Ideal S16x2048x2048 .bf16 :=
  fun i => row x s (i 0) ⟨(i 1).val / 512, by have : (i 1).val < 2048 := (i 1).isLt; omega⟩ ⟨(i 1).val % 512, by omega⟩ (i 2)

/-- The body's result block, from its input blocks. -/
theorem payload_at (s : IVec S1x1x4096 32) (x : FVec Ideal S1x4096x2048 .bf16) (r : Fin 512) (n : Fin 2048) :
    k0_pay1 (F := Ideal) s x (ix3 0 r n)
      = ∑ k : Fin 4096, (if BitVec.ofNat 32 r.val = s (ix3 0 0 k) then (1 : EReal) else 0) * x (ix3 0 k n) := by
  have h : ∀ k : Fin 4096, FloatOps.sitofp (F := Ideal) FTy.f32 (BitVec.setWidth 32 (IntOp.cmpi .eq (BitVec.ofNat 32 r.val) (s (ix3 0 0 k))))
      = if BitVec.ofNat 32 r.val = s (ix3 0 0 k) then (1 : EReal) else 0 := by
    intro k
    rw [WordCmp.cmpi_eq_eq]
    exact CombineMath.bit _
  pointwise [k0_pay1]
  simp only [h]

/-- The blocks of a grid point: the batch is the slower coordinate, the expert the faster. -/
theorem idx : ∀ t : Fin cfg0.N, win0_0.index t = ![t.val / 16, 0, 0] ∧ win0_1.index t = ![t.val / 16, 0, 0] ∧ win0_2.index t = ![t.val % 16, t.val / 16, 0] :=
  (by decide +kernel : ∀ t : Fin grid0.N, _)

/-- The expert of a grid point, and the row of slots it loads. -/
theorem expert : ∀ t : Fin cfg0.N, k0_off1 (grid0.coords t) = ![0, t.val % 16, 0] :=
  (by decide +kernel : ∀ t : Fin grid0.N, _)

/-- What a grid point stores is the result array's block there. -/
theorem point (c : Dev nD) (t : Fin cfg0.N) (r : Fin 512) (n : Fin 2048) :
    k0_pay1 (F := Ideal) (View.ld (iblk m c 1 t) (Rect.unit (s := S1x16x4096) (k0_off1 (grid0.coords t)) S1x1x4096.size (k0_off1_inb (grid0.coords t)))) (iblk m c 0 t) (ix3 0 r n)
      = REF (m ((c.tc : Thread nD τ).loc main_arg0)) (m ((c.tc : Thread nD τ).loc main_arg1)) (((cfg0.win 2).blk t).view.emb (ix3 0 r n)) := by
  obtain ⟨i0, i1, i2⟩ := idx t
  have u : t.val < 64 := t.isLt
  have p : ((cfg0.win 2).blk t).view.emb (ix3 0 r n) = ix3 (⟨t.val % 16, by omega⟩ : Fin 16) (⟨t.val / 16 * 512 + r.val, by omega⟩ : Fin 2048) n := by
    blk_ext [i2]
  rw [p]
  refine (payload_at _ _ r n).trans ?_
  have b0 : ∀ k : Fin 4096, (iblk m c 0 t : FVec Ideal S1x4096x2048 .bf16) (ix3 0 k n)
      = (m ((c.tc : Thread nD τ).loc main_arg0) : FVec Ideal S4x4096x2048 .bf16) (ix3 (⟨t.val / 16, by omega⟩ : Fin 4) k n) := by
    intro k; blk_ext [iblk, V, i0]
  have b1 : ∀ k : Fin 4096, (View.ld (iblk m c 1 t) (Rect.unit (s := S1x16x4096) (k0_off1 (grid0.coords t)) S1x1x4096.size (k0_off1_inb (grid0.coords t))) : IVec S1x1x4096 32) (ix3 0 0 k)
      = (m ((c.tc : Thread nD τ).loc main_arg1) : IVec S4x16x4096 32) (ix3 (⟨t.val / 16, by omega⟩ : Fin 4) (⟨t.val % 16, by omega⟩ : Fin 16) k) := by
    intro k
    refine (View.ld_unit_apply_of _ _ _ _ _ (ix3 0 (⟨t.val % 16, by omega⟩ : Fin 16) k) ?_).trans ?_
    · intro a
      refine Eq.trans ?_ (congrArg (· + _) (congrFun (expert t) a).symm)
      fin_cases a
      · rfl
      · rfl
      · exact (Nat.zero_add _).symm
    blk_ext [iblk, V, i1]
  have q : (⟨(t.val / 16 * 512 + r.val) / 512, by omega⟩ : Fin 4) = ⟨t.val / 16, by omega⟩ := Fin.ext (show (t.val / 16 * 512 + r.val) / 512 = t.val / 16 by omega)
  have q' : (⟨(t.val / 16 * 512 + r.val) % 512, by omega⟩ : Fin 512) = r := Fin.ext (show (t.val / 16 * 512 + r.val) % 512 = r.val by omega)
  show _ = row _ _ (⟨t.val % 16, by omega⟩ : Fin 16) (⟨(t.val / 16 * 512 + r.val) / 512, by omega⟩ : Fin 4) (⟨(t.val / 16 * 512 + r.val) % 512, by omega⟩ : Fin 512) n
  rw [q, q']
  unfold row
  simp only [b0, b1]

/-- The result array after the run. -/
theorem final (c : Dev nD) : (dats m 0 c).arrAt 2 cfg0.N = REF (m ((c.tc : Thread nD τ).loc main_arg0)) (m ((c.tc : Thread nD τ).loc main_arg1)) := by
  refine (dats m 0 c).arrAt_eq_of_covers 2 _ (by decide +kernel) fun t _ y => ?_
  blk_simp
  rw [after0_2]
  unfold outsAt0
  frame_out
  idx_vars y
  have z : y0 = 0 := Subsingleton.elim _ _
  subst z
  exact point m c t y1 y2

end Cert.GatherKernelIdeal.Hand

namespace Cert.GatherReferenceIdeal.Hand
open Cert.GatherReferenceIdeal Cert.GatherReferenceIdeal.Gen Cert.GatherMath

/-- The reference's result. -/
def term (x : FVec Ideal S4x4096x2048 .bf16) (s : IVec S4x16x4096 32) : FVec Ideal S16x2048x2048 .bf16 :=
  shapeCast S16x2048x2048 (truncf .bf16 (transpose S16x4x512x2048 [2, 0, 3, 1] (Host.dotGeneral dot_S4x4096x2048_S4x16x512x4096_S4x2048x16x512_1_3_2_12_0_0 none (extf .f32 x bitsLt_bf16_f32) (select (cmpi .eq (broadcastInDim S4x16x512x4096 ![0, 1, 2, 3] bcast_S4x16x1x4096_S4x16x512x4096_0_1_2_3 (broadcastInDim S4x16x1x4096 ![0, 1, 3] bcast_S4x16x4096_S4x16x1x4096_0_1_3 s)) (broadcastInDim S4x16x512x4096 ![0, 1, 2, 3] bcast_S1x1x512x1_S4x16x512x4096_0_1_2_3 (broadcastInDim S1x1x512x1 ![2, 3] bcast_S512x1_S1x1x512x1_2_3 (broadcastInDim S512x1 ![0] bcast_S512_S512x1_0 (iotaInDim S512 32 0))))) (broadcastInDim S4x16x512x4096 ![] bcast_S_S4x16x512x4096 (constant S_ .f32 0x3F800000#32)) (broadcastInDim S4x16x512x4096 ![] bcast_S_S4x16x512x4096 (constant S_ .f32 0x00000000#32)))) transposes_S4x2048x16x512_S16x4x512x2048_2_0_3_1) bitsLt_bf16_f32) shapeCasts_S16x4x512x2048_S16x2048x2048

/-- A number kept where two words agree, as a product. -/
theorem picked (a b : BitVec 32) (x : EReal) : Scalar.select (IntOp.cmpi .eq a b) x 0 = (if b = a then (1 : EReal) else 0) * x := by
  rw [WordCmp.cmpi_eq_eq]
  by_cases h : a = b
  · rw [decide_eq_true h, if_pos h.symm, one_mul]; rfl
  · rw [decide_eq_false h, if_neg (Ne.symm h), zero_mul]; rfl

theorem term_at (x : FVec Ideal S4x4096x2048 .bf16) (s : IVec S4x16x4096 32) (e : Fin 16) (r : Fin 2048) (d : Fin 2048) :
    term x s (ix3 e r d) = row x s e ⟨r.val / 512, by omega⟩ ⟨r.val % 512, by omega⟩ d := by
  pointwise [term]
  unfold row
  refine Finset.sum_congr rfl fun k _ => ?_
  exact picked _ _ _

end Cert.GatherReferenceIdeal.Hand

/-- The reference leaves its arguments as they were. -/
theorem Gather.reference_frame : Cert.quiescent_GatherReferenceIdeal := by
  intro m ρ _
  exact (θ_run Cert.GatherReferenceIdeal.defs _ _).mono
    (fun r k => ⟨fun c => (k c).2, sem_eq_zero_of_no_sems (by decide) r.2⟩) (Cert.GatherReferenceIdeal.Value.run m ρ)

/-- From the same arguments the kernel and the reference return the same array. -/
theorem Gather.algebraic : Cert.algebraic_GatherKernelIdeal_GatherReferenceIdeal := by
  pair_intro
  · run_from Cert.GatherKernelIdeal.Value.run_blocks m g
  · run_from Cert.GatherReferenceIdeal.Value.run m' g'
    rw [Cert.GatherKernelIdeal.Hand.final m c]
    funext i
    idx_vars i
    exact Cert.GatherReferenceIdeal.Hand.term_at _ _ i0 i1 i2
-- ==== Proof.Mix.lean ====
module

public import proofs.«01_k».proof.Defs
public import proofs.«01_k».proof.Proof.Gen.MixKernelIdeal
public import proofs.«01_k».proof.Proof.Gen.MixKernelIdeal.Value
public import proofs.«01_k».proof.Proof.Gen.MixReferenceIdeal
public import proofs.«01_k».proof.Proof.Gen.MixReferenceIdeal.Run
public import Idealize.ShloMosaic.Lib.Pipeline.ValueKit
public import Idealize.ShloMosaic.Lib.Pointwise
public import Idealize.ShloMosaic.Lib.Claim
public import Idealize.ShloMosaic.Adequacy

/-! # The dilation groups, mixed by the softmax of their log-sums -/

@[expose] public section
set_option maxRecDepth 16384
noncomputable section
open Idealize.ShloMosaic Idealize.ShloMosaic.TcCoe Idealize.SL.Sem
open Idealize.ShloMosaic.Pipeline (Dat)

namespace Cert.MixMath

/-- The largest of three. -/
def top (l0 l1 l2 : EReal) : EReal := max (max l0 l1) l2

/-- The softmax weight of `l` among `l0`, `l1`, `l2`. -/
def weight (l0 l1 l2 l : EReal) : EReal :=
  Ideal.div (Ideal.exp (l - top l0 l1 l2)) (Ideal.exp (l0 - top l0 l1 l2) + Ideal.exp (l1 - top l0 l1 l2) + Ideal.exp (l2 - top l0 l1 l2))

/-- Three numbers, weighted by the softmax of three others. -/
def mixed (l0 l1 l2 o0 o1 o2 : EReal) : EReal :=
  weight l0 l1 l2 l0 * o0 + weight l0 l1 l2 l1 * o1 + weight l0 l1 l2 l2 * o2

/-- Three numbers' largest, started at the word for minus infinity. -/
theorem top_fold (f : Fin 3 → EReal) :
    max (Ideal.ofBits FTy.f32 0xFF800000#32) (Finset.fold max (Ideal.ofBits FTy.f32 0xFF800000#32) f Finset.univ) = top (f 0) (f 1) (f 2) := by
  rw [show Ideal.ofBits FTy.f32 0xFF800000#32 = (⊥ : EReal) by simp [Ideal.ofBits, Ideal.ieee], max_eq_right bot_le]
  simp [Fin.univ_succ, top, max_assoc]

end Cert.MixMath

namespace Cert.MixKernelIdeal.Hand
open Cert.MixKernelIdeal Cert.MixKernelIdeal.Gen Cert.MixMath

variable (m : (ℓ : Loc nD τ sig) → Buf (Elt Ideal) ℓ)

/-- The result array, entry by entry: a head is 128 columns, and its log-sum stands in the head's own lane. -/
def REF (o0 o1 o2 : FVec Ideal S16384x768 .bf16) (l0 l1 l2 : FVec Ideal S16384x128 .f32) : FVec Ideal S16384x768 .bf16 :=
  fun i => mixed (l0 (ix2 (i 0) (⟨(i 1).val / 128, by have : (i 1).val < 768 := (i 1).isLt; omega⟩ : Fin 128))) (l1 (ix2 (i 0) (⟨(i 1).val / 128, by have : (i 1).val < 768 := (i 1).isLt; omega⟩ : Fin 128)))
    (l2 (ix2 (i 0) (⟨(i 1).val / 128, by have : (i 1).val < 768 := (i 1).isLt; omega⟩ : Fin 128))) (o0 i) (o1 i) (o2 i)

/-- The body's result block, from its input blocks. -/
theorem block_at (o0 o1 o2 : FVec Ideal S1024x768 .bf16) (l0 l1 l2 : FVec Ideal S1024x128 .f32) (y : S1024x768.Idx) :
    out0_6 (F := Ideal) o0 o1 o2 l0 l1 l2 y
      = mixed (l0 (ix2 (y 0) (⟨(y 1).val / 128, by have : (y 1).val < 768 := (y 1).isLt; omega⟩ : Fin 128))) (l1 (ix2 (y 0) (⟨(y 1).val / 128, by have : (y 1).val < 768 := (y 1).isLt; omega⟩ : Fin 128)))
        (l2 (ix2 (y 0) (⟨(y 1).val / 128, by have : (y 1).val < 768 := (y 1).isLt; omega⟩ : Fin 128))) (o0 y) (o1 y) (o2 y) := by
  canon_tiles z h
  all_goals
    open_payloads
    pointwise [mixed, weight, top]
    blk_point []

/-- The blocks of a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The result array after the run. -/
theorem final (c : Dev nD) : (dats m 0 c).arrAt 6 cfg0.N = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 6 _ (by decide +kernel) fun t _ y => ?_
  blk_simp
  rw [after0_6]
  obtain ⟨i0, i1, i2, i3, i4, i5, i6⟩ := idx t
  refine (block_at _ _ _ _ _ _ y).trans ?_
  unfold REF
  blk_point [iblk, V, i0, i1, i2, i3, i4, i5, i6]

end Cert.MixKernelIdeal.Hand

namespace Cert.MixReferenceIdeal.Hand
open Cert.MixReferenceIdeal Cert.MixReferenceIdeal.Gen Cert.MixMath

/-- The heads' log-sums of the three groups, one above the other. -/
def stacked (l0 l1 l2 : FVec Ideal S16384x128 .f32) : FVec Ideal S3x16384x6 .f32 :=
  concatenate S3x16384x6 0 [⟨S1x16384x6, broadcastInDim S1x16384x6 ![1, 2] bcast_S16384x6_S1x16384x6_1_2 (extractStridedSlice S16384x6 ![0, 0] l0 slices_S16384x128_S16384x6_0_0)⟩, ⟨S1x16384x6, broadcastInDim S1x16384x6 ![1, 2] bcast_S16384x6_S1x16384x6_1_2 (extractStridedSlice S16384x6 ![0, 0] l1 slices_S16384x128_S16384x6_0_0)⟩, ⟨S1x16384x6, broadcastInDim S1x16384x6 ![1, 2] bcast_S16384x6_S1x16384x6_1_2 (extractStridedSlice S16384x6 ![0, 0] l2 slices_S16384x128_S16384x6_0_0)⟩] concatenates_S1x16384x6_S1x16384x6_S1x16384x6_S3x16384x6_d0

/-- The largest of the three. -/
def tops (s : FVec Ideal S3x16384x6 .f32) : FVec Ideal S16384x6 .f32 :=
  maximumf (broadcastInDim S16384x6 ![] bcast_S_S16384x6 (constant S_ .f32 0xFF800000#32)) (Host.reduce FloatOps.maximumf s (constant S_ .f32 0xFF800000#32) reducesTo_S3x16384x6_S16384x6_d0 h_S_)

/-- The exponentials of what lies below it. -/
def exps (s : FVec Ideal S3x16384x6 .f32) : FVec Ideal S3x16384x6 .f32 :=
  Host.exp (subf s (broadcastInDim S3x16384x6 ![0, 1, 2] bcast_S1x16384x6_S3x16384x6_0_1_2 (broadcastInDim S1x16384x6 ![1, 2] bcast_S16384x6_S1x16384x6_1_2 (tops s))))

/-- The softmax over the three groups. -/
def weights (s : FVec Ideal S3x16384x6 .f32) : FVec Ideal S3x16384x6 .f32 :=
  Host.divf (exps s) (broadcastInDim S3x16384x6 ![0, 1, 2] bcast_S1x16384x6_S3x16384x6_0_1_2 (broadcastInDim S1x16384x6 ![1, 2] bcast_S16384x6_S1x16384x6_1_2 (Host.reduceAdd (exps s) (constant S_ .f32 0x00000000#32) reducesTo_S3x16384x6_S16384x6_d0 h_S_)))

/-- The three groups' outputs, one above the other. -/
def outs (o0 o1 o2 : FVec Ideal S16384x768 .bf16) : FVec Ideal S3x16384x6x128 .f32 :=
  concatenate S3x16384x6x128 0 [⟨S1x16384x6x128, broadcastInDim S1x16384x6x128 ![1, 2, 3] bcast_S16384x6x128_S1x16384x6x128_1_2_3 (shapeCast S16384x6x128 (extf .f32 o0 bitsLt_bf16_f32) shapeCasts_S16384x768_S16384x6x128)⟩, ⟨S1x16384x6x128, broadcastInDim S1x16384x6x128 ![1, 2, 3] bcast_S16384x6x128_S1x16384x6x128_1_2_3 (shapeCast S16384x6x128 (extf .f32 o1 bitsLt_bf16_f32) shapeCasts_S16384x768_S16384x6x128)⟩, ⟨S1x16384x6x128, broadcastInDim S1x16384x6x128 ![1, 2, 3] bcast_S16384x6x128_S1x16384x6x128_1_2_3 (shapeCast S16384x6x128 (extf .f32 o2 bitsLt_bf16_f32) shapeCasts_S16384x768_S16384x6x128)⟩] concatenates_S1x16384x6x128_S1x16384x6x128_S1x16384x6x128_S3x16384x6x128_d0

/-- The reference's result. -/
def term (o0 o1 o2 : FVec Ideal S16384x768 .bf16) (l0 l1 l2 : FVec Ideal S16384x128 .f32) : FVec Ideal S16384x768 .bf16 :=
  shapeCast S16384x768 (truncf .bf16 (Host.dotGeneral dot_S3x16384x6_S3x16384x6x128_S16384x6x128_0_0_n_3_12_12 none (weights (stacked l0 l1 l2)) (outs o0 o1 o2)) bitsLt_bf16_f32) shapeCasts_S16384x6x128_S16384x768

/-- Group `g` stands at place `g`. -/
theorem stacked_at (l0 l1 l2 : FVec Ideal S16384x128 .f32) (g : Fin 3) (r : Fin 16384) (h : Fin 6) :
    stacked l0 l1 l2 (ix3 g r h) = ![l0 (ix2 r ⟨h.val, by omega⟩), l1 (ix2 r ⟨h.val, by omega⟩), l2 (ix2 r ⟨h.val, by omega⟩)] g := by
  fin_cases g
  all_goals
    pointwise [stacked]

/-- Head `h` of a group's output is 128 columns of it. -/
theorem outs_at (o0 o1 o2 : FVec Ideal S16384x768 .bf16) (g : Fin 3) (r : Fin 16384) (h : Fin 6) (d : Fin 128) :
    outs o0 o1 o2 (ix4 g r h d) = ![o0 (ix2 r ⟨h.val * 128 + d.val, by omega⟩), o1 (ix2 r ⟨h.val * 128 + d.val, by omega⟩), o2 (ix2 r ⟨h.val * 128 + d.val, by omega⟩)] g := by
  fin_cases g
  all_goals
    pointwise [outs]

/-- The largest of the three entries. -/
theorem tops_at (s : FVec Ideal S3x16384x6 .f32) (r : Fin 16384) (h : Fin 6) :
    tops s (ix2 r h) = top (s (ix3 0 r h)) (s (ix3 1 r h)) (s (ix3 2 r h)) := by
  pointwise [tops]
  exact top_fold fun g => s (ix3 g r h)

/-- The exponential of an entry below the largest. -/
theorem exps_at (s : FVec Ideal S3x16384x6 .f32) (g : Fin 3) (r : Fin 16384) (h : Fin 6) :
    exps s (ix3 g r h) = Ideal.exp (s (ix3 g r h) - top (s (ix3 0 r h)) (s (ix3 1 r h)) (s (ix3 2 r h))) := by
  pointwise [exps]
  rw [tops_at]

/-- The softmax weight of an entry. -/
theorem weights_at (s : FVec Ideal S3x16384x6 .f32) (g : Fin 3) (r : Fin 16384) (h : Fin 6) :
    weights s (ix3 g r h) = weight (s (ix3 0 r h)) (s (ix3 1 r h)) (s (ix3 2 r h)) (s (ix3 g r h)) := by
  pointwise [weights]
  rw [Fin.sum_univ_three]
  simp only [exps_at]
  rfl

/-- The reference's result, entry by entry. -/
theorem term_at (o0 o1 o2 : FVec Ideal S16384x768 .bf16) (l0 l1 l2 : FVec Ideal S16384x128 .f32) (r : Fin 16384) (n : Fin 768) :
    term o0 o1 o2 l0 l1 l2 (ix2 r n)
      = mixed (l0 (ix2 r ⟨n.val / 128, by omega⟩)) (l1 (ix2 r ⟨n.val / 128, by omega⟩)) (l2 (ix2 r ⟨n.val / 128, by omega⟩)) (o0 (ix2 r n)) (o1 (ix2 r n)) (o2 (ix2 r n)) := by
  pointwise [term]
  rw [Fin.sum_univ_three]
  simp only [weights_at, outs_at, stacked_at]
  have e : (⟨n.val / 128 * 128 + n.val % 128, by omega⟩ : Fin 768) = n := Fin.ext (by show n.val / 128 * 128 + n.val % 128 = n.val; omega)
  rw [e]
  rfl

variable (m : (ℓ : Loc nD τ sig) → Buf (Elt Ideal) ℓ)

/-- The array the reference returns. -/
theorem result_eq (c : Dev nD) : Value.res_out0 m c = term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rfl

end Cert.MixReferenceIdeal.Hand

/-- The reference leaves its arguments as they were. -/
theorem Mix.reference_frame : Cert.quiescent_MixReferenceIdeal := by
  intro m ρ _
  exact (θ_run Cert.MixReferenceIdeal.defs _ _).mono
    (fun r k => ⟨fun c => (k c).2, sem_eq_zero_of_no_sems (by decide) r.2⟩) (Cert.MixReferenceIdeal.Value.run m ρ)

set_option maxRecDepth 200000 in
/-- From the same arguments the kernel and the reference return the same array. -/
theorem Mix.algebraic : Cert.algebraic_MixKernelIdeal_MixReferenceIdeal := by
  pair_intro
  · run_from Cert.MixKernelIdeal.Value.run_blocks m g
  · run_from Cert.MixReferenceIdeal.Value.run m' g'
    rw [Cert.MixKernelIdeal.Hand.final m c]
    funext i
    idx_vars i
    refine (congrFun (Cert.MixReferenceIdeal.Hand.result_eq m' c) _).trans ?_
    obtain ⟨e0, e1, e2, e3, e4, e5⟩ := hagree c
    rw [e0, e1, e2, e3, e4, e5]
    exact Cert.MixReferenceIdeal.Hand.term_at _ _ _ _ _ _ i0 i1
-- ==== Proof.ProjMath.lean ====
module

public import Idealize.ShloMosaic.Lib.Pointwise

/-! # The layer's input projection, entry by entry -/

@[expose] public section
noncomputable section
open Idealize.ShloMosaic

namespace Cert.ProjMath

/-- Row `r` of the tokens (all batches one below the other) against column `n` of the projection. -/
def lin (X : (⟨3, ![4, 4096, 2048]⟩ : Shape).Idx → EReal) (W : (⟨2, ![2048, 22784]⟩ : Shape).Idx → EReal)
    (r : Fin 16384) (n : Fin 22784) : EReal :=
  ∑ k : Fin 2048, X (ix3 (⟨r.val / 4096, by omega⟩ : Fin 4) (⟨r.val % 4096, by omega⟩ : Fin 4096) k) * W (ix2 k n)

/-- The logistic function. -/
def sigma (z : EReal) : EReal :=
  Ideal.div 1 (1 + Ideal.exp (-z))

end Cert.ProjMath
-- ==== Proof.Gate.lean ====
module

public import proofs.«01_k».proof.Defs
public import proofs.«01_k».proof.Proof.Gen.GateKernelIdeal
public import proofs.«01_k».proof.Proof.Gen.GateKernelIdeal.Value
public import proofs.«01_k».proof.Proof.Gen.GateReferenceIdeal
public import proofs.«01_k».proof.Proof.Gen.GateReferenceIdeal.Run
public import Idealize.ShloMosaic.Lib.Pipeline.ValueKit
public import Idealize.ShloMosaic.Lib.Pointwise
public import Idealize.ShloMosaic.Lib.Claim
public import Idealize.ShloMosaic.Adequacy
public import proofs.«01_k».proof.Proof.ProjMath

/-! # The merge's gates: a projection, a bias and the logistic function -/

@[expose] public section
set_option maxRecDepth 16384
noncomputable section
open Idealize.ShloMosaic Idealize.ShloMosaic.TcCoe Idealize.SL.Sem
open Idealize.ShloMosaic.Pipeline (Dat)
open Cert.ProjMath

namespace Cert.GateKernelIdeal.Hand
open Cert.GateKernelIdeal Cert.GateKernelIdeal.Gen

variable (m : (ℓ : Loc nD τ sig) → Buf (Elt Ideal) ℓ)

/-- The result array, entry by entry. -/
def REF (X : FVec Ideal S4x4096x2048 .f32) (W : FVec Ideal S2048x22784 .f32) (b : FVec Ideal S8192 .f32) : FVec Ideal S16384x8192 .bf16 :=
  fun i => sigma (lin X W (i 0) ⟨14592 + (i 1).val, by have := (i 1).isLt; change (i 1).val < 8192 at this; omega⟩ + b (ix1 (i 1)))

/-- The body's result block, from its input blocks. -/
theorem payload_at (x : FVec Ideal S1024x2048 .bf16) (w : FVec Ideal S2048x1024 .bf16) (b : FVec Ideal S1x1024 .f32) (r : Fin 1024) (n : Fin 1024) :
    k0_pay1 (F := Ideal) x w b (ix2 r n) = sigma ((∑ k : Fin 2048, x (ix2 r k) * w (ix2 k n)) + b (ix2 0 n)) := by
  pointwise [k0_pay1]
  rw [zero_sub]
  rfl

/-- The blocks of a grid point: column block and row block from the point's number. -/
theorem idx : ∀ t : Fin cfg0.N, win0_0.index t = ![t.val % 16, 0] ∧ win0_1.index t = ![0, t.val / 16]
    ∧ win0_2.index t = ![0, t.val / 16] ∧ win0_3.index t = ![t.val % 16, t.val / 16] :=
  (by decide +kernel : ∀ t : Fin grid0.N, _)

/-- The tokens as the launch holds them: one row per token. -/
theorem tokens_at (c : Dev nD) (r : Fin 16384) (k : Fin 2048) : (V m c main_v1 : FVec Ideal S16384x2048 .bf16) (ix2 r k)
    = (m ((c.tc : Thread nD τ).loc main_arg0) : FVec Ideal S4x4096x2048 .f32) (ix3 (⟨r.val / 4096, by omega⟩ : Fin 4) (⟨r.val % 4096, by omega⟩ : Fin 4096) k) := by
  entry_read
  pointwise

/-- The columns the launch holds. -/
theorem columns_at (c : Dev nD) (k : Fin 2048) (n : Fin 8192) : (V m c main_v3 : FVec Ideal S2048x8192 .bf16) (ix2 k n)
    = (m ((c.tc : Thread nD τ).loc main_arg1) : FVec Ideal S2048x22784 .f32) (ix2 k (⟨14592 + n.val, by omega⟩ : Fin 22784)) := by
  entry_read
  pointwise

/-- The bias the launch holds. -/
theorem bias_at (c : Dev nD) (n : Fin 8192) : (V m c main_v4 : FVec Ideal S1x8192 .f32) (ix2 0 n)
    = (m ((c.tc : Thread nD τ).loc main_arg2) : FVec Ideal S8192 .f32) (ix1 n) := by
  entry_read
  pointwise

/-- What a grid point stores is the result array's block there. -/
theorem point (c : Dev nD) (t : Fin cfg0.N) (r : Fin 1024) (n : Fin 1024) :
    k0_pay1 (F := Ideal) (iblk m c 0 t) (iblk m c 1 t) (iblk m c 2 t) (ix2 r n)
      = REF (m ((c.tc : Thread nD τ).loc main_arg0)) (m ((c.tc : Thread nD τ).loc main_arg1)) (m ((c.tc : Thread nD τ).loc main_arg2)) (((cfg0.win 3).blk t).view.emb (ix2 r n)) := by
  obtain ⟨i0, i1, i2, i3⟩ := idx t
  have u : t.val < 128 := t.isLt
  have p : ((cfg0.win 3).blk t).view.emb (ix2 r n)
      = ix2 (⟨t.val % 16 * 1024 + r.val, by omega⟩ : Fin 16384) (⟨t.val / 16 * 1024 + n.val, by omega⟩ : Fin 8192) := by
    blk_ext [i3]
  have bx : ∀ k : Fin 2048, (iblk m c 0 t : FVec Ideal S1024x2048 .bf16) (ix2 r k)
      = (m ((c.tc : Thread nD τ).loc main_arg0) : FVec Ideal S4x4096x2048 .f32) (ix3 (⟨(t.val % 16 * 1024 + r.val) / 4096, by omega⟩ : Fin 4) (⟨(t.val % 16 * 1024 + r.val) % 4096, by omega⟩ : Fin 4096) k) := by
    intro k
    refine Eq.trans ?_ (tokens_at m c ⟨t.val % 16 * 1024 + r.val, by omega⟩ k)
    blk_ext [iblk, i0]
  have bw : ∀ k : Fin 2048, (iblk m c 1 t : FVec Ideal S2048x1024 .bf16) (ix2 k n)
      = (m ((c.tc : Thread nD τ).loc main_arg1) : FVec Ideal S2048x22784 .f32) (ix2 k (⟨14592 + (t.val / 16 * 1024 + n.val), by omega⟩ : Fin 22784)) := by
    intro k
    refine Eq.trans ?_ (columns_at m c k ⟨t.val / 16 * 1024 + n.val, by omega⟩)
    blk_ext [iblk, i1]
  have bb : (iblk m c 2 t : FVec Ideal S1x1024 .f32) (ix2 0 n)
      = (m ((c.tc : Thread nD τ).loc main_arg2) : FVec Ideal S8192 .f32) (ix1 (⟨t.val / 16 * 1024 + n.val, by omega⟩ : Fin 8192)) := by
    refine Eq.trans ?_ (bias_at m c ⟨t.val / 16 * 1024 + n.val, by omega⟩)
    blk_ext [iblk, i2]
  refine (payload_at _ _ _ r n).trans ?_
  rw [p]
  unfold REF lin
  simp only [bx, bw, bb, ix2_0, ix2_1]

/-- The result array after the run. -/
theorem final (c : Dev nD) : (dats m 0 c).arrAt 3 cfg0.N
    = REF (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  frame_out
  idx_vars y
  exact point m c t y0 y1

end Cert.GateKernelIdeal.Hand

namespace Cert.GateReferenceIdeal.Hand
open Cert.GateReferenceIdeal Cert.GateReferenceIdeal.Gen

/-- The reference's term, over its arguments. -/
def term (X : FVec Ideal S4x4096x2048 .f32) (W : FVec Ideal S2048x22784 .f32) (b : FVec Ideal S8192 .f32) : FVec Ideal S16384x8192 .bf16 :=
  shapeCast S16384x8192 (truncf .bf16 (Host.divf (broadcastInDim S4x4096x8192 ![] bcast_S_S4x4096x8192 (constant S_ .f32 0x3F800000#32)) (addf (broadcastInDim S4x4096x8192 ![] bcast_S_S4x4096x8192 (constant S_ .f32 0x3F800000#32)) (Host.exp (Host.negf (addf (extractStridedSlice S4x4096x8192 ![0, 0, 14592] (Host.dotGeneral dot_S4x4096x2048_S2048x22784_S4x4096x22784_2_0_01_1_n_n none X W) slices_S4x4096x22784_S4x4096x8192_0_0_14592) (broadcastInDim S4x4096x8192 ![0, 1, 2] bcast_S1x1x8192_S4x4096x8192_0_1_2 (broadcastInDim S1x1x8192 ![2] bcast_S8192_S1x1x8192_2 b))))))) bitsLt_bf16_f32) shapeCasts_S4x4096x8192_S16384x8192

theorem term_at (X : FVec Ideal S4x4096x2048 .f32) (W : FVec Ideal S2048x22784 .f32) (b : FVec Ideal S8192 .f32) (r : Fin 16384) (n : Fin 8192) :
    term X W b (ix2 r n) = sigma (lin X W r ⟨14592 + n.val, by omega⟩ + b (ix1 n)) := by
  pointwise [term]
  rfl

end Cert.GateReferenceIdeal.Hand

/-- The reference leaves its arguments as they were. -/
theorem Gate.reference_frame : Cert.quiescent_GateReferenceIdeal := by
  intro m ρ _
  exact (θ_run Cert.GateReferenceIdeal.defs _ _).mono
    (fun r k => ⟨fun c => (k c).2, sem_eq_zero_of_no_sems (by decide) r.2⟩) (Cert.GateReferenceIdeal.Value.run m ρ)

/-- From the same tokens, weights and biases the kernel and the reference return the same array. -/
theorem Gate.algebraic : Cert.algebraic_GateKernelIdeal_GateReferenceIdeal := by
  pair_intro
  · run_from Cert.GateKernelIdeal.Value.run_blocks m g
  · run_from Cert.GateReferenceIdeal.Value.run m' g'
    rw [Cert.GateKernelIdeal.Hand.final m c]
    funext i
    idx_vars i
    exact Cert.GateReferenceIdeal.Hand.term_at _ _ _ i0 i1
-- ==== Proof.Expert.lean ====
module

public import proofs.«01_k».proof.Defs
public import proofs.«01_k».proof.Proof.Gen.ExpertKernelIdeal
public import proofs.«01_k».proof.Proof.Gen.ExpertKernelIdeal.Value
public import proofs.«01_k».proof.Proof.Gen.ExpertReferenceIdeal
public import proofs.«01_k».proof.Proof.Gen.ExpertReferenceIdeal.Run
public import Idealize.ShloMosaic.Lib.Pipeline.ValueKit
public import Idealize.ShloMosaic.Lib.Pointwise
public import Idealize.ShloMosaic.Lib.Claim
public import Idealize.ShloMosaic.Adequacy

/-! # The experts' gated feed-forward layers -/

@[expose] public section
set_option maxRecDepth 16384
noncomputable section
open Idealize.ShloMosaic Idealize.ShloMosaic.TcCoe Idealize.SL.Sem
open Idealize.ShloMosaic.Pipeline (Dat)

namespace Cert.ExpertMath

/-- A row of tokens against a column of an expert's weights. -/
def into (x : (⟨3, ![16, 2048, 2048]⟩ : Shape).Idx → EReal) (w : (⟨3, ![16, 2048, 1024]⟩ : Shape).Idx → EReal)
    (e : Fin 16) (r : Fin 2048) (n : Fin 1024) : EReal := ∑ k : Fin 2048, x (ix3 e r k) * w (ix3 e k n)

/-- The swish function. -/
def silu (z : EReal) : EReal := Ideal.div z (1 + Ideal.exp (-z))

/-- One expert's output: the gated hidden row against a column of the last weights. -/
def ffn (x : (⟨3, ![16, 2048, 2048]⟩ : Shape).Idx → EReal) (g u : (⟨3, ![16, 2048, 1024]⟩ : Shape).Idx → EReal)
    (d : (⟨3, ![16, 1024, 2048]⟩ : Shape).Idx → EReal) (e : Fin 16) (r n : Fin 2048) : EReal :=
  ∑ k : Fin 1024, silu (into x g e r k) * into x u e r k * d (ix3 e k n)

/-- The exponential is never negative. -/
theorem ideal_exp_nonneg (x : EReal) : 0 ≤ Ideal.exp x := by
  induction x with
  | bot => exact le_refl _
  | top => exact le_top
  | coe r => exact EReal.coe_nonneg.mpr (Real.exp_pos r).le

/-- The divisor of the swish function is never zero. -/
theorem divisor_ne (z : EReal) : (1 : EReal) + Ideal.exp (-z) ≠ 0 := by
  have h : (0 : EReal) ≤ Ideal.exp (-z) := ideal_exp_nonneg _
  have h1 : (0 : EReal) < 1 + Ideal.exp (-z) := lt_of_lt_of_le zero_lt_one (le_add_of_nonneg_right h)
  exact h1.ne'

/-- Multiplying by the logistic function is the swish function. -/
theorem mul_logistic (z : EReal) : z * Ideal.div 1 (1 + Ideal.exp (-z)) = silu z := by
  unfold silu Ideal.div
  rw [if_neg (divisor_ne z), if_neg (divisor_ne z), one_mul]

end Cert.ExpertMath

namespace Cert.ExpertKernelIdeal.Hand
open Cert.ExpertKernelIdeal Cert.ExpertKernelIdeal.Gen Cert.ExpertMath

variable (m : (ℓ : Loc nD τ sig) → Buf (Elt Ideal) ℓ)

/-- The result array, entry by entry. -/
def REF (x : FVec Ideal S16x2048x2048 .bf16) (g u : FVec Ideal S16x2048x1024 .f32) (d : FVec Ideal S16x1024x2048 .f32) : FVec Ideal S16x2048x2048 .bf16 :=
  fun i => ffn x g u d (i 0) (i 1) (i 2)

/-- The body's result block, from its input blocks. -/
theorem payload_at (x : FVec Ideal S1x512x2048 .bf16) (g u : FVec Ideal S1x2048x1024 .bf16) (d : FVec Ideal S1x1024x2048 .bf16) (r : Fin 512) (n : Fin 2048) :
    k0_pay1 (F := Ideal) x g u d (ix3 0 r n) = ∑ k : Fin 1024, silu (∑ a : Fin 2048, x (ix3 0 r a) * g (ix3 0 a k))
      * (∑ a : Fin 2048, x (ix3 0 r a) * u (ix3 0 a k)) * d (ix3 0 k n) := by
  pointwise [k0_pay1]
  simp only [zero_sub]
  rfl

/-- The blocks of a grid point: expert and row block from the point's number. -/
theorem idx : ∀ t : Fin cfg0.N, win0_0.index t = ![t.val / 4, t.val % 4, 0] ∧ win0_1.index t = ![t.val / 4, 0, 0]
    ∧ win0_2.index t = ![t.val / 4, 0, 0] ∧ win0_3.index t = ![t.val / 4, 0, 0] ∧ win0_4.index t = ![t.val / 4, t.val % 4, 0] :=
  (by decide +kernel : ∀ t : Fin grid0.N, _)

/-- The first weights as the launch holds them. -/
theorem gate_at (c : Dev nD) (e : Fin 16) (k : Fin 2048) (n : Fin 1024) : (V m c main_v0 : FVec Ideal S16x2048x1024 .bf16) (ix3 e k n)
    = (m ((c.tc : Thread nD τ).loc main_arg1) : FVec Ideal S16x2048x1024 .f32) (ix3 e k n) := by
  entry_read
  pointwise

/-- The second weights as the launch holds them. -/
theorem up_at (c : Dev nD) (e : Fin 16) (k : Fin 2048) (n : Fin 1024) : (V m c main_v1 : FVec Ideal S16x2048x1024 .bf16) (ix3 e k n)
    = (m ((c.tc : Thread nD τ).loc main_arg2) : FVec Ideal S16x2048x1024 .f32) (ix3 e k n) := by
  entry_read
  pointwise

/-- The last weights as the launch holds them. -/
theorem down_at (c : Dev nD) (e : Fin 16) (k : Fin 1024) (n : Fin 2048) : (V m c main_v2 : FVec Ideal S16x1024x2048 .bf16) (ix3 e k n)
    = (m ((c.tc : Thread nD τ).loc main_arg3) : FVec Ideal S16x1024x2048 .f32) (ix3 e k n) := by
  entry_read
  pointwise

/-- What a grid point stores is the result array's block there. -/
theorem point (c : Dev nD) (t : Fin cfg0.N) (r : Fin 512) (n : Fin 2048) :
    k0_pay1 (F := Ideal) (iblk m c 0 t) (iblk m c 1 t) (iblk m c 2 t) (iblk m c 3 t) (ix3 0 r n)
      = REF (m ((c.tc : Thread nD τ).loc main_arg0)) (m ((c.tc : Thread nD τ).loc main_arg1)) (m ((c.tc : Thread nD τ).loc main_arg2))
          (m ((c.tc : Thread nD τ).loc main_arg3)) (((cfg0.win 4).blk t).view.emb (ix3 0 r n)) := by
  obtain ⟨i0, i1, i2, i3, i4⟩ := idx t
  have u : t.val < 64 := t.isLt
  have p : ((cfg0.win 4).blk t).view.emb (ix3 0 r n)
      = ix3 (⟨t.val / 4, by omega⟩ : Fin 16) (⟨t.val % 4 * 512 + r.val, by omega⟩ : Fin 2048) n := by
    blk_ext [i4]
  have b0 : ∀ k : Fin 2048, (iblk m c 0 t : FVec Ideal S1x512x2048 .bf16) (ix3 0 r k)
      = (m ((c.tc : Thread nD τ).loc main_arg0) : FVec Ideal S16x2048x2048 .bf16) (ix3 (⟨t.val / 4, by omega⟩ : Fin 16) (⟨t.val % 4 * 512 + r.val, by omega⟩ : Fin 2048) k) := by
    intro k; blk_ext [iblk, V, i0]
  have b1 : ∀ (k : Fin 2048) (j : Fin 1024), (iblk m c 1 t : FVec Ideal S1x2048x1024 .bf16) (ix3 0 k j)
      = (m ((c.tc : Thread nD τ).loc main_arg1) : FVec Ideal S16x2048x1024 .f32) (ix3 (⟨t.val / 4, by omega⟩ : Fin 16) k j) := by
    intro k j
    refine Eq.trans ?_ (gate_at m c ⟨t.val / 4, by omega⟩ k j)
    blk_ext [iblk, i1]
  have b2 : ∀ (k : Fin 2048) (j : Fin 1024), (iblk m c 2 t : FVec Ideal S1x2048x1024 .bf16) (ix3 0 k j)
      = (m ((c.tc : Thread nD τ).loc main_arg2) : FVec Ideal S16x2048x1024 .f32) (ix3 (⟨t.val / 4, by omega⟩ : Fin 16) k j) := by
    intro k j
    refine Eq.trans ?_ (up_at m c ⟨t.val / 4, by omega⟩ k j)
    blk_ext [iblk, i2]
  have b3 : ∀ k : Fin 1024, (iblk m c 3 t : FVec Ideal S1x1024x2048 .bf16) (ix3 0 k n)
      = (m ((c.tc : Thread nD τ).loc main_arg3) : FVec Ideal S16x1024x2048 .f32) (ix3 (⟨t.val / 4, by omega⟩ : Fin 16) k n) := by
    intro k
    refine Eq.trans ?_ (down_at m c ⟨t.val / 4, by omega⟩ k n)
    blk_ext [iblk, i3]
  refine (payload_at _ _ _ _ r n).trans ?_
  rw [p]
  unfold REF ffn into
  simp only [b0, b1, b2, b3, ix3_0, ix3_1, ix3_2]

/-- The result array after the run. -/
theorem final (c : Dev nD) : (dats m 0 c).arrAt 4 cfg0.N
    = REF (m ((c.tc : Thread nD τ).loc main_arg0)) (m ((c.tc : Thread nD τ).loc main_arg1)) (m ((c.tc : Thread nD τ).loc main_arg2))
        (m ((c.tc : Thread nD τ).loc main_arg3)) := by
  refine (dats m 0 c).arrAt_eq_of_covers 4 _ (by decide +kernel) fun t _ y => ?_
  blk_simp
  rw [after0_4]
  frame_out
  idx_vars y
  obtain rfl : y0 = 0 := Subsingleton.elim y0 0
  exact point m c t y1 y2

end Cert.ExpertKernelIdeal.Hand

namespace Cert.ExpertReferenceIdeal.Hand
open Cert.ExpertReferenceIdeal Cert.ExpertReferenceIdeal.Gen Cert.ExpertMath

/-- The tokens against one set of weights, expert by expert. -/
def inner (x : FVec Ideal S16x2048x2048 .bf16) (w : FVec Ideal S16x2048x1024 .f32) : FVec Ideal S16x2048x1024 .f32 :=
  Host.dotGeneral dot_S16x2048x2048_S16x2048x1024_S16x2048x1024_2_1_1_2_0_0 none (extf .f32 x bitsLt_bf16_f32) w

/-- The reference's term, over its arguments. -/
def term (x : FVec Ideal S16x2048x2048 .bf16) (g u : FVec Ideal S16x2048x1024 .f32) (d : FVec Ideal S16x1024x2048 .f32) : FVec Ideal S16x2048x2048 .bf16 :=
  truncf .bf16 (Host.dotGeneral dot_S16x2048x1024_S16x1024x2048_S16x2048x2048_2_1_1_2_0_0 none (mulf (mulf (inner x g) (Host.divf (broadcastInDim S16x2048x1024 ![] bcast_S_S16x2048x1024 (constant S_ .f32 0x3F800000#32)) (addf (broadcastInDim S16x2048x1024 ![] bcast_S_S16x2048x1024 (constant S_ .f32 0x3F800000#32)) (Host.exp (Host.negf (inner x g)))))) (inner x u)) d) bitsLt_bf16_f32

theorem inner_at (x : FVec Ideal S16x2048x2048 .bf16) (w : FVec Ideal S16x2048x1024 .f32) (e : Fin 16) (r : Fin 2048) (n : Fin 1024) :
    inner x w (ix3 e r n) = into x w e r n := by
  pointwise [inner]
  rfl

theorem term_at (x : FVec Ideal S16x2048x2048 .bf16) (g u : FVec Ideal S16x2048x1024 .f32) (d : FVec Ideal S16x1024x2048 .f32) (e : Fin 16) (r n : Fin 2048) :
    term x g u d (ix3 e r n) = ffn x g u d e r n := by
  pointwise [term]
  unfold ffn
  refine Finset.sum_congr rfl fun k _ => ?_
  rw [mul_logistic, inner_at, inner_at]

end Cert.ExpertReferenceIdeal.Hand

/-- The reference leaves its arguments as they were. -/
theorem Expert.reference_frame : Cert.quiescent_ExpertReferenceIdeal := by
  intro m ρ _
  exact (θ_run Cert.ExpertReferenceIdeal.defs _ _).mono
    (fun r k => ⟨fun c => (k c).2, sem_eq_zero_of_no_sems (by decide) r.2⟩) (Cert.ExpertReferenceIdeal.Value.run m ρ)

/-- From the same arguments the kernel and the reference return the same array. -/
theorem Expert.algebraic : Cert.algebraic_ExpertKernelIdeal_ExpertReferenceIdeal := by
  pair_intro
  · run_from Cert.ExpertKernelIdeal.Value.run_blocks m g
  · run_from Cert.ExpertReferenceIdeal.Value.run m' g'
    rw [Cert.ExpertKernelIdeal.Hand.final m c]
    funext i
    idx_vars i
    exact Cert.ExpertReferenceIdeal.Hand.term_at _ _ _ _ i0 i1 i2
-- ==== Proof.RopeMath.lean ====
module

public import proofs.«01_k».proof.Proof.ProjMath

/-! # Rotary position embedding, entry by entry -/

@[expose] public section
noncomputable section
open Idealize.ShloMosaic
open Cert.ProjMath

namespace Cert.RopeMath

/-- The angle of position `p` at frequency `j`, where `h` is the word of half the head's width. -/
def angle (h : BitVec 32) (p j : Nat) : EReal :=
  FloatOps.sitofp (F := Ideal) .f32 (BitVec.ofNat 32 p) * Ideal.pow (Ideal.ofBits .f32 0x461C4000#32)
    (Ideal.div (-FloatOps.sitofp (F := Ideal) .f32 (BitVec.ofNat 32 j)) (Ideal.ofBits .f32 h))

/-- A projection of width `N` at column `n` of the columns from `off` on, rotated in heads of width `2 * H`: the lower
half of a head takes `x₁ cos - x₂ sin`, the upper `x₂ cos + x₁ sin`. -/
def rotated (h : BitVec 32) (H off N : Nat) (hN : off + N ≤ 22784) (hH : 2 * H ∣ N) (hp : 0 < H)
    (X : (⟨3, ![4, 4096, 2048]⟩ : Shape).Idx → EReal) (W : (⟨2, ![2048, 22784]⟩ : Shape).Idx → EReal) (r : Fin 16384) (n : Fin N) : EReal :=
  if c : n.val % (2 * H) < H then
    lin X W r ⟨off + n.val, by omega⟩ * Ideal.cos (angle h (r.val % 4096) (n.val % (2 * H)))
      - lin X W r ⟨off + (n.val + H), by
          obtain ⟨q, rfl⟩ := hH
          have := Nat.div_add_mod n.val (2 * H)
          have b : n.val / (2 * H) < q := Nat.div_lt_of_lt_mul n.isLt
          have : 2 * H * (n.val / (2 * H)) + 2 * H ≤ 2 * H * q := by
            rw [← Nat.mul_succ]; exact Nat.mul_le_mul_left _ b
          omega⟩ * Ideal.sin (angle h (r.val % 4096) (n.val % (2 * H)))
  else
    lin X W r ⟨off + n.val, by omega⟩ * Ideal.cos (angle h (r.val % 4096) (n.val % (2 * H) - H))
      + lin X W r ⟨off + (n.val - H), by omega⟩ * Ideal.sin (angle h (r.val % 4096) (n.val % (2 * H) - H))

end Cert.RopeMath
-- ==== Proof.QkA.lean ====
module

public import proofs.«01_k».proof.Defs
public import proofs.«01_k».proof.Proof.Gen.QkAKernelIdeal
public import proofs.«01_k».proof.Proof.Gen.QkAKernelIdeal.Value
public import proofs.«01_k».proof.Proof.Gen.QkAReferenceIdeal
public import proofs.«01_k».proof.Proof.Gen.QkAReferenceIdeal.Run
public import Idealize.ShloMosaic.Lib.Pipeline.ValueKit
public import Idealize.ShloMosaic.Lib.Pointwise
public import Idealize.ShloMosaic.Lib.Claim
public import Idealize.ShloMosaic.Adequacy
public import proofs.«01_k».proof.Proof.RopeMath

/-! # Queries and keys of the dilated attention: a projection and the rotary embedding -/

@[expose] public section
set_option maxRecDepth 16384
noncomputable section
open Idealize.ShloMosaic Idealize.ShloMosaic.TcCoe Idealize.SL.Sem
open Idealize.ShloMosaic.Pipeline (Dat)
open Cert.ProjMath Cert.RopeMath

namespace Cert.QkAKernelIdeal.Hand
open Cert.QkAKernelIdeal Cert.QkAKernelIdeal.Gen

variable (m : (ℓ : Loc nD τ sig) → Buf (Elt Ideal) ℓ)

/-- The lane that the rotation brings to lane `e`: the other half of the head. -/
def other (e : Nat) : Nat := (e + 64) % 128

theorem other_lt (n : Fin 768) : n.val / 128 * 128 + other (n.val % 128) < 768 := by
  have h : other (n.val % 128) < 128 := by unfold other; omega
  omega

/-- A row of the token block against a column of the weights' block. -/
def prod (x : FVec Ideal S1024x2048 .bf16) (w : FVec Ideal S2048x768 .bf16) (r : Fin 1024) (n : Fin 768) : EReal :=
  ∑ k : Fin 2048, x (ix2 r k) * w (ix2 k n)

/-- The body's result block, from its input blocks: every stored tile is the product times the cosines plus the other half's product times the sines. -/
theorem block_at (x : FVec Ideal S1024x2048 .bf16) (w : FVec Ideal S2048x768 .bf16) (c s : FVec Ideal S1024x128 .f32) (y : S1024x768.Idx) :
    out0_4 (F := Ideal) x w c s y
      = prod x w (y 0) (y 1) * c (ix2 (y 0) (⟨(y 1).val % 128, by omega⟩ : Fin 128))
        + prod x w (y 0) ⟨(y 1).val / 128 * 128 + other ((y 1).val % 128), other_lt (y 1)⟩ * s (ix2 (y 0) (⟨(y 1).val % 128, by omega⟩ : Fin 128)) := by
  canon_tiles z h
  all_goals
    open_payloads
    pointwise [prod]
    blk_point [other]

/-- The blocks of a grid point. -/
theorem idx : ∀ t : Fin cfg0.N, win0_0.index t = ![t.val % 16, 0] ∧ win0_1.index t = ![0, t.val / 16]
    ∧ win0_2.index t = ![t.val % 4, 0] ∧ win0_3.index t = ![t.val % 4, 0] ∧ win0_4.index t = ![t.val % 16, t.val / 16] :=
  (by decide +kernel : ∀ t : Fin grid0.N, _)

/-- The tokens as the launch holds them: one row per token. -/
theorem tokens_at (c : Dev nD) (r : Fin 16384) (k : Fin 2048) : (V m c main_v1 : FVec Ideal S16384x2048 .bf16) (ix2 r k)
    = (m ((c.tc : Thread nD τ).loc main_arg0) : FVec Ideal S4x4096x2048 .f32) (ix3 (⟨r.val / 4096, by omega⟩ : Fin 4) (⟨r.val % 4096, by omega⟩ : Fin 4096) k) := by
  entry_read
  pointwise

/-- The columns the launch holds. -/
theorem columns_at (c : Dev nD) (k : Fin 2048) (n : Fin 4608) : (V m c main_v3 : FVec Ideal S2048x4608 .bf16) (ix2 k n)
    = (m ((c.tc : Thread nD τ).loc main_arg1) : FVec Ideal S2048x22784 .f32) (ix2 k (⟨0 + n.val, by omega⟩ : Fin 22784)) := by
  entry_read
  pointwise

/-- The cosines the launch holds. -/
theorem cos_at (c : Dev nD) (p : Fin 4096) (e : Fin 128) : (V m c main_v22 : FVec Ideal S4096x128 .f32) (ix2 p e)
    = Ideal.cos (angle 0x42800000#32 p.val (e.val % 64)) := by
  entry_read
  pointwise
  unfold angle
  blk_point []
  all_goals exact congrArg (BitVec.ofNat 32) (by omega)

/-- The signed sines the launch holds. -/
theorem sin_at (c : Dev nD) (p : Fin 4096) (e : Fin 128) : (V m c main_v27 : FVec Ideal S4096x128 .f32) (ix2 p e)
    = if e.val % 128 < 64 then -Ideal.sin (angle 0x42800000#32 p.val (e.val % 64)) else Ideal.sin (angle 0x42800000#32 p.val (e.val % 64)) := by
  entry_read
  pointwise
  unfold angle
  blk_point []
  all_goals first | exact congrArg (BitVec.ofNat 32) (by omega) | (exfalso; omega)

/-- The result array, entry by entry. -/
def REF (X : FVec Ideal S4x4096x2048 .f32) (W : FVec Ideal S2048x22784 .f32) : FVec Ideal S16384x4608 .bf16 :=
  fun i => rotated 0x42800000#32 64 0 4608 (by decide) (by decide) (by decide) X W (i 0) (i 1)

/-- The product of a grid point's blocks is the projection. -/
theorem prod_at (c : Dev nD) (t : Fin cfg0.N) (u : t.val < 96) (r : Fin 1024) (n : Fin 768) :
    prod (iblk m c 0 t) (iblk m c 1 t) r n = lin (m ((c.tc : Thread nD τ).loc main_arg0)) (m ((c.tc : Thread nD τ).loc main_arg1))
      ⟨t.val % 16 * 1024 + r.val, by omega⟩ ⟨0 + (t.val / 16 * 768 + n.val), by omega⟩ := by
  obtain ⟨i0, i1, i2, i3, i4⟩ := idx t
  have bx : ∀ k : Fin 2048, (iblk m c 0 t : FVec Ideal S1024x2048 .bf16) (ix2 r k)
      = (m ((c.tc : Thread nD τ).loc main_arg0) : FVec Ideal S4x4096x2048 .f32) (ix3 (⟨(t.val % 16 * 1024 + r.val) / 4096, by omega⟩ : Fin 4) (⟨(t.val % 16 * 1024 + r.val) % 4096, by omega⟩ : Fin 4096) k) := by
    intro k
    refine Eq.trans ?_ (tokens_at m c ⟨t.val % 16 * 1024 + r.val, by omega⟩ k)
    blk_ext [iblk, i0]
  have bw : ∀ k : Fin 2048, (iblk m c 1 t : FVec Ideal S2048x768 .bf16) (ix2 k n)
      = (m ((c.tc : Thread nD τ).loc main_arg1) : FVec Ideal S2048x22784 .f32) (ix2 k (⟨0 + (t.val / 16 * 768 + n.val), by omega⟩ : Fin 22784)) := by
    intro k
    refine Eq.trans ?_ (columns_at m c k ⟨t.val / 16 * 768 + n.val, by omega⟩)
    blk_ext [iblk, i1]
  unfold prod lin
  simp only [bx, bw]

/-- The kernel's two products, with the signed sine, are the rotation. -/
theorem fuse (X : FVec Ideal S4x4096x2048 .f32) (W : FVec Ideal S2048x22784 .f32) (a : Nat) (n : Fin 768) (ha : a * 768 + n.val < 4608)
    (r : Fin 16384) (p : Nat) (hp : p = r.val % 4096) :
    lin X W r ⟨0 + (a * 768 + n.val), by omega⟩ * Ideal.cos (angle 0x42800000#32 p (n.val % 128 % 64))
      + lin X W r ⟨0 + (a * 768 + (n.val / 128 * 128 + other (n.val % 128))), by have := other_lt n; omega⟩
        * (if n.val % 128 % 128 < 64 then -Ideal.sin (angle 0x42800000#32 p (n.val % 128 % 64)) else Ideal.sin (angle 0x42800000#32 p (n.val % 128 % 64)))
      = rotated 0x42800000#32 64 0 4608 (by decide) (by decide) (by decide) X W r ⟨a * 768 + n.val, ha⟩ := by
  subst hp
  unfold rotated
  by_cases h : (a * 768 + n.val) % (2 * 64) < 64
  · rw [dif_pos h, if_pos (by omega), mul_neg, ← sub_eq_add_neg]
    have e : n.val % 128 % 64 = (a * 768 + n.val) % (2 * 64) := by omega
    have b : 0 + (a * 768 + (n.val / 128 * 128 + other (n.val % 128))) = 0 + (a * 768 + n.val + 64) := by
      unfold other; omega
    simp only [e, b]
  · rw [dif_neg h, if_neg (by omega)]
    have e : n.val % 128 % 64 = (a * 768 + n.val) % (2 * 64) - 64 := by omega
    have b : 0 + (a * 768 + (n.val / 128 * 128 + other (n.val % 128))) = 0 + (a * 768 + n.val - 64) := by
      unfold other; omega
    simp only [e, b]

/-- What a grid point stores is the result array's block there. -/
theorem point (c : Dev nD) (t : Fin cfg0.N) (r : Fin 1024) (n : Fin 768) :
    out0_4 (F := Ideal) (iblk m c 0 t) (iblk m c 1 t) (iblk m c 2 t) (iblk m c 3 t) (ix2 r n)
      = REF (m ((c.tc : Thread nD τ).loc main_arg0)) (m ((c.tc : Thread nD τ).loc main_arg1)) (((cfg0.win 4).blk t).view.emb (ix2 r n)) := by
  obtain ⟨i0, i1, i2, i3, i4⟩ := idx t
  have u : t.val < 96 := t.isLt
  have p : ((cfg0.win 4).blk t).view.emb (ix2 r n)
      = ix2 (⟨t.val % 16 * 1024 + r.val, by omega⟩ : Fin 16384) (⟨t.val / 16 * 768 + n.val, by omega⟩ : Fin 4608) := by
    blk_ext [i4]
  have bc : (iblk m c 2 t : FVec Ideal S1024x128 .f32) (ix2 r (⟨n.val % 128, by omega⟩ : Fin 128))
      = Ideal.cos (angle 0x42800000#32 (t.val % 4 * 1024 + r.val) (n.val % 128 % 64)) := by
    refine Eq.trans ?_ (cos_at m c ⟨t.val % 4 * 1024 + r.val, by omega⟩ ⟨n.val % 128, by omega⟩)
    blk_ext [iblk, i2]
  have bs : (iblk m c 3 t : FVec Ideal S1024x128 .f32) (ix2 r (⟨n.val % 128, by omega⟩ : Fin 128))
      = if n.val % 128 % 128 < 64 then -Ideal.sin (angle 0x42800000#32 (t.val % 4 * 1024 + r.val) (n.val % 128 % 64))
        else Ideal.sin (angle 0x42800000#32 (t.val % 4 * 1024 + r.val) (n.val % 128 % 64)) := by
    refine Eq.trans ?_ (sin_at m c ⟨t.val % 4 * 1024 + r.val, by omega⟩ ⟨n.val % 128, by omega⟩)
    blk_ext [iblk, i3]
  refine (block_at _ _ _ _ (ix2 r n)).trans ?_
  rw [p]
  refine Eq.trans ?_ (fuse _ _ (t.val / 16) n (by omega) ⟨t.val % 16 * 1024 + r.val, by omega⟩ (t.val % 4 * 1024 + r.val) (by show _ = (t.val % 16 * 1024 + r.val) % 4096; omega))
  exact congrArg₂ (· + ·) (congrArg₂ (· * ·) (prod_at m c t u r n) bc)
    (congrArg₂ (· * ·) (prod_at m c t u r ⟨n.val / 128 * 128 + other (n.val % 128), other_lt n⟩) bs)

/-- The result array after the run. -/
theorem final (c : Dev nD) : (dats m 0 c).arrAt 4 cfg0.N
    = REF (m ((c.tc : Thread nD τ).loc main_arg0)) (m ((c.tc : Thread nD τ).loc main_arg1)) := by
  refine (dats m 0 c).arrAt_eq_of_covers 4 _ (by decide +kernel) fun t _ y => ?_
  blk_simp
  rw [after0_4]
  idx_vars y
  exact point m c t y0 y1

end Cert.QkAKernelIdeal.Hand

namespace Cert.QkAReferenceIdeal.Hand
open Cert.QkAReferenceIdeal Cert.QkAReferenceIdeal.Gen

/-- The projection's columns, split into heads. -/
def part (a0 : FVec Ideal S4x4096x2048 .f32) (a1 : FVec Ideal S2048x22784 .f32) : FVec Ideal S4x4096x36x128 .f32 :=
  shapeCast S4x4096x36x128 (extractStridedSlice S4x4096x4608 ![0, 0, 0] (Host.dotGeneral dot_S4x4096x2048_S2048x22784_S4x4096x22784_2_0_01_1_n_n none a0 a1) slices_S4x4096x22784_S4x4096x4608_0_0_0) shapeCasts_S4x4096x4608_S4x4096x36x128

/-- The angles of every position and frequency. -/
def angles : FVec Ideal S4096x64 .f32 :=
  mulf (broadcastInDim S4096x64 ![0, 1] bcast_S4096x1_S4096x64_0_1 (broadcastInDim S4096x1 ![0] bcast_S4096_S4096x1_0 (sitofp .f32 (iotaInDim S4096 32 0)))) (broadcastInDim S4096x64 ![0, 1] bcast_S1x64_S4096x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))

/-- The rotation of every head, put back into rows. -/
def term (z : FVec Ideal S4x4096x36x128 .f32) (g : FVec Ideal S4096x64 .f32) : FVec Ideal S16384x4608 .bf16 :=
  shapeCast S16384x4608 (truncf .bf16 (concatenate S4x4096x36x128 3 [⟨S4x4096x36x64, (subf (mulf (extractStridedSlice S4x4096x36x64 ![0, 0, 0, 0] z slices_S4x4096x36x128_S4x4096x36x64_0_0_0_0) (broadcastInDim S4x4096x36x64 ![0, 1, 2, 3] bcast_S1x4096x1x64_S4x4096x36x64_0_1_2_3 (broadcastInDim S1x4096x1x64 ![1, 2, 3] bcast_S4096x1x64_S1x4096x1x64_1_2_3 (broadcastInDim S4096x1x64 ![0, 2] bcast_S4096x64_S4096x1x64_0_2 (Host.cos g))))) (mulf (extractStridedSlice S4x4096x36x64 ![0, 0, 0, 64] z slices_S4x4096x36x128_S4x4096x36x64_0_0_0_64) (broadcastInDim S4x4096x36x64 ![0, 1, 2, 3] bcast_S1x4096x1x64_S4x4096x36x64_0_1_2_3 (broadcastInDim S1x4096x1x64 ![1, 2, 3] bcast_S4096x1x64_S1x4096x1x64_1_2_3 (broadcastInDim S4096x1x64 ![0, 2] bcast_S4096x64_S4096x1x64_0_2 (Host.sin g))))))⟩, ⟨S4x4096x36x64, (addf (mulf (extractStridedSlice S4x4096x36x64 ![0, 0, 0, 64] z slices_S4x4096x36x128_S4x4096x36x64_0_0_0_64) (broadcastInDim S4x4096x36x64 ![0, 1, 2, 3] bcast_S1x4096x1x64_S4x4096x36x64_0_1_2_3 (broadcastInDim S1x4096x1x64 ![1, 2, 3] bcast_S4096x1x64_S1x4096x1x64_1_2_3 (broadcastInDim S4096x1x64 ![0, 2] bcast_S4096x64_S4096x1x64_0_2 (Host.cos g))))) (mulf (extractStridedSlice S4x4096x36x64 ![0, 0, 0, 0] z slices_S4x4096x36x128_S4x4096x36x64_0_0_0_0) (broadcastInDim S4x4096x36x64 ![0, 1, 2, 3] bcast_S1x4096x1x64_S4x4096x36x64_0_1_2_3 (broadcastInDim S1x4096x1x64 ![1, 2, 3] bcast_S4096x1x64_S1x4096x1x64_1_2_3 (broadcastInDim S4096x1x64 ![0, 2] bcast_S4096x64_S4096x1x64_0_2 (Host.sin g))))))⟩] concatenates_S4x4096x36x64_S4x4096x36x64_S4x4096x36x128_d3) bitsLt_bf16_f32) shapeCasts_S4x4096x36x128_S16384x4608

theorem result_eq (m : (ℓ : Loc nD τ sig) → Buf (Elt Ideal) ℓ) (c : Dev nD) :
    Cert.QkAReferenceIdeal.Value.res_out0 m c
      = term (part (m ((c.tc : Thread nD τ).loc main_arg0)) (m ((c.tc : Thread nD τ).loc main_arg1))) angles := by
  rfl

theorem angles_at (p : Fin 4096) (j : Fin 64) : angles (ix2 p j) = angle 0x42800000#32 p.val j.val := by
  pointwise [angles]
  rfl

theorem term_at (X : FVec Ideal S4x4096x2048 .f32) (W : FVec Ideal S2048x22784 .f32) (r : Fin 16384) (n : Fin 4608) :
    term (part X W) angles (ix2 r n) = rotated 0x42800000#32 64 0 4608 (by decide) (by decide) (by decide) X W r n := by
  pointwise [term, part]
  simp only [angles_at]
  unfold rotated lin
  by_cases h : n.val % 128 < 64
  · refine (dif_pos h).trans (Eq.trans ?_ (dif_pos (show n.val % (2 * 64) < 64 from h)).symm)
    beta_reduce
    blk_point []
  · refine (dif_neg h).trans (Eq.trans ?_ (dif_neg (show ¬ n.val % (2 * 64) < 64 from h)).symm)
    beta_reduce
    blk_point []

end Cert.QkAReferenceIdeal.Hand

/-- The reference leaves its arguments as they were. -/
theorem QkA.reference_frame : Cert.quiescent_QkAReferenceIdeal := by
  intro m ρ _
  exact (θ_run Cert.QkAReferenceIdeal.defs _ _).mono
    (fun r k => ⟨fun c => (k c).2, sem_eq_zero_of_no_sems (by decide) r.2⟩) (Cert.QkAReferenceIdeal.Value.run m ρ)

/-- From the same tokens and weights the kernel and the reference return the same array. -/
theorem QkA.algebraic : Cert.algebraic_QkAKernelIdeal_QkAReferenceIdeal := by
  pair_intro
  · run_from Cert.QkAKernelIdeal.Value.run_blocks m g
  · run_from Cert.QkAReferenceIdeal.Value.run m' g'
    rw [Cert.QkAKernelIdeal.Hand.final m c]
    funext i
    idx_vars i
    refine ((congrFun (Cert.QkAReferenceIdeal.Hand.result_eq m' c) _).trans (Cert.QkAReferenceIdeal.Hand.term_at _ _ i0 i1)).trans ?_
    obtain ⟨e0, e1⟩ := hagree c
    rw [e0, e1]
    rfl
-- ==== Proof.Merge.lean ====
module

public import proofs.«01_k».proof.Defs
public import proofs.«01_k».proof.Proof.Gen.MergeKernelIdeal
public import proofs.«01_k».proof.Proof.Gen.MergeKernelIdeal.Value
public import proofs.«01_k».proof.Proof.Gen.MergeReferenceIdeal
public import proofs.«01_k».proof.Proof.Gen.MergeReferenceIdeal.Run
public import Idealize.ShloMosaic.Lib.Pipeline.ValueKit
public import Idealize.ShloMosaic.Lib.Pointwise
public import Idealize.ShloMosaic.Lib.Claim
public import Idealize.ShloMosaic.Adequacy

/-! # The gated merge of the four branches -/

@[expose] public section
set_option maxRecDepth 16384
noncomputable section
open Idealize.ShloMosaic Idealize.ShloMosaic.TcCoe Idealize.SL.Sem
open Idealize.ShloMosaic.Pipeline (Dat)

namespace Cert.MergeMath

/-- A row of one branch against a column of its rows of the weights, which begin at `o`. -/
def part {K : Nat} (o : Nat) (h : o + K ≤ 3840) (x : (⟨2, ![16384, K]⟩ : Shape).Idx → EReal) (w : (⟨2, ![3840, 2048]⟩ : Shape).Idx → EReal)
    (r : Fin 16384) (n : Fin 2048) : EReal := ∑ k : Fin K, x (ix2 r k) * w (ix2 (⟨o + k.val, by omega⟩ : Fin 3840) n)

/-- The four gated branches added up. -/
def mix (a : (⟨2, ![16384, 768]⟩ : Shape).Idx → EReal) (b c d : (⟨2, ![16384, 1024]⟩ : Shape).Idx → EReal)
    (w : (⟨2, ![3840, 2048]⟩ : Shape).Idx → EReal) (g : (⟨2, ![16384, 8192]⟩ : Shape).Idx → EReal) (r : Fin 16384) (n : Fin 2048) : EReal :=
  g (ix2 r (⟨n.val, by omega⟩ : Fin 8192)) * part 0 (by decide) a w r n
    + g (ix2 r (⟨2048 + n.val, by omega⟩ : Fin 8192)) * part 768 (by decide) b w r n
    + g (ix2 r (⟨4096 + n.val, by omega⟩ : Fin 8192)) * part 1792 (by decide) c w r n
    + g (ix2 r (⟨6144 + n.val, by omega⟩ : Fin 8192)) * part 2816 (by decide) d w r n

end Cert.MergeMath

namespace Cert.MergeKernelIdeal.Hand
open Cert.MergeKernelIdeal Cert.MergeKernelIdeal.Gen Cert.MergeMath

variable (m : (ℓ : Loc nD τ sig) → Buf (Elt Ideal) ℓ)

/-- The result array, entry by entry. -/
def REF (a : FVec Ideal S16384x768 .bf16) (b c d : FVec Ideal S16384x1024 .bf16) (w : FVec Ideal S3840x2048 .f32) (g : FVec Ideal S16384x8192 .bf16) : FVec Ideal S16384x2048 .bf16 :=
  fun i => mix a b c d w g (i 0) (i 1)

/-- The body's result block, from its input blocks. -/
theorem payload_at (a : FVec Ideal S1024x768 .bf16) (b c d : FVec Ideal S1024x1024 .bf16) (w0 : FVec Ideal S768x512 .bf16)
    (w1 w2 w3 g0 g1 g2 g3 : FVec Ideal S1024x512 .bf16) (r : Fin 1024) (n : Fin 512) :
    k0_pay1 (F := Ideal) (k0_pay2 (F := Ideal) g0 a w0 g1 b w1 g2 c w2) (k0_pay3 (F := Ideal) g3 d w3) (ix2 r n)
      = g0 (ix2 r n) * (∑ k : Fin 768, a (ix2 r k) * w0 (ix2 k n)) + g1 (ix2 r n) * (∑ k : Fin 1024, b (ix2 r k) * w1 (ix2 k n))
        + g2 (ix2 r n) * (∑ k : Fin 1024, c (ix2 r k) * w2 (ix2 k n)) + g3 (ix2 r n) * (∑ k : Fin 1024, d (ix2 r k) * w3 (ix2 k n)) := by
  pointwise [k0_pay1, k0_pay2, k0_pay3]

/-- The blocks of a grid point: row block and column block from the point's number. -/
theorem idx : ∀ t : Fin cfg0.N, win0_0.index t = ![t.val / 4, 0]
    ∧ win0_1.index t = ![t.val / 4, 0]
    ∧ win0_2.index t = ![t.val / 4, 0]
    ∧ win0_3.index t = ![t.val / 4, 0]
    ∧ win0_4.index t = ![0, t.val % 4]
    ∧ win0_5.index t = ![0, t.val % 4]
    ∧ win0_6.index t = ![0, t.val % 4]
    ∧ win0_7.index t = ![0, t.val % 4]
    ∧ win0_8.index t = ![t.val / 4, 0 + t.val % 4]
    ∧ win0_9.index t = ![t.val / 4, 4 + t.val % 4]
    ∧ win0_10.index t = ![t.val / 4, 8 + t.val % 4]
    ∧ win0_11.index t = ![t.val / 4, 12 + t.val % 4]
    ∧ win0_12.index t = ![t.val / 4, t.val % 4] :=
  (by decide +kernel : ∀ t : Fin grid0.N, _)

/-- The weights of branch 0 as the launch holds them. -/
theorem weights0_at (c : Dev nD) (k : Fin 768) (n : Fin 2048) : (V m c main_v1 : FVec Ideal S768x2048 .bf16) (ix2 k n)
    = (m ((c.tc : Thread nD τ).loc main_arg4) : FVec Ideal S3840x2048 .f32) (ix2 (⟨0 + k.val, by omega⟩ : Fin 3840) n) := by
  entry_read
  pointwise

/-- The weights of branch 1 as the launch holds them. -/
theorem weights1_at (c : Dev nD) (k : Fin 1024) (n : Fin 2048) : (V m c main_v2 : FVec Ideal S1024x2048 .bf16) (ix2 k n)
    = (m ((c.tc : Thread nD τ).loc main_arg4) : FVec Ideal S3840x2048 .f32) (ix2 (⟨768 + k.val, by omega⟩ : Fin 3840) n) := by
  entry_read
  pointwise

/-- The weights of branch 2 as the launch holds them. -/
theorem weights2_at (c : Dev nD) (k : Fin 1024) (n : Fin 2048) : (V m c main_v3 : FVec Ideal S1024x2048 .bf16) (ix2 k n)
    = (m ((c.tc : Thread nD τ).loc main_arg4) : FVec Ideal S3840x2048 .f32) (ix2 (⟨1792 + k.val, by omega⟩ : Fin 3840) n) := by
  entry_read
  pointwise

/-- The weights of branch 3 as the launch holds them. -/
theorem weights3_at (c : Dev nD) (k : Fin 1024) (n : Fin 2048) : (V m c main_v4 : FVec Ideal S1024x2048 .bf16) (ix2 k n)
    = (m ((c.tc : Thread nD τ).loc main_arg4) : FVec Ideal S3840x2048 .f32) (ix2 (⟨2816 + k.val, by omega⟩ : Fin 3840) n) := by
  entry_read
  pointwise

/-- What a grid point stores is the result array's block there. -/
theorem point (c : Dev nD) (t : Fin cfg0.N) (r : Fin 1024) (n : Fin 512) :
    k0_pay1 (F := Ideal) (k0_pay2 (F := Ideal) (iblk m c 8 t) (iblk m c 0 t) (iblk m c 4 t) (iblk m c 9 t) (iblk m c 1 t) (iblk m c 5 t) (iblk m c 10 t) (iblk m c 2 t) (iblk m c 6 t))
        (k0_pay3 (F := Ideal) (iblk m c 11 t) (iblk m c 3 t) (iblk m c 7 t)) (ix2 r n)
      = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (((cfg0.win 12).blk t).view.emb (ix2 r n)) := by
  obtain ⟨i0, i1, i2, i3, i4, i5, i6, i7, i8, i9, i10, i11, i12⟩ := idx t
  have u : t.val < 64 := t.isLt
  have p : ((cfg0.win 12).blk t).view.emb (ix2 r n)
      = ix2 (⟨t.val / 4 * 1024 + r.val, by omega⟩ : Fin 16384) (⟨t.val % 4 * 512 + n.val, by omega⟩ : Fin 2048) := by
    blk_ext [i12]
  have b0 : ∀ k : Fin 768, (iblk m c 0 t : FVec Ideal S1024x768 .bf16) (ix2 r k)
      = (m ((c.tc : Thread nD τ).loc main_arg0) : FVec Ideal S16384x768 .bf16) (ix2 (⟨t.val / 4 * 1024 + r.val, by omega⟩ : Fin 16384) k) := by
    intro k; blk_ext [iblk, V, i0]
  have w0 : ∀ k : Fin 768, (iblk m c 4 t : FVec Ideal S768x512 .bf16) (ix2 k n)
      = (m ((c.tc : Thread nD τ).loc main_arg4) : FVec Ideal S3840x2048 .f32) (ix2 (⟨0 + k.val, by omega⟩ : Fin 3840) (⟨t.val % 4 * 512 + n.val, by omega⟩ : Fin 2048)) := by
    intro k
    refine Eq.trans ?_ (weights0_at m c k ⟨t.val % 4 * 512 + n.val, by omega⟩)
    blk_ext [iblk, i4]
  have g0 : (iblk m c 8 t : FVec Ideal S1024x512 .bf16) (ix2 r n)
      = (m ((c.tc : Thread nD τ).loc main_arg5) : FVec Ideal S16384x8192 .bf16) (ix2 (⟨t.val / 4 * 1024 + r.val, by omega⟩ : Fin 16384) (⟨t.val % 4 * 512 + n.val, by omega⟩ : Fin 8192)) := by
    blk_ext [iblk, V, i8]
  have b1 : ∀ k : Fin 1024, (iblk m c 1 t : FVec Ideal S1024x1024 .bf16) (ix2 r k)
      = (m ((c.tc : Thread nD τ).loc main_arg1) : FVec Ideal S16384x1024 .bf16) (ix2 (⟨t.val / 4 * 1024 + r.val, by omega⟩ : Fin 16384) k) := by
    intro k; blk_ext [iblk, V, i1]
  have w1 : ∀ k : Fin 1024, (iblk m c 5 t : FVec Ideal S1024x512 .bf16) (ix2 k n)
      = (m ((c.tc : Thread nD τ).loc main_arg4) : FVec Ideal S3840x2048 .f32) (ix2 (⟨768 + k.val, by omega⟩ : Fin 3840) (⟨t.val % 4 * 512 + n.val, by omega⟩ : Fin 2048)) := by
    intro k
    refine Eq.trans ?_ (weights1_at m c k ⟨t.val % 4 * 512 + n.val, by omega⟩)
    blk_ext [iblk, i5]
  have g1 : (iblk m c 9 t : FVec Ideal S1024x512 .bf16) (ix2 r n)
      = (m ((c.tc : Thread nD τ).loc main_arg5) : FVec Ideal S16384x8192 .bf16) (ix2 (⟨t.val / 4 * 1024 + r.val, by omega⟩ : Fin 16384) (⟨2048 + (t.val % 4 * 512 + n.val), by omega⟩ : Fin 8192)) := by
    blk_ext [iblk, V, i9]
  have b2 : ∀ k : Fin 1024, (iblk m c 2 t : FVec Ideal S1024x1024 .bf16) (ix2 r k)
      = (m ((c.tc : Thread nD τ).loc main_arg2) : FVec Ideal S16384x1024 .bf16) (ix2 (⟨t.val / 4 * 1024 + r.val, by omega⟩ : Fin 16384) k) := by
    intro k; blk_ext [iblk, V, i2]
  have w2 : ∀ k : Fin 1024, (iblk m c 6 t : FVec Ideal S1024x512 .bf16) (ix2 k n)
      = (m ((c.tc : Thread nD τ).loc main_arg4) : FVec Ideal S3840x2048 .f32) (ix2 (⟨1792 + k.val, by omega⟩ : Fin 3840) (⟨t.val % 4 * 512 + n.val, by omega⟩ : Fin 2048)) := by
    intro k
    refine Eq.trans ?_ (weights2_at m c k ⟨t.val % 4 * 512 + n.val, by omega⟩)
    blk_ext [iblk, i6]
  have g2 : (iblk m c 10 t : FVec Ideal S1024x512 .bf16) (ix2 r n)
      = (m ((c.tc : Thread nD τ).loc main_arg5) : FVec Ideal S16384x8192 .bf16) (ix2 (⟨t.val / 4 * 1024 + r.val, by omega⟩ : Fin 16384) (⟨4096 + (t.val % 4 * 512 + n.val), by omega⟩ : Fin 8192)) := by
    blk_ext [iblk, V, i10]
  have b3 : ∀ k : Fin 1024, (iblk m c 3 t : FVec Ideal S1024x1024 .bf16) (ix2 r k)
      = (m ((c.tc : Thread nD τ).loc main_arg3) : FVec Ideal S16384x1024 .bf16) (ix2 (⟨t.val / 4 * 1024 + r.val, by omega⟩ : Fin 16384) k) := by
    intro k; blk_ext [iblk, V, i3]
  have w3 : ∀ k : Fin 1024, (iblk m c 7 t : FVec Ideal S1024x512 .bf16) (ix2 k n)
      = (m ((c.tc : Thread nD τ).loc main_arg4) : FVec Ideal S3840x2048 .f32) (ix2 (⟨2816 + k.val, by omega⟩ : Fin 3840) (⟨t.val % 4 * 512 + n.val, by omega⟩ : Fin 2048)) := by
    intro k
    refine Eq.trans ?_ (weights3_at m c k ⟨t.val % 4 * 512 + n.val, by omega⟩)
    blk_ext [iblk, i7]
  have g3 : (iblk m c 11 t : FVec Ideal S1024x512 .bf16) (ix2 r n)
      = (m ((c.tc : Thread nD τ).loc main_arg5) : FVec Ideal S16384x8192 .bf16) (ix2 (⟨t.val / 4 * 1024 + r.val, by omega⟩ : Fin 16384) (⟨6144 + (t.val % 4 * 512 + n.val), by omega⟩ : Fin 8192)) := by
    blk_ext [iblk, V, i11]
  refine (payload_at _ _ _ _ _ _ _ _ _ _ _ _ r n).trans ?_
  rw [p, g0, g1, g2, g3]
  unfold REF mix part
  simp only [b0, b1, b2, b3, w0, w1, w2, w3, ix2_0, ix2_1]

/-- The result array after the run. -/
theorem final (c : Dev nD) : (dats m 0 c).arrAt 12 cfg0.N
    = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 12 _ (by decide +kernel) fun t _ y => ?_
  blk_simp
  rw [after0_12]
  frame_out
  idx_vars y
  exact point m c t y0 y1

end Cert.MergeKernelIdeal.Hand

namespace Cert.MergeReferenceIdeal.Hand
open Cert.MergeReferenceIdeal Cert.MergeReferenceIdeal.Gen Cert.MergeMath

/-- The reference's term, over its arguments. -/
def term (a0 : FVec Ideal S16384x768 .bf16) (a1 a2 a3 : FVec Ideal S16384x1024 .bf16) (a4 : FVec Ideal S3840x2048 .f32) (a5 : FVec Ideal S16384x8192 .bf16) : FVec Ideal S16384x2048 .bf16 :=
  truncf .bf16 (addf (addf (addf (mulf (extf .f32 (extractStridedSlice S16384x2048 ![0, 0] a5 slices_S16384x8192_S16384x2048_0_0) bitsLt_bf16_f32) (Host.dotGeneral dot_S16384x768_S768x2048_S16384x2048_1_0_0_1_n_n none (extf .f32 a0 bitsLt_bf16_f32) (extractStridedSlice S768x2048 ![0, 0] a4 slices_S3840x2048_S768x2048_0_0))) (mulf (extf .f32 (extractStridedSlice S16384x2048 ![0, 2048] a5 slices_S16384x8192_S16384x2048_0_2048) bitsLt_bf16_f32) (Host.dotGeneral dot_S16384x1024_S1024x2048_S16384x2048_1_0_0_1_n_n none (extf .f32 a1 bitsLt_bf16_f32) (extractStridedSlice S1024x2048 ![768, 0] a4 slices_S3840x2048_S1024x2048_768_0)))) (mulf (extf .f32 (extractStridedSlice S16384x2048 ![0, 4096] a5 slices_S16384x8192_S16384x2048_0_4096) bitsLt_bf16_f32) (Host.dotGeneral dot_S16384x1024_S1024x2048_S16384x2048_1_0_0_1_n_n none (extf .f32 a2 bitsLt_bf16_f32) (extractStridedSlice S1024x2048 ![1792, 0] a4 slices_S3840x2048_S1024x2048_1792_0)))) (mulf (extf .f32 (extractStridedSlice S16384x2048 ![0, 6144] a5 slices_S16384x8192_S16384x2048_0_6144) bitsLt_bf16_f32) (Host.dotGeneral dot_S16384x1024_S1024x2048_S16384x2048_1_0_0_1_n_n none (extf .f32 a3 bitsLt_bf16_f32) (extractStridedSlice S1024x2048 ![2816, 0] a4 slices_S3840x2048_S1024x2048_2816_0)))) bitsLt_bf16_f32

theorem term_at (a0 : FVec Ideal S16384x768 .bf16) (a1 a2 a3 : FVec Ideal S16384x1024 .bf16) (a4 : FVec Ideal S3840x2048 .f32) (a5 : FVec Ideal S16384x8192 .bf16) (r : Fin 16384) (n : Fin 2048) :
    term a0 a1 a2 a3 a4 a5 (ix2 r n) = mix a0 a1 a2 a3 a4 a5 r n := by
  pointwise [term]
  unfold mix part
  simp only [Nat.zero_add]

end Cert.MergeReferenceIdeal.Hand

/-- The reference leaves its arguments as they were. -/
theorem Merge.reference_frame : Cert.quiescent_MergeReferenceIdeal := by
  intro m ρ _
  exact (θ_run Cert.MergeReferenceIdeal.defs _ _).mono
    (fun r k => ⟨fun c => (k c).2, sem_eq_zero_of_no_sems (by decide) r.2⟩) (Cert.MergeReferenceIdeal.Value.run m ρ)

/-- From the same arguments the kernel and the reference return the same array. -/
theorem Merge.algebraic : Cert.algebraic_MergeKernelIdeal_MergeReferenceIdeal := by
  pair_intro
  · run_from Cert.MergeKernelIdeal.Value.run_blocks m g
  · run_from Cert.MergeReferenceIdeal.Value.run m' g'
    rw [Cert.MergeKernelIdeal.Hand.final m c]
    funext i
    idx_vars i
    exact Cert.MergeReferenceIdeal.Hand.term_at _ _ _ _ _ _ i0 i1
-- ==== Proof.QkvD.lean ====
module

public import proofs.«01_k».proof.Defs
public import proofs.«01_k».proof.Proof.Gen.QkvDKernelIdeal
public import proofs.«01_k».proof.Proof.Gen.QkvDKernelIdeal.Value
public import proofs.«01_k».proof.Proof.Gen.QkvDReferenceIdeal
public import proofs.«01_k».proof.Proof.Gen.QkvDReferenceIdeal.Run
public import Idealize.ShloMosaic.Lib.Pipeline.ValueKit
public import Idealize.ShloMosaic.Lib.Pointwise
public import Idealize.ShloMosaic.Lib.Claim
public import Idealize.ShloMosaic.Adequacy
public import proofs.«01_k».proof.Proof.ProjMath

/-! # Queries, keys and values of the neighbourhood attention: a plain projection -/

@[expose] public section
set_option maxRecDepth 16384
noncomputable section
open Idealize.ShloMosaic Idealize.ShloMosaic.TcCoe Idealize.SL.Sem
open Idealize.ShloMosaic.Pipeline (Dat)
open Cert.ProjMath

namespace Cert.QkvDKernelIdeal.Hand
open Cert.QkvDKernelIdeal Cert.QkvDKernelIdeal.Gen

variable (m : (ℓ : Loc nD τ sig) → Buf (Elt Ideal) ℓ)

/-- The result array, entry by entry. -/
def REF (X : FVec Ideal S4x4096x2048 .f32) (W : FVec Ideal S2048x22784 .f32) : FVec Ideal S16384x3072 .bf16 :=
  fun i => lin X W (i 0) ⟨11520 + (i 1).val, by have := (i 1).isLt; change (i 1).val < 3072 at this; omega⟩

/-- The body's result block, from its input blocks. -/
theorem payload_at (x : FVec Ideal S1024x2048 .bf16) (w : FVec Ideal S2048x1024 .bf16) (r : Fin 1024) (n : Fin 1024) :
    k0_pay1 (F := Ideal) x w (ix2 r n) = ∑ k : Fin 2048, x (ix2 r k) * w (ix2 k n) := by
  pointwise [k0_pay1]

/-- The blocks of a grid point: column block and row block from the point's number. -/
theorem idx : ∀ t : Fin cfg0.N, win0_0.index t = ![t.val % 16, 0] ∧ win0_1.index t = ![0, t.val / 16]
    ∧ win0_2.index t = ![t.val % 16, t.val / 16] :=
  (by decide +kernel : ∀ t : Fin grid0.N, _)

/-- The tokens as the launch holds them: one row per token. -/
theorem tokens_at (c : Dev nD) (r : Fin 16384) (k : Fin 2048) : (V m c main_v1 : FVec Ideal S16384x2048 .bf16) (ix2 r k)
    = (m ((c.tc : Thread nD τ).loc main_arg0) : FVec Ideal S4x4096x2048 .f32) (ix3 (⟨r.val / 4096, by omega⟩ : Fin 4) (⟨r.val % 4096, by omega⟩ : Fin 4096) k) := by
  entry_read
  pointwise

/-- The columns the launch holds. -/
theorem columns_at (c : Dev nD) (k : Fin 2048) (n : Fin 3072) : (V m c main_v3 : FVec Ideal S2048x3072 .bf16) (ix2 k n)
    = (m ((c.tc : Thread nD τ).loc main_arg1) : FVec Ideal S2048x22784 .f32) (ix2 k (⟨11520 + n.val, by omega⟩ : Fin 22784)) := by
  entry_read
  pointwise

/-- What a grid point stores is the result array's block there. -/
theorem point (c : Dev nD) (t : Fin cfg0.N) (r : Fin 1024) (n : Fin 1024) :
    k0_pay1 (F := Ideal) (iblk m c 0 t) (iblk m c 1 t) (ix2 r n)
      = REF (m ((c.tc : Thread nD τ).loc main_arg0)) (m ((c.tc : Thread nD τ).loc main_arg1)) (((cfg0.win 2).blk t).view.emb (ix2 r n)) := by
  obtain ⟨i0, i1, i2⟩ := idx t
  have u : t.val < 48 := t.isLt
  have p : ((cfg0.win 2).blk t).view.emb (ix2 r n)
      = ix2 (⟨t.val % 16 * 1024 + r.val, by omega⟩ : Fin 16384) (⟨t.val / 16 * 1024 + n.val, by omega⟩ : Fin 3072) := by
    blk_ext [i2]
  have bx : ∀ k : Fin 2048, (iblk m c 0 t : FVec Ideal S1024x2048 .bf16) (ix2 r k)
      = (m ((c.tc : Thread nD τ).loc main_arg0) : FVec Ideal S4x4096x2048 .f32) (ix3 (⟨(t.val % 16 * 1024 + r.val) / 4096, by omega⟩ : Fin 4) (⟨(t.val % 16 * 1024 + r.val) % 4096, by omega⟩ : Fin 4096) k) := by
    intro k
    refine Eq.trans ?_ (tokens_at m c ⟨t.val % 16 * 1024 + r.val, by omega⟩ k)
    blk_ext [iblk, i0]
  have bw : ∀ k : Fin 2048, (iblk m c 1 t : FVec Ideal S2048x1024 .bf16) (ix2 k n)
      = (m ((c.tc : Thread nD τ).loc main_arg1) : FVec Ideal S2048x22784 .f32) (ix2 k (⟨11520 + (t.val / 16 * 1024 + n.val), by omega⟩ : Fin 22784)) := by
    intro k
    refine Eq.trans ?_ (columns_at m c k ⟨t.val / 16 * 1024 + n.val, by omega⟩)
    blk_ext [iblk, i1]
  refine (payload_at _ _ r n).trans ?_
  rw [p]
  unfold REF lin
  simp only [bx, bw, ix2_0, ix2_1]

/-- The result array after the run. -/
theorem final (c : Dev nD) : (dats m 0 c).arrAt 2 cfg0.N
    = REF (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  idx_vars y
  exact point m c t y0 y1

end Cert.QkvDKernelIdeal.Hand

namespace Cert.QkvDReferenceIdeal.Hand
open Cert.QkvDReferenceIdeal Cert.QkvDReferenceIdeal.Gen

/-- The reference's term, over its arguments. -/
def term (X : FVec Ideal S4x4096x2048 .f32) (W : FVec Ideal S2048x22784 .f32) : FVec Ideal S16384x3072 .bf16 :=
  shapeCast S16384x3072 (truncf .bf16 (extractStridedSlice S4x4096x3072 ![0, 0, 11520] (Host.dotGeneral dot_S4x4096x2048_S2048x22784_S4x4096x22784_2_0_01_1_n_n none X W) slices_S4x4096x22784_S4x4096x3072_0_0_11520) bitsLt_bf16_f32) shapeCasts_S4x4096x3072_S16384x3072

theorem term_at (X : FVec Ideal S4x4096x2048 .f32) (W : FVec Ideal S2048x22784 .f32) (r : Fin 16384) (n : Fin 3072) :
    term X W (ix2 r n) = lin X W r ⟨11520 + n.val, by omega⟩ := by
  pointwise [term]
  rfl

end Cert.QkvDReferenceIdeal.Hand

/-- The reference leaves its arguments as they were. -/
theorem QkvD.reference_frame : Cert.quiescent_QkvDReferenceIdeal := by
  intro m ρ _
  exact (θ_run Cert.QkvDReferenceIdeal.defs _ _).mono
    (fun r k => ⟨fun c => (k c).2, sem_eq_zero_of_no_sems (by decide) r.2⟩) (Cert.QkvDReferenceIdeal.Value.run m ρ)

/-- From the same tokens and weights the kernel and the reference return the same array. -/
theorem QkvD.algebraic : Cert.algebraic_QkvDKernelIdeal_QkvDReferenceIdeal := by
  pair_intro
  · run_from Cert.QkvDKernelIdeal.Value.run_blocks m g
  · run_from Cert.QkvDReferenceIdeal.Value.run m' g'
    rw [Cert.QkvDKernelIdeal.Hand.final m c]
    funext i
    idx_vars i
    exact Cert.QkvDReferenceIdeal.Hand.term_at _ _ i0 i1
-- ==== Proof.VA.lean ====
module

public import proofs.«01_k».proof.Defs
public import proofs.«01_k».proof.Proof.Gen.VAKernelIdeal
public import proofs.«01_k».proof.Proof.Gen.VAKernelIdeal.Value
public import proofs.«01_k».proof.Proof.Gen.VAReferenceIdeal
public import proofs.«01_k».proof.Proof.Gen.VAReferenceIdeal.Run
public import Idealize.ShloMosaic.Lib.Pipeline.ValueKit
public import Idealize.ShloMosaic.Lib.Pointwise
public import Idealize.ShloMosaic.Lib.Claim
public import Idealize.ShloMosaic.Adequacy
public import proofs.«01_k».proof.Proof.ProjMath

/-! # The values of the dilated attention: a plain projection -/

@[expose] public section
set_option maxRecDepth 16384
noncomputable section
open Idealize.ShloMosaic Idealize.ShloMosaic.TcCoe Idealize.SL.Sem
open Idealize.ShloMosaic.Pipeline (Dat)
open Cert.ProjMath

namespace Cert.VAKernelIdeal.Hand
open Cert.VAKernelIdeal Cert.VAKernelIdeal.Gen

variable (m : (ℓ : Loc nD τ sig) → Buf (Elt Ideal) ℓ)

/-- The result array, entry by entry. -/
def REF (X : FVec Ideal S4x4096x2048 .f32) (W : FVec Ideal S2048x22784 .f32) : FVec Ideal S16384x2304 .bf16 :=
  fun i => lin X W (i 0) ⟨4608 + (i 1).val, by have := (i 1).isLt; change (i 1).val < 2304 at this; omega⟩

/-- The body's result block, from its input blocks. -/
theorem payload_at (x : FVec Ideal S1024x2048 .bf16) (w : FVec Ideal S2048x768 .bf16) (r : Fin 1024) (n : Fin 768) :
    k0_pay1 (F := Ideal) x w (ix2 r n) = ∑ k : Fin 2048, x (ix2 r k) * w (ix2 k n) := by
  pointwise [k0_pay1]

/-- The blocks of a grid point: column block and row block from the point's number. -/
theorem idx : ∀ t : Fin cfg0.N, win0_0.index t = ![t.val % 16, 0] ∧ win0_1.index t = ![0, t.val / 16]
    ∧ win0_2.index t = ![t.val % 16, t.val / 16] :=
  (by decide +kernel : ∀ t : Fin grid0.N, _)

/-- The tokens as the launch holds them: one row per token. -/
theorem tokens_at (c : Dev nD) (r : Fin 16384) (k : Fin 2048) : (V m c main_v1 : FVec Ideal S16384x2048 .bf16) (ix2 r k)
    = (m ((c.tc : Thread nD τ).loc main_arg0) : FVec Ideal S4x4096x2048 .f32) (ix3 (⟨r.val / 4096, by omega⟩ : Fin 4) (⟨r.val % 4096, by omega⟩ : Fin 4096) k) := by
  entry_read
  pointwise

/-- The columns the launch holds. -/
theorem columns_at (c : Dev nD) (k : Fin 2048) (n : Fin 2304) : (V m c main_v3 : FVec Ideal S2048x2304 .bf16) (ix2 k n)
    = (m ((c.tc : Thread nD τ).loc main_arg1) : FVec Ideal S2048x22784 .f32) (ix2 k (⟨4608 + n.val, by omega⟩ : Fin 22784)) := by
  entry_read
  pointwise

/-- What a grid point stores is the result array's block there. -/
theorem point (c : Dev nD) (t : Fin cfg0.N) (r : Fin 1024) (n : Fin 768) :
    k0_pay1 (F := Ideal) (iblk m c 0 t) (iblk m c 1 t) (ix2 r n)
      = REF (m ((c.tc : Thread nD τ).loc main_arg0)) (m ((c.tc : Thread nD τ).loc main_arg1)) (((cfg0.win 2).blk t).view.emb (ix2 r n)) := by
  obtain ⟨i0, i1, i2⟩ := idx t
  have u : t.val < 48 := t.isLt
  have p : ((cfg0.win 2).blk t).view.emb (ix2 r n)
      = ix2 (⟨t.val % 16 * 1024 + r.val, by omega⟩ : Fin 16384) (⟨t.val / 16 * 768 + n.val, by omega⟩ : Fin 2304) := by
    blk_ext [i2]
  have bx : ∀ k : Fin 2048, (iblk m c 0 t : FVec Ideal S1024x2048 .bf16) (ix2 r k)
      = (m ((c.tc : Thread nD τ).loc main_arg0) : FVec Ideal S4x4096x2048 .f32) (ix3 (⟨(t.val % 16 * 1024 + r.val) / 4096, by omega⟩ : Fin 4) (⟨(t.val % 16 * 1024 + r.val) % 4096, by omega⟩ : Fin 4096) k) := by
    intro k
    refine Eq.trans ?_ (tokens_at m c ⟨t.val % 16 * 1024 + r.val, by omega⟩ k)
    blk_ext [iblk, i0]
  have bw : ∀ k : Fin 2048, (iblk m c 1 t : FVec Ideal S2048x768 .bf16) (ix2 k n)
      = (m ((c.tc : Thread nD τ).loc main_arg1) : FVec Ideal S2048x22784 .f32) (ix2 k (⟨4608 + (t.val / 16 * 768 + n.val), by omega⟩ : Fin 22784)) := by
    intro k
    refine Eq.trans ?_ (columns_at m c k ⟨t.val / 16 * 768 + n.val, by omega⟩)
    blk_ext [iblk, i1]
  refine (payload_at _ _ r n).trans ?_
  rw [p]
  unfold REF lin
  simp only [bx, bw, ix2_0, ix2_1]

/-- The result array after the run. -/
theorem final (c : Dev nD) : (dats m 0 c).arrAt 2 cfg0.N
    = REF (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  idx_vars y
  exact point m c t y0 y1

end Cert.VAKernelIdeal.Hand

namespace Cert.VAReferenceIdeal.Hand
open Cert.VAReferenceIdeal Cert.VAReferenceIdeal.Gen

/-- The reference's term, over its arguments. -/
def term (X : FVec Ideal S4x4096x2048 .f32) (W : FVec Ideal S2048x22784 .f32) : FVec Ideal S16384x2304 .bf16 :=
  shapeCast S16384x2304 (truncf .bf16 (extractStridedSlice S4x4096x2304 ![0, 0, 4608] (Host.dotGeneral dot_S4x4096x2048_S2048x22784_S4x4096x22784_2_0_01_1_n_n none X W) slices_S4x4096x22784_S4x4096x2304_0_0_4608) bitsLt_bf16_f32) shapeCasts_S4x4096x2304_S16384x2304

theorem term_at (X : FVec Ideal S4x4096x2048 .f32) (W : FVec Ideal S2048x22784 .f32) (r : Fin 16384) (n : Fin 2304) :
    term X W (ix2 r n) = lin X W r ⟨4608 + n.val, by omega⟩ := by
  pointwise [term]
  rfl

end Cert.VAReferenceIdeal.Hand

/-- The reference leaves its arguments as they were. -/
theorem VA.reference_frame : Cert.quiescent_VAReferenceIdeal := by
  intro m ρ _
  exact (θ_run Cert.VAReferenceIdeal.defs _ _).mono
    (fun r k => ⟨fun c => (k c).2, sem_eq_zero_of_no_sems (by decide) r.2⟩) (Cert.VAReferenceIdeal.Value.run m ρ)

/-- From the same tokens and weights the kernel and the reference return the same array. -/
theorem VA.algebraic : Cert.algebraic_VAKernelIdeal_VAReferenceIdeal := by
  pair_intro
  · run_from Cert.VAKernelIdeal.Value.run_blocks m g
  · run_from Cert.VAReferenceIdeal.Value.run m' g'
    rw [Cert.VAKernelIdeal.Hand.final m c]
    funext i
    idx_vars i
    exact Cert.VAReferenceIdeal.Hand.term_at _ _ i0 i1
-- ==== Proof.QkB.lean ====
module

public import proofs.«01_k».proof.Defs
public import proofs.«01_k».proof.Proof.Gen.QkBKernelIdeal
public import proofs.«01_k».proof.Proof.Gen.QkBKernelIdeal.Value
public import proofs.«01_k».proof.Proof.Gen.QkBReferenceIdeal
public import proofs.«01_k».proof.Proof.Gen.QkBReferenceIdeal.Run
public import Idealize.ShloMosaic.Lib.Pipeline.ValueKit
public import Idealize.ShloMosaic.Lib.Pointwise
public import Idealize.ShloMosaic.Lib.Claim
public import Idealize.ShloMosaic.Adequacy
public import proofs.«01_k».proof.Proof.RopeMath

/-! # Queries and keys of the differential attention: a projection and the rotary embedding -/

@[expose] public section
set_option maxRecDepth 16384
noncomputable section
open Idealize.ShloMosaic Idealize.ShloMosaic.TcCoe Idealize.SL.Sem
open Idealize.ShloMosaic.Pipeline (Dat)
open Cert.ProjMath Cert.RopeMath

namespace Cert.QkBKernelIdeal.Hand
open Cert.QkBKernelIdeal Cert.QkBKernelIdeal.Gen

variable (m : (ℓ : Loc nD τ sig) → Buf (Elt Ideal) ℓ)

/-- The lane that the rotation brings to lane `e`: the other half of the head. -/
def other (e : Nat) : Nat := e / 64 * 64 + (e + 32) % 64

theorem other_lt (n : Fin 1024) : n.val / 128 * 128 + other (n.val % 128) < 1024 := by
  have h : other (n.val % 128) < 128 := by unfold other; omega
  omega

/-- A row of the token block against a column of the weights' block. -/
def prod (x : FVec Ideal S1024x2048 .bf16) (w : FVec Ideal S2048x1024 .bf16) (r : Fin 1024) (n : Fin 1024) : EReal :=
  ∑ k : Fin 2048, x (ix2 r k) * w (ix2 k n)

/-- The condition the body computes on a lane's number: its remainder by 64, brought into range, is below 32. -/
def low (v : BitVec 32) : BitVec 1 :=
  IntOp.cmpi CmpIPredicate.slt
    (Scalar.select
      (IntOp.andi
        (IntOp.xori
          (IntOp.cmpi CmpIPredicate.slt (IntOp.remsi ArithUnit.vector v (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne (IntOp.remsi ArithUnit.vector v (Scalar.select (Scalar.cmpi CmpIPredicate.eq 64#32 0#32) 1#32 64#32)) 0#32))
      (IntOp.addi (IntOp.remsi ArithUnit.vector v (Scalar.select (Scalar.cmpi CmpIPredicate.eq 64#32 0#32) 1#32 64#32))
        (Scalar.select (Scalar.cmpi CmpIPredicate.eq 64#32 0#32) 1#32 64#32))
      (IntOp.remsi ArithUnit.vector v (Scalar.select (Scalar.cmpi CmpIPredicate.eq 64#32 0#32) 1#32 64#32)))
    32#32

theorem low_at : ∀ e : Fin 128, low (BitVec.ofNat 32 e.val) = if e.val % 64 < 32 then 1#1 else 0#1 := by decide +kernel

/-- The body's choice between the two rotations, by the lane's number. -/
theorem choose (e : Nat) (he : e < 128) (a b : EReal) :
    Scalar.select (IntOp.cmpi CmpIPredicate.slt
    (Scalar.select
      (IntOp.andi
        (IntOp.xori
          (IntOp.cmpi CmpIPredicate.slt (IntOp.remsi ArithUnit.vector (BitVec.ofNat 32 e) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne (IntOp.remsi ArithUnit.vector (BitVec.ofNat 32 e) (Scalar.select (Scalar.cmpi CmpIPredicate.eq 64#32 0#32) 1#32 64#32)) 0#32))
      (IntOp.addi (IntOp.remsi ArithUnit.vector (BitVec.ofNat 32 e) (Scalar.select (Scalar.cmpi CmpIPredicate.eq 64#32 0#32) 1#32 64#32))
        (Scalar.select (Scalar.cmpi CmpIPredicate.eq 64#32 0#32) 1#32 64#32))
      (IntOp.remsi ArithUnit.vector (BitVec.ofNat 32 e) (Scalar.select (Scalar.cmpi CmpIPredicate.eq 64#32 0#32) 1#32 64#32)))
    32#32) a b = if e % 64 < 32 then a else b := by
  show Scalar.select (low (BitVec.ofNat 32 e)) a b = _
  rw [show low (BitVec.ofNat 32 e) = _ from low_at ⟨e, he⟩]
  show Scalar.select (if e % 64 < 32 then 1#1 else 0#1) a b = _
  split <;> rfl

/-- The body's result block, from its input blocks: every stored tile is the product times the cosines plus the other half's product times the sines. -/
theorem block_at (x : FVec Ideal S1024x2048 .bf16) (w : FVec Ideal S2048x1024 .bf16) (c s : FVec Ideal S1024x128 .f32) (y : S1024x1024.Idx) :
    out0_4 (F := Ideal) x w c s y
      = prod x w (y 0) (y 1) * c (ix2 (y 0) (⟨(y 1).val % 128, by omega⟩ : Fin 128))
        + prod x w (y 0) ⟨(y 1).val / 128 * 128 + other ((y 1).val % 128), other_lt (y 1)⟩ * s (ix2 (y 0) (⟨(y 1).val % 128, by omega⟩ : Fin 128)) := by
  canon_tiles z h
  all_goals
    open_payloads
    pointwise [prod, k0_pay20]
    simp only [choose _ z1_lt]
    split <;> blk_point [other]

/-- The blocks of a grid point. -/
theorem idx : ∀ t : Fin cfg0.N, win0_0.index t = ![t.val % 16, 0] ∧ win0_1.index t = ![0, t.val / 16]
    ∧ win0_2.index t = ![t.val % 4, 0] ∧ win0_3.index t = ![t.val % 4, 0] ∧ win0_4.index t = ![t.val % 16, t.val / 16] :=
  (by decide +kernel : ∀ t : Fin grid0.N, _)

/-- The tokens as the launch holds them: one row per token. -/
theorem tokens_at (c : Dev nD) (r : Fin 16384) (k : Fin 2048) : (V m c main_v1 : FVec Ideal S16384x2048 .bf16) (ix2 r k)
    = (m ((c.tc : Thread nD τ).loc main_arg0) : FVec Ideal S4x4096x2048 .f32) (ix3 (⟨r.val / 4096, by omega⟩ : Fin 4) (⟨r.val % 4096, by omega⟩ : Fin 4096) k) := by
  entry_read
  pointwise

/-- The columns the launch holds. -/
theorem columns_at (c : Dev nD) (k : Fin 2048) (n : Fin 2048) : (V m c main_v3 : FVec Ideal S2048x2048 .bf16) (ix2 k n)
    = (m ((c.tc : Thread nD τ).loc main_arg1) : FVec Ideal S2048x22784 .f32) (ix2 k (⟨6912 + n.val, by omega⟩ : Fin 22784)) := by
  entry_read
  pointwise

/-- The cosines the launch holds. -/
theorem cos_at (c : Dev nD) (p : Fin 4096) (e : Fin 128) : (V m c main_v22 : FVec Ideal S4096x128 .f32) (ix2 p e)
    = Ideal.cos (angle 0x42000000#32 p.val (e.val % 32)) := by
  entry_read
  pointwise
  unfold angle
  by_cases h : e.val % 64 < 32
  · rw [show e.val % 32 = e.val % 64 by omega]
    exact dif_pos h
  · rw [show e.val % 32 = e.val % 64 - 32 by omega]
    exact dif_neg h

/-- The signed sines the launch holds. -/
theorem sin_at (c : Dev nD) (p : Fin 4096) (e : Fin 128) : (V m c main_v27 : FVec Ideal S4096x128 .f32) (ix2 p e)
    = if e.val % 64 < 32 then -Ideal.sin (angle 0x42000000#32 p.val (e.val % 32)) else Ideal.sin (angle 0x42000000#32 p.val (e.val % 32)) := by
  entry_read
  pointwise
  unfold angle
  by_cases h : e.val % 64 < 32
  · rw [if_pos h, show e.val % 32 = e.val % 64 by omega]
    exact dif_pos h
  · rw [if_neg h, show e.val % 32 = e.val % 64 - 32 by omega]
    exact dif_neg h

/-- The result array, entry by entry. -/
def REF (X : FVec Ideal S4x4096x2048 .f32) (W : FVec Ideal S2048x22784 .f32) : FVec Ideal S16384x2048 .bf16 :=
  fun i => rotated 0x42000000#32 32 6912 2048 (by decide) (by decide) (by decide) X W (i 0) (i 1)

/-- The product of a grid point's blocks is the projection. -/
theorem prod_at (c : Dev nD) (t : Fin cfg0.N) (u : t.val < 32) (r : Fin 1024) (n : Fin 1024) :
    prod (iblk m c 0 t) (iblk m c 1 t) r n = lin (m ((c.tc : Thread nD τ).loc main_arg0)) (m ((c.tc : Thread nD τ).loc main_arg1))
      ⟨t.val % 16 * 1024 + r.val, by omega⟩ ⟨6912 + (t.val / 16 * 1024 + n.val), by omega⟩ := by
  obtain ⟨i0, i1, i2, i3, i4⟩ := idx t
  have bx : ∀ k : Fin 2048, (iblk m c 0 t : FVec Ideal S1024x2048 .bf16) (ix2 r k)
      = (m ((c.tc : Thread nD τ).loc main_arg0) : FVec Ideal S4x4096x2048 .f32) (ix3 (⟨(t.val % 16 * 1024 + r.val) / 4096, by omega⟩ : Fin 4) (⟨(t.val % 16 * 1024 + r.val) % 4096, by omega⟩ : Fin 4096) k) := by
    intro k
    refine Eq.trans ?_ (tokens_at m c ⟨t.val % 16 * 1024 + r.val, by omega⟩ k)
    blk_ext [iblk, i0]
  have bw : ∀ k : Fin 2048, (iblk m c 1 t : FVec Ideal S2048x1024 .bf16) (ix2 k n)
      = (m ((c.tc : Thread nD τ).loc main_arg1) : FVec Ideal S2048x22784 .f32) (ix2 k (⟨6912 + (t.val / 16 * 1024 + n.val), by omega⟩ : Fin 22784)) := by
    intro k
    refine Eq.trans ?_ (columns_at m c k ⟨t.val / 16 * 1024 + n.val, by omega⟩)
    blk_ext [iblk, i1]
  unfold prod lin
  simp only [bx, bw]

/-- The kernel's two products, with the signed sine, are the rotation. -/
theorem fuse (X : FVec Ideal S4x4096x2048 .f32) (W : FVec Ideal S2048x22784 .f32) (a : Nat) (n : Fin 1024) (ha : a * 1024 + n.val < 2048)
    (r : Fin 16384) (p : Nat) (hp : p = r.val % 4096) :
    lin X W r ⟨6912 + (a * 1024 + n.val), by omega⟩ * Ideal.cos (angle 0x42000000#32 p (n.val % 128 % 32))
      + lin X W r ⟨6912 + (a * 1024 + (n.val / 128 * 128 + other (n.val % 128))), by have := other_lt n; omega⟩
        * (if n.val % 128 % 64 < 32 then -Ideal.sin (angle 0x42000000#32 p (n.val % 128 % 32)) else Ideal.sin (angle 0x42000000#32 p (n.val % 128 % 32)))
      = rotated 0x42000000#32 32 6912 2048 (by decide) (by decide) (by decide) X W r ⟨a * 1024 + n.val, ha⟩ := by
  subst hp
  unfold rotated
  by_cases h : (a * 1024 + n.val) % (2 * 32) < 32
  · rw [dif_pos h, if_pos (by omega), mul_neg, ← sub_eq_add_neg]
    have e : n.val % 128 % 32 = (a * 1024 + n.val) % (2 * 32) := by omega
    have b : 6912 + (a * 1024 + (n.val / 128 * 128 + other (n.val % 128))) = 6912 + (a * 1024 + n.val + 32) := by
      unfold other; omega
    simp only [e, b]
  · rw [dif_neg h, if_neg (by omega)]
    have e : n.val % 128 % 32 = (a * 1024 + n.val) % (2 * 32) - 32 := by omega
    have b : 6912 + (a * 1024 + (n.val / 128 * 128 + other (n.val % 128))) = 6912 + (a * 1024 + n.val - 32) := by
      unfold other; omega
    simp only [e, b]

/-- What a grid point stores is the result array's block there. -/
theorem point (c : Dev nD) (t : Fin cfg0.N) (r : Fin 1024) (n : Fin 1024) :
    out0_4 (F := Ideal) (iblk m c 0 t) (iblk m c 1 t) (iblk m c 2 t) (iblk m c 3 t) (ix2 r n)
      = REF (m ((c.tc : Thread nD τ).loc main_arg0)) (m ((c.tc : Thread nD τ).loc main_arg1)) (((cfg0.win 4).blk t).view.emb (ix2 r n)) := by
  obtain ⟨i0, i1, i2, i3, i4⟩ := idx t
  have u : t.val < 32 := t.isLt
  have p : ((cfg0.win 4).blk t).view.emb (ix2 r n)
      = ix2 (⟨t.val % 16 * 1024 + r.val, by omega⟩ : Fin 16384) (⟨t.val / 16 * 1024 + n.val, by omega⟩ : Fin 2048) := by
    blk_ext [i4]
  have bc : (iblk m c 2 t : FVec Ideal S1024x128 .f32) (ix2 r (⟨n.val % 128, by omega⟩ : Fin 128))
      = Ideal.cos (angle 0x42000000#32 (t.val % 4 * 1024 + r.val) (n.val % 128 % 32)) := by
    refine Eq.trans ?_ (cos_at m c ⟨t.val % 4 * 1024 + r.val, by omega⟩ ⟨n.val % 128, by omega⟩)
    blk_ext [iblk, i2]
  have bs : (iblk m c 3 t : FVec Ideal S1024x128 .f32) (ix2 r (⟨n.val % 128, by omega⟩ : Fin 128))
      = if n.val % 128 % 64 < 32 then -Ideal.sin (angle 0x42000000#32 (t.val % 4 * 1024 + r.val) (n.val % 128 % 32))
        else Ideal.sin (angle 0x42000000#32 (t.val % 4 * 1024 + r.val) (n.val % 128 % 32)) := by
    refine Eq.trans ?_ (sin_at m c ⟨t.val % 4 * 1024 + r.val, by omega⟩ ⟨n.val % 128, by omega⟩)
    blk_ext [iblk, i3]
  refine (block_at _ _ _ _ (ix2 r n)).trans ?_
  rw [p]
  refine Eq.trans ?_ (fuse _ _ (t.val / 16) n (by omega) ⟨t.val % 16 * 1024 + r.val, by omega⟩ (t.val % 4 * 1024 + r.val) (by show _ = (t.val % 16 * 1024 + r.val) % 4096; omega))
  exact congrArg₂ (· + ·) (congrArg₂ (· * ·) (prod_at m c t u r n) bc)
    (congrArg₂ (· * ·) (prod_at m c t u r ⟨n.val / 128 * 128 + other (n.val % 128), other_lt n⟩) bs)

/-- The result array after the run. -/
theorem final (c : Dev nD) : (dats m 0 c).arrAt 4 cfg0.N
    = REF (m ((c.tc : Thread nD τ).loc main_arg0)) (m ((c.tc : Thread nD τ).loc main_arg1)) := by
  refine (dats m 0 c).arrAt_eq_of_covers 4 _ (by decide +kernel) fun t _ y => ?_
  blk_simp
  rw [after0_4]
  idx_vars y
  exact point m c t y0 y1

end Cert.QkBKernelIdeal.Hand

namespace Cert.QkBReferenceIdeal.Hand
open Cert.QkBReferenceIdeal Cert.QkBReferenceIdeal.Gen

/-- The projection's columns, split into heads. -/
def part (a0 : FVec Ideal S4x4096x2048 .f32) (a1 : FVec Ideal S2048x22784 .f32) : FVec Ideal S4x4096x32x64 .f32 :=
  shapeCast S4x4096x32x64 (extractStridedSlice S4x4096x2048 ![0, 0, 6912] (Host.dotGeneral dot_S4x4096x2048_S2048x22784_S4x4096x22784_2_0_01_1_n_n none a0 a1) slices_S4x4096x22784_S4x4096x2048_0_0_6912) shapeCasts_S4x4096x2048_S4x4096x32x64

/-- The angles of every position and frequency. -/
def angles : FVec Ideal S4096x32 .f32 :=
  mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The rotation of every head, put back into rows. -/
def term (z : FVec Ideal S4x4096x32x64 .f32) (g : FVec Ideal S4096x32 .f32) : FVec Ideal S16384x2048 .bf16 :=
  shapeCast S16384x2048 (truncf .bf16 (concatenate S4x4096x32x64 3 [⟨S4x4096x32x32, (subf (mulf (extractStridedSlice S4x4096x32x32 ![0, 0, 0, 0] z slices_S4x4096x32x64_S4x4096x32x32_0_0_0_0) (broadcastInDim S4x4096x32x32 ![0, 1, 2, 3] bcast_S1x4096x1x32_S4x4096x32x32_0_1_2_3 (broadcastInDim S1x4096x1x32 ![1, 2, 3] bcast_S4096x1x32_S1x4096x1x32_1_2_3 (broadcastInDim S4096x1x32 ![0, 2] bcast_S4096x32_S4096x1x32_0_2 (Host.cos g))))) (mulf (extractStridedSlice S4x4096x32x32 ![0, 0, 0, 32] z slices_S4x4096x32x64_S4x4096x32x32_0_0_0_32) (broadcastInDim S4x4096x32x32 ![0, 1, 2, 3] bcast_S1x4096x1x32_S4x4096x32x32_0_1_2_3 (broadcastInDim S1x4096x1x32 ![1, 2, 3] bcast_S4096x1x32_S1x4096x1x32_1_2_3 (broadcastInDim S4096x1x32 ![0, 2] bcast_S4096x32_S4096x1x32_0_2 (Host.sin g))))))⟩, ⟨S4x4096x32x32, (addf (mulf (extractStridedSlice S4x4096x32x32 ![0, 0, 0, 32] z slices_S4x4096x32x64_S4x4096x32x32_0_0_0_32) (broadcastInDim S4x4096x32x32 ![0, 1, 2, 3] bcast_S1x4096x1x32_S4x4096x32x32_0_1_2_3 (broadcastInDim S1x4096x1x32 ![1, 2, 3] bcast_S4096x1x32_S1x4096x1x32_1_2_3 (broadcastInDim S4096x1x32 ![0, 2] bcast_S4096x32_S4096x1x32_0_2 (Host.cos g))))) (mulf (extractStridedSlice S4x4096x32x32 ![0, 0, 0, 0] z slices_S4x4096x32x64_S4x4096x32x32_0_0_0_0) (broadcastInDim S4x4096x32x32 ![0, 1, 2, 3] bcast_S1x4096x1x32_S4x4096x32x32_0_1_2_3 (broadcastInDim S1x4096x1x32 ![1, 2, 3] bcast_S4096x1x32_S1x4096x1x32_1_2_3 (broadcastInDim S4096x1x32 ![0, 2] bcast_S4096x32_S4096x1x32_0_2 (Host.sin g))))))⟩] concatenates_S4x4096x32x32_S4x4096x32x32_S4x4096x32x64_d3) bitsLt_bf16_f32) shapeCasts_S4x4096x32x64_S16384x2048

theorem result_eq (m : (ℓ : Loc nD τ sig) → Buf (Elt Ideal) ℓ) (c : Dev nD) :
    Cert.QkBReferenceIdeal.Value.res_out0 m c
      = term (part (m ((c.tc : Thread nD τ).loc main_arg0)) (m ((c.tc : Thread nD τ).loc main_arg1))) angles := by
  rfl

theorem angles_at (p : Fin 4096) (j : Fin 32) : angles (ix2 p j) = angle 0x42000000#32 p.val j.val := by
  pointwise [angles]
  rfl

theorem term_at (X : FVec Ideal S4x4096x2048 .f32) (W : FVec Ideal S2048x22784 .f32) (r : Fin 16384) (n : Fin 2048) :
    term (part X W) angles (ix2 r n) = rotated 0x42000000#32 32 6912 2048 (by decide) (by decide) (by decide) X W r n := by
  pointwise [term, part]
  simp only [angles_at]
  unfold rotated lin
  by_cases h : n.val % 64 < 32
  · refine (dif_pos h).trans (Eq.trans ?_ (dif_pos (show n.val % (2 * 32) < 32 from h)).symm)
    beta_reduce
    blk_point []
  · refine (dif_neg h).trans (Eq.trans ?_ (dif_neg (show ¬ n.val % (2 * 32) < 32 from h)).symm)
    beta_reduce
    blk_point []

end Cert.QkBReferenceIdeal.Hand

/-- The reference leaves its arguments as they were. -/
theorem QkB.reference_frame : Cert.quiescent_QkBReferenceIdeal := by
  intro m ρ _
  exact (θ_run Cert.QkBReferenceIdeal.defs _ _).mono
    (fun r k => ⟨fun c => (k c).2, sem_eq_zero_of_no_sems (by decide) r.2⟩) (Cert.QkBReferenceIdeal.Value.run m ρ)

/-- From the same tokens and weights the kernel and the reference return the same array. -/
theorem QkB.algebraic : Cert.algebraic_QkBKernelIdeal_QkBReferenceIdeal := by
  pair_intro
  · run_from Cert.QkBKernelIdeal.Value.run_blocks m g
  · run_from Cert.QkBReferenceIdeal.Value.run m' g'
    rw [Cert.QkBKernelIdeal.Hand.final m c]
    funext i
    idx_vars i
    refine ((congrFun (Cert.QkBReferenceIdeal.Hand.result_eq m' c) _).trans (Cert.QkBReferenceIdeal.Hand.term_at _ _ i0 i1)).trans ?_
    obtain ⟨e0, e1⟩ := hagree c
    rw [e0, e1]
    rfl
-- ==== Proof.QkC.lean ====
module

public import proofs.«01_k».proof.Defs
public import proofs.«01_k».proof.Proof.Gen.QkCKernelIdeal
public import proofs.«01_k».proof.Proof.Gen.QkCKernelIdeal.Value
public import proofs.«01_k».proof.Proof.Gen.QkCReferenceIdeal
public import proofs.«01_k».proof.Proof.Gen.QkCReferenceIdeal.Run
public import Idealize.ShloMosaic.Lib.Pipeline.ValueKit
public import Idealize.ShloMosaic.Lib.Pointwise
public import Idealize.ShloMosaic.Lib.Claim
public import Idealize.ShloMosaic.Adequacy
public import proofs.«01_k».proof.Proof.RopeMath

/-! # Queries and keys of the windowed attention: a projection and the rotary embedding -/

@[expose] public section
set_option maxRecDepth 16384
noncomputable section
open Idealize.ShloMosaic Idealize.ShloMosaic.TcCoe Idealize.SL.Sem
open Idealize.ShloMosaic.Pipeline (Dat)
open Cert.ProjMath Cert.RopeMath

namespace Cert.QkCKernelIdeal.Hand
open Cert.QkCKernelIdeal Cert.QkCKernelIdeal.Gen

variable (m : (ℓ : Loc nD τ sig) → Buf (Elt Ideal) ℓ)

/-- The lane that the rotation brings to lane `e`: the other half of the head. -/
def other (e : Nat) : Nat := (e + 64) % 128

theorem other_lt (n : Fin 1280) : n.val / 128 * 128 + other (n.val % 128) < 1280 := by
  have h : other (n.val % 128) < 128 := by unfold other; omega
  omega

/-- A row of the token block against a column of the weights' block. -/
def prod (x : FVec Ideal S1024x2048 .bf16) (w : FVec Ideal S2048x1280 .bf16) (r : Fin 1024) (n : Fin 1280) : EReal :=
  ∑ k : Fin 2048, x (ix2 r k) * w (ix2 k n)

/-- The body's result block, from its input blocks: every stored tile is the product times the cosines plus the other half's product times the sines. -/
theorem block_at (x : FVec Ideal S1024x2048 .bf16) (w : FVec Ideal S2048x1280 .bf16) (c s : FVec Ideal S1024x128 .f32) (y : S1024x1280.Idx) :
    out0_4 (F := Ideal) x w c s y
      = prod x w (y 0) (y 1) * c (ix2 (y 0) (⟨(y 1).val % 128, by omega⟩ : Fin 128))
        + prod x w (y 0) ⟨(y 1).val / 128 * 128 + other ((y 1).val % 128), other_lt (y 1)⟩ * s (ix2 (y 0) (⟨(y 1).val % 128, by omega⟩ : Fin 128)) := by
  canon_tiles z h
  all_goals
    open_payloads
    pointwise [prod]
    blk_point [other]

/-- The blocks of a grid point. -/
theorem idx : ∀ t : Fin cfg0.N, win0_0.index t = ![t.val % 16, 0] ∧ win0_1.index t = ![0, t.val / 16]
    ∧ win0_2.index t = ![t.val % 4, 0] ∧ win0_3.index t = ![t.val % 4, 0] ∧ win0_4.index t = ![t.val % 16, t.val / 16] :=
  (by decide +kernel : ∀ t : Fin grid0.N, _)

/-- The tokens as the launch holds them: one row per token. -/
theorem tokens_at (c : Dev nD) (r : Fin 16384) (k : Fin 2048) : (V m c main_v1 : FVec Ideal S16384x2048 .bf16) (ix2 r k)
    = (m ((c.tc : Thread nD τ).loc main_arg0) : FVec Ideal S4x4096x2048 .f32) (ix3 (⟨r.val / 4096, by omega⟩ : Fin 4) (⟨r.val % 4096, by omega⟩ : Fin 4096) k) := by
  entry_read
  pointwise

/-- The columns the launch holds. -/
theorem columns_at (c : Dev nD) (k : Fin 2048) (n : Fin 1280) : (V m c main_v3 : FVec Ideal S2048x1280 .bf16) (ix2 k n)
    = (m ((c.tc : Thread nD τ).loc main_arg1) : FVec Ideal S2048x22784 .f32) (ix2 k (⟨9984 + n.val, by omega⟩ : Fin 22784)) := by
  entry_read
  pointwise

/-- The cosines the launch holds. -/
theorem cos_at (c : Dev nD) (p : Fin 4096) (e : Fin 128) : (V m c main_v22 : FVec Ideal S4096x128 .f32) (ix2 p e)
    = Ideal.cos (angle 0x42800000#32 p.val (e.val % 64)) := by
  entry_read
  pointwise
  unfold angle
  blk_point []
  all_goals exact congrArg (BitVec.ofNat 32) (by omega)

/-- The signed sines the launch holds. -/
theorem sin_at (c : Dev nD) (p : Fin 4096) (e : Fin 128) : (V m c main_v27 : FVec Ideal S4096x128 .f32) (ix2 p e)
    = if e.val % 128 < 64 then -Ideal.sin (angle 0x42800000#32 p.val (e.val % 64)) else Ideal.sin (angle 0x42800000#32 p.val (e.val % 64)) := by
  entry_read
  pointwise
  unfold angle
  blk_point []
  all_goals first | exact congrArg (BitVec.ofNat 32) (by omega) | (exfalso; omega)

/-- The result array, entry by entry. -/
def REF (X : FVec Ideal S4x4096x2048 .f32) (W : FVec Ideal S2048x22784 .f32) : FVec Ideal S16384x1280 .bf16 :=
  fun i => rotated 0x42800000#32 64 9984 1280 (by decide) (by decide) (by decide) X W (i 0) (i 1)

/-- The product of a grid point's blocks is the projection. -/
theorem prod_at (c : Dev nD) (t : Fin cfg0.N) (u : t.val < 16) (r : Fin 1024) (n : Fin 1280) :
    prod (iblk m c 0 t) (iblk m c 1 t) r n = lin (m ((c.tc : Thread nD τ).loc main_arg0)) (m ((c.tc : Thread nD τ).loc main_arg1))
      ⟨t.val % 16 * 1024 + r.val, by omega⟩ ⟨9984 + (t.val / 16 * 1280 + n.val), by omega⟩ := by
  obtain ⟨i0, i1, i2, i3, i4⟩ := idx t
  have bx : ∀ k : Fin 2048, (iblk m c 0 t : FVec Ideal S1024x2048 .bf16) (ix2 r k)
      = (m ((c.tc : Thread nD τ).loc main_arg0) : FVec Ideal S4x4096x2048 .f32) (ix3 (⟨(t.val % 16 * 1024 + r.val) / 4096, by omega⟩ : Fin 4) (⟨(t.val % 16 * 1024 + r.val) % 4096, by omega⟩ : Fin 4096) k) := by
    intro k
    refine Eq.trans ?_ (tokens_at m c ⟨t.val % 16 * 1024 + r.val, by omega⟩ k)
    blk_ext [iblk, i0]
  have bw : ∀ k : Fin 2048, (iblk m c 1 t : FVec Ideal S2048x1280 .bf16) (ix2 k n)
      = (m ((c.tc : Thread nD τ).loc main_arg1) : FVec Ideal S2048x22784 .f32) (ix2 k (⟨9984 + (t.val / 16 * 1280 + n.val), by omega⟩ : Fin 22784)) := by
    intro k
    refine Eq.trans ?_ (columns_at m c k ⟨t.val / 16 * 1280 + n.val, by omega⟩)
    blk_ext [iblk, i1]
  unfold prod lin
  simp only [bx, bw]

/-- The kernel's two products, with the signed sine, are the rotation. -/
theorem fuse (X : FVec Ideal S4x4096x2048 .f32) (W : FVec Ideal S2048x22784 .f32) (a : Nat) (n : Fin 1280) (ha : a * 1280 + n.val < 1280)
    (r : Fin 16384) (p : Nat) (hp : p = r.val % 4096) :
    lin X W r ⟨9984 + (a * 1280 + n.val), by omega⟩ * Ideal.cos (angle 0x42800000#32 p (n.val % 128 % 64))
      + lin X W r ⟨9984 + (a * 1280 + (n.val / 128 * 128 + other (n.val % 128))), by have := other_lt n; omega⟩
        * (if n.val % 128 % 128 < 64 then -Ideal.sin (angle 0x42800000#32 p (n.val % 128 % 64)) else Ideal.sin (angle 0x42800000#32 p (n.val % 128 % 64)))
      = rotated 0x42800000#32 64 9984 1280 (by decide) (by decide) (by decide) X W r ⟨a * 1280 + n.val, ha⟩ := by
  subst hp
  unfold rotated
  by_cases h : (a * 1280 + n.val) % (2 * 64) < 64
  · rw [dif_pos h, if_pos (by omega), mul_neg, ← sub_eq_add_neg]
    have e : n.val % 128 % 64 = (a * 1280 + n.val) % (2 * 64) := by omega
    have b : 9984 + (a * 1280 + (n.val / 128 * 128 + other (n.val % 128))) = 9984 + (a * 1280 + n.val + 64) := by
      unfold other; omega
    simp only [e, b]
  · rw [dif_neg h, if_neg (by omega)]
    have e : n.val % 128 % 64 = (a * 1280 + n.val) % (2 * 64) - 64 := by omega
    have b : 9984 + (a * 1280 + (n.val / 128 * 128 + other (n.val % 128))) = 9984 + (a * 1280 + n.val - 64) := by
      unfold other; omega
    simp only [e, b]

/-- What a grid point stores is the result array's block there. -/
theorem point (c : Dev nD) (t : Fin cfg0.N) (r : Fin 1024) (n : Fin 1280) :
    out0_4 (F := Ideal) (iblk m c 0 t) (iblk m c 1 t) (iblk m c 2 t) (iblk m c 3 t) (ix2 r n)
      = REF (m ((c.tc : Thread nD τ).loc main_arg0)) (m ((c.tc : Thread nD τ).loc main_arg1)) (((cfg0.win 4).blk t).view.emb (ix2 r n)) := by
  obtain ⟨i0, i1, i2, i3, i4⟩ := idx t
  have u : t.val < 16 := t.isLt
  have p : ((cfg0.win 4).blk t).view.emb (ix2 r n)
      = ix2 (⟨t.val % 16 * 1024 + r.val, by omega⟩ : Fin 16384) (⟨t.val / 16 * 1280 + n.val, by omega⟩ : Fin 1280) := by
    blk_ext [i4]
  have bc : (iblk m c 2 t : FVec Ideal S1024x128 .f32) (ix2 r (⟨n.val % 128, by omega⟩ : Fin 128))
      = Ideal.cos (angle 0x42800000#32 (t.val % 4 * 1024 + r.val) (n.val % 128 % 64)) := by
    refine Eq.trans ?_ (cos_at m c ⟨t.val % 4 * 1024 + r.val, by omega⟩ ⟨n.val % 128, by omega⟩)
    blk_ext [iblk, i2]
  have bs : (iblk m c 3 t : FVec Ideal S1024x128 .f32) (ix2 r (⟨n.val % 128, by omega⟩ : Fin 128))
      = if n.val % 128 % 128 < 64 then -Ideal.sin (angle 0x42800000#32 (t.val % 4 * 1024 + r.val) (n.val % 128 % 64))
        else Ideal.sin (angle 0x42800000#32 (t.val % 4 * 1024 + r.val) (n.val % 128 % 64)) := by
    refine Eq.trans ?_ (sin_at m c ⟨t.val % 4 * 1024 + r.val, by omega⟩ ⟨n.val % 128, by omega⟩)
    blk_ext [iblk, i3]
  refine (block_at _ _ _ _ (ix2 r n)).trans ?_
  rw [p]
  refine Eq.trans ?_ (fuse _ _ (t.val / 16) n (by omega) ⟨t.val % 16 * 1024 + r.val, by omega⟩ (t.val % 4 * 1024 + r.val) (by show _ = (t.val % 16 * 1024 + r.val) % 4096; omega))
  exact congrArg₂ (· + ·) (congrArg₂ (· * ·) (prod_at m c t u r n) bc)
    (congrArg₂ (· * ·) (prod_at m c t u r ⟨n.val / 128 * 128 + other (n.val % 128), other_lt n⟩) bs)

/-- The result array after the run. -/
theorem final (c : Dev nD) : (dats m 0 c).arrAt 4 cfg0.N
    = REF (m ((c.tc : Thread nD τ).loc main_arg0)) (m ((c.tc : Thread nD τ).loc main_arg1)) := by
  refine (dats m 0 c).arrAt_eq_of_covers 4 _ (by decide +kernel) fun t _ y => ?_
  blk_simp
  rw [after0_4]
  idx_vars y
  exact point m c t y0 y1

end Cert.QkCKernelIdeal.Hand

namespace Cert.QkCReferenceIdeal.Hand
open Cert.QkCReferenceIdeal Cert.QkCReferenceIdeal.Gen

/-- The projection's columns, split into heads. -/
def part (a0 : FVec Ideal S4x4096x2048 .f32) (a1 : FVec Ideal S2048x22784 .f32) : FVec Ideal S4x4096x10x128 .f32 :=
  shapeCast S4x4096x10x128 (extractStridedSlice S4x4096x1280 ![0, 0, 9984] (Host.dotGeneral dot_S4x4096x2048_S2048x22784_S4x4096x22784_2_0_01_1_n_n none a0 a1) slices_S4x4096x22784_S4x4096x1280_0_0_9984) shapeCasts_S4x4096x1280_S4x4096x10x128

/-- The angles of every position and frequency. -/
def angles : FVec Ideal S4096x64 .f32 :=
  mulf (broadcastInDim S4096x64 ![0, 1] bcast_S4096x1_S4096x64_0_1 (broadcastInDim S4096x1 ![0] bcast_S4096_S4096x1_0 (sitofp .f32 (iotaInDim S4096 32 0)))) (broadcastInDim S4096x64 ![0, 1] bcast_S1x64_S4096x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))

/-- The rotation of every head, put back into rows. -/
def term (z : FVec Ideal S4x4096x10x128 .f32) (g : FVec Ideal S4096x64 .f32) : FVec Ideal S16384x1280 .bf16 :=
  shapeCast S16384x1280 (truncf .bf16 (concatenate S4x4096x10x128 3 [⟨S4x4096x10x64, (subf (mulf (extractStridedSlice S4x4096x10x64 ![0, 0, 0, 0] z slices_S4x4096x10x128_S4x4096x10x64_0_0_0_0) (broadcastInDim S4x4096x10x64 ![0, 1, 2, 3] bcast_S1x4096x1x64_S4x4096x10x64_0_1_2_3 (broadcastInDim S1x4096x1x64 ![1, 2, 3] bcast_S4096x1x64_S1x4096x1x64_1_2_3 (broadcastInDim S4096x1x64 ![0, 2] bcast_S4096x64_S4096x1x64_0_2 (Host.cos g))))) (mulf (extractStridedSlice S4x4096x10x64 ![0, 0, 0, 64] z slices_S4x4096x10x128_S4x4096x10x64_0_0_0_64) (broadcastInDim S4x4096x10x64 ![0, 1, 2, 3] bcast_S1x4096x1x64_S4x4096x10x64_0_1_2_3 (broadcastInDim S1x4096x1x64 ![1, 2, 3] bcast_S4096x1x64_S1x4096x1x64_1_2_3 (broadcastInDim S4096x1x64 ![0, 2] bcast_S4096x64_S4096x1x64_0_2 (Host.sin g))))))⟩, ⟨S4x4096x10x64, (addf (mulf (extractStridedSlice S4x4096x10x64 ![0, 0, 0, 64] z slices_S4x4096x10x128_S4x4096x10x64_0_0_0_64) (broadcastInDim S4x4096x10x64 ![0, 1, 2, 3] bcast_S1x4096x1x64_S4x4096x10x64_0_1_2_3 (broadcastInDim S1x4096x1x64 ![1, 2, 3] bcast_S4096x1x64_S1x4096x1x64_1_2_3 (broadcastInDim S4096x1x64 ![0, 2] bcast_S4096x64_S4096x1x64_0_2 (Host.cos g))))) (mulf (extractStridedSlice S4x4096x10x64 ![0, 0, 0, 0] z slices_S4x4096x10x128_S4x4096x10x64_0_0_0_0) (broadcastInDim S4x4096x10x64 ![0, 1, 2, 3] bcast_S1x4096x1x64_S4x4096x10x64_0_1_2_3 (broadcastInDim S1x4096x1x64 ![1, 2, 3] bcast_S4096x1x64_S1x4096x1x64_1_2_3 (broadcastInDim S4096x1x64 ![0, 2] bcast_S4096x64_S4096x1x64_0_2 (Host.sin g))))))⟩] concatenates_S4x4096x10x64_S4x4096x10x64_S4x4096x10x128_d3) bitsLt_bf16_f32) shapeCasts_S4x4096x10x128_S16384x1280

theorem result_eq (m : (ℓ : Loc nD τ sig) → Buf (Elt Ideal) ℓ) (c : Dev nD) :
    Cert.QkCReferenceIdeal.Value.res_out0 m c
      = term (part (m ((c.tc : Thread nD τ).loc main_arg0)) (m ((c.tc : Thread nD τ).loc main_arg1))) angles := by
  rfl

theorem angles_at (p : Fin 4096) (j : Fin 64) : angles (ix2 p j) = angle 0x42800000#32 p.val j.val := by
  pointwise [angles]
  rfl

theorem term_at (X : FVec Ideal S4x4096x2048 .f32) (W : FVec Ideal S2048x22784 .f32) (r : Fin 16384) (n : Fin 1280) :
    term (part X W) angles (ix2 r n) = rotated 0x42800000#32 64 9984 1280 (by decide) (by decide) (by decide) X W r n := by
  pointwise [term, part]
  simp only [angles_at]
  unfold rotated lin
  by_cases h : n.val % 128 < 64
  · refine (dif_pos h).trans (Eq.trans ?_ (dif_pos (show n.val % (2 * 64) < 64 from h)).symm)
    beta_reduce
    blk_point []
  · refine (dif_neg h).trans (Eq.trans ?_ (dif_neg (show ¬ n.val % (2 * 64) < 64 from h)).symm)
    beta_reduce
    blk_point []

end Cert.QkCReferenceIdeal.Hand

/-- The reference leaves its arguments as they were. -/
theorem QkC.reference_frame : Cert.quiescent_QkCReferenceIdeal := by
  intro m ρ _
  exact (θ_run Cert.QkCReferenceIdeal.defs _ _).mono
    (fun r k => ⟨fun c => (k c).2, sem_eq_zero_of_no_sems (by decide) r.2⟩) (Cert.QkCReferenceIdeal.Value.run m ρ)

/-- From the same tokens and weights the kernel and the reference return the same array. -/
theorem QkC.algebraic : Cert.algebraic_QkCKernelIdeal_QkCReferenceIdeal := by
  pair_intro
  · run_from Cert.QkCKernelIdeal.Value.run_blocks m g
  · run_from Cert.QkCReferenceIdeal.Value.run m' g'
    rw [Cert.QkCKernelIdeal.Hand.final m c]
    funext i
    idx_vars i
    refine ((congrFun (Cert.QkCReferenceIdeal.Hand.result_eq m' c) _).trans (Cert.QkCReferenceIdeal.Hand.term_at _ _ i0 i1)).trans ?_
    obtain ⟨e0, e1⟩ := hagree c
    rw [e0, e1]
    rfl
-- ==== Proof.VB.lean ====
module

public import proofs.«01_k».proof.Defs
public import proofs.«01_k».proof.Proof.Gen.VBKernelIdeal
public import proofs.«01_k».proof.Proof.Gen.VBKernelIdeal.Value
public import proofs.«01_k».proof.Proof.Gen.VBReferenceIdeal
public import proofs.«01_k».proof.Proof.Gen.VBReferenceIdeal.Run
public import Idealize.ShloMosaic.Lib.Pipeline.ValueKit
public import Idealize.ShloMosaic.Lib.Pointwise
public import Idealize.ShloMosaic.Lib.Claim
public import Idealize.ShloMosaic.Adequacy
public import proofs.«01_k».proof.Proof.ProjMath

/-! # The values of the differential attention: a plain projection -/

@[expose] public section
set_option maxRecDepth 16384
noncomputable section
open Idealize.ShloMosaic Idealize.ShloMosaic.TcCoe Idealize.SL.Sem
open Idealize.ShloMosaic.Pipeline (Dat)
open Cert.ProjMath

namespace Cert.VBKernelIdeal.Hand
open Cert.VBKernelIdeal Cert.VBKernelIdeal.Gen

variable (m : (ℓ : Loc nD τ sig) → Buf (Elt Ideal) ℓ)

/-- The result array, entry by entry. -/
def REF (X : FVec Ideal S4x4096x2048 .f32) (W : FVec Ideal S2048x22784 .f32) : FVec Ideal S16384x1024 .bf16 :=
  fun i => lin X W (i 0) ⟨8960 + (i 1).val, by have := (i 1).isLt; change (i 1).val < 1024 at this; omega⟩

/-- The body's result block, from its input blocks. -/
theorem payload_at (x : FVec Ideal S1024x2048 .bf16) (w : FVec Ideal S2048x1024 .bf16) (r : Fin 1024) (n : Fin 1024) :
    k0_pay1 (F := Ideal) x w (ix2 r n) = ∑ k : Fin 2048, x (ix2 r k) * w (ix2 k n) := by
  pointwise [k0_pay1]

/-- The blocks of a grid point: column block and row block from the point's number. -/
theorem idx : ∀ t : Fin cfg0.N, win0_0.index t = ![t.val % 16, 0] ∧ win0_1.index t = ![0, t.val / 16]
    ∧ win0_2.index t = ![t.val % 16, t.val / 16] :=
  (by decide +kernel : ∀ t : Fin grid0.N, _)

/-- The tokens as the launch holds them: one row per token. -/
theorem tokens_at (c : Dev nD) (r : Fin 16384) (k : Fin 2048) : (V m c main_v1 : FVec Ideal S16384x2048 .bf16) (ix2 r k)
    = (m ((c.tc : Thread nD τ).loc main_arg0) : FVec Ideal S4x4096x2048 .f32) (ix3 (⟨r.val / 4096, by omega⟩ : Fin 4) (⟨r.val % 4096, by omega⟩ : Fin 4096) k) := by
  entry_read
  pointwise

/-- The columns the launch holds. -/
theorem columns_at (c : Dev nD) (k : Fin 2048) (n : Fin 1024) : (V m c main_v3 : FVec Ideal S2048x1024 .bf16) (ix2 k n)
    = (m ((c.tc : Thread nD τ).loc main_arg1) : FVec Ideal S2048x22784 .f32) (ix2 k (⟨8960 + n.val, by omega⟩ : Fin 22784)) := by
  entry_read
  pointwise

/-- What a grid point stores is the result array's block there. -/
theorem point (c : Dev nD) (t : Fin cfg0.N) (r : Fin 1024) (n : Fin 1024) :
    k0_pay1 (F := Ideal) (iblk m c 0 t) (iblk m c 1 t) (ix2 r n)
      = REF (m ((c.tc : Thread nD τ).loc main_arg0)) (m ((c.tc : Thread nD τ).loc main_arg1)) (((cfg0.win 2).blk t).view.emb (ix2 r n)) := by
  obtain ⟨i0, i1, i2⟩ := idx t
  have u : t.val < 16 := t.isLt
  have p : ((cfg0.win 2).blk t).view.emb (ix2 r n)
      = ix2 (⟨t.val % 16 * 1024 + r.val, by omega⟩ : Fin 16384) (⟨t.val / 16 * 1024 + n.val, by omega⟩ : Fin 1024) := by
    blk_ext [i2]
  have bx : ∀ k : Fin 2048, (iblk m c 0 t : FVec Ideal S1024x2048 .bf16) (ix2 r k)
      = (m ((c.tc : Thread nD τ).loc main_arg0) : FVec Ideal S4x4096x2048 .f32) (ix3 (⟨(t.val % 16 * 1024 + r.val) / 4096, by omega⟩ : Fin 4) (⟨(t.val % 16 * 1024 + r.val) % 4096, by omega⟩ : Fin 4096) k) := by
    intro k
    refine Eq.trans ?_ (tokens_at m c ⟨t.val % 16 * 1024 + r.val, by omega⟩ k)
    blk_ext [iblk, i0]
  have bw : ∀ k : Fin 2048, (iblk m c 1 t : FVec Ideal S2048x1024 .bf16) (ix2 k n)
      = (m ((c.tc : Thread nD τ).loc main_arg1) : FVec Ideal S2048x22784 .f32) (ix2 k (⟨8960 + (t.val / 16 * 1024 + n.val), by omega⟩ : Fin 22784)) := by
    intro k
    refine Eq.trans ?_ (columns_at m c k ⟨t.val / 16 * 1024 + n.val, by omega⟩)
    blk_ext [iblk, i1]
  refine (payload_at _ _ r n).trans ?_
  rw [p]
  unfold REF lin
  simp only [bx, bw, ix2_0, ix2_1]

/-- The result array after the run. -/
theorem final (c : Dev nD) : (dats m 0 c).arrAt 2 cfg0.N
    = REF (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  idx_vars y
  exact point m c t y0 y1

end Cert.VBKernelIdeal.Hand

namespace Cert.VBReferenceIdeal.Hand
open Cert.VBReferenceIdeal Cert.VBReferenceIdeal.Gen

/-- The reference's term, over its arguments. -/
def term (X : FVec Ideal S4x4096x2048 .f32) (W : FVec Ideal S2048x22784 .f32) : FVec Ideal S16384x1024 .bf16 :=
  shapeCast S16384x1024 (truncf .bf16 (extractStridedSlice S4x4096x1024 ![0, 0, 8960] (Host.dotGeneral dot_S4x4096x2048_S2048x22784_S4x4096x22784_2_0_01_1_n_n none X W) slices_S4x4096x22784_S4x4096x1024_0_0_8960) bitsLt_bf16_f32) shapeCasts_S4x4096x1024_S16384x1024

theorem term_at (X : FVec Ideal S4x4096x2048 .f32) (W : FVec Ideal S2048x22784 .f32) (r : Fin 16384) (n : Fin 1024) :
    term X W (ix2 r n) = lin X W r ⟨8960 + n.val, by omega⟩ := by
  pointwise [term]
  rfl

end Cert.VBReferenceIdeal.Hand

/-- The reference leaves its arguments as they were. -/
theorem VB.reference_frame : Cert.quiescent_VBReferenceIdeal := by
  intro m ρ _
  exact (θ_run Cert.VBReferenceIdeal.defs _ _).mono
    (fun r k => ⟨fun c => (k c).2, sem_eq_zero_of_no_sems (by decide) r.2⟩) (Cert.VBReferenceIdeal.Value.run m ρ)

/-- From the same tokens and weights the kernel and the reference return the same array. -/
theorem VB.algebraic : Cert.algebraic_VBKernelIdeal_VBReferenceIdeal := by
  pair_intro
  · run_from Cert.VBKernelIdeal.Value.run_blocks m g
  · run_from Cert.VBReferenceIdeal.Value.run m' g'
    rw [Cert.VBKernelIdeal.Hand.final m c]
    funext i
    idx_vars i
    exact Cert.VBReferenceIdeal.Hand.term_at _ _ i0 i1
-- ==== Proof.VC.lean ====
module

public import proofs.«01_k».proof.Defs
public import proofs.«01_k».proof.Proof.Gen.VCKernelIdeal
public import proofs.«01_k».proof.Proof.Gen.VCKernelIdeal.Value
public import proofs.«01_k».proof.Proof.Gen.VCReferenceIdeal
public import proofs.«01_k».proof.Proof.Gen.VCReferenceIdeal.Run
public import Idealize.ShloMosaic.Lib.Pipeline.ValueKit
public import Idealize.ShloMosaic.Lib.Pointwise
public import Idealize.ShloMosaic.Lib.Claim
public import Idealize.ShloMosaic.Adequacy
public import proofs.«01_k».proof.Proof.ProjMath

/-! # The values of the windowed attention: a plain projection -/

@[expose] public section
set_option maxRecDepth 16384
noncomputable section
open Idealize.ShloMosaic Idealize.ShloMosaic.TcCoe Idealize.SL.Sem
open Idealize.ShloMosaic.Pipeline (Dat)
open Cert.ProjMath

namespace Cert.VCKernelIdeal.Hand
open Cert.VCKernelIdeal Cert.VCKernelIdeal.Gen

variable (m : (ℓ : Loc nD τ sig) → Buf (Elt Ideal) ℓ)

/-- The result array, entry by entry. -/
def REF (X : FVec Ideal S4x4096x2048 .f32) (W : FVec Ideal S2048x22784 .f32) : FVec Ideal S16384x256 .bf16 :=
  fun i => lin X W (i 0) ⟨11264 + (i 1).val, by have := (i 1).isLt; change (i 1).val < 256 at this; omega⟩

/-- The body's result block, from its input blocks. -/
theorem payload_at (x : FVec Ideal S1024x2048 .bf16) (w : FVec Ideal S2048x256 .bf16) (r : Fin 1024) (n : Fin 256) :
    k0_pay1 (F := Ideal) x w (ix2 r n) = ∑ k : Fin 2048, x (ix2 r k) * w (ix2 k n) := by
  pointwise [k0_pay1]

/-- The blocks of a grid point: column block and row block from the point's number. -/
theorem idx : ∀ t : Fin cfg0.N, win0_0.index t = ![t.val % 16, 0] ∧ win0_1.index t = ![0, t.val / 16]
    ∧ win0_2.index t = ![t.val % 16, t.val / 16] :=
  (by decide +kernel : ∀ t : Fin grid0.N, _)

/-- The tokens as the launch holds them: one row per token. -/
theorem tokens_at (c : Dev nD) (r : Fin 16384) (k : Fin 2048) : (V m c main_v1 : FVec Ideal S16384x2048 .bf16) (ix2 r k)
    = (m ((c.tc : Thread nD τ).loc main_arg0) : FVec Ideal S4x4096x2048 .f32) (ix3 (⟨r.val / 4096, by omega⟩ : Fin 4) (⟨r.val % 4096, by omega⟩ : Fin 4096) k) := by
  entry_read
  pointwise

/-- The columns the launch holds. -/
theorem columns_at (c : Dev nD) (k : Fin 2048) (n : Fin 256) : (V m c main_v3 : FVec Ideal S2048x256 .bf16) (ix2 k n)
    = (m ((c.tc : Thread nD τ).loc main_arg1) : FVec Ideal S2048x22784 .f32) (ix2 k (⟨11264 + n.val, by omega⟩ : Fin 22784)) := by
  entry_read
  pointwise

/-- What a grid point stores is the result array's block there. -/
theorem point (c : Dev nD) (t : Fin cfg0.N) (r : Fin 1024) (n : Fin 256) :
    k0_pay1 (F := Ideal) (iblk m c 0 t) (iblk m c 1 t) (ix2 r n)
      = REF (m ((c.tc : Thread nD τ).loc main_arg0)) (m ((c.tc : Thread nD τ).loc main_arg1)) (((cfg0.win 2).blk t).view.emb (ix2 r n)) := by
  obtain ⟨i0, i1, i2⟩ := idx t
  have u : t.val < 16 := t.isLt
  have p : ((cfg0.win 2).blk t).view.emb (ix2 r n)
      = ix2 (⟨t.val % 16 * 1024 + r.val, by omega⟩ : Fin 16384) (⟨t.val / 16 * 256 + n.val, by omega⟩ : Fin 256) := by
    blk_ext [i2]
  have bx : ∀ k : Fin 2048, (iblk m c 0 t : FVec Ideal S1024x2048 .bf16) (ix2 r k)
      = (m ((c.tc : Thread nD τ).loc main_arg0) : FVec Ideal S4x4096x2048 .f32) (ix3 (⟨(t.val % 16 * 1024 + r.val) / 4096, by omega⟩ : Fin 4) (⟨(t.val % 16 * 1024 + r.val) % 4096, by omega⟩ : Fin 4096) k) := by
    intro k
    refine Eq.trans ?_ (tokens_at m c ⟨t.val % 16 * 1024 + r.val, by omega⟩ k)
    blk_ext [iblk, i0]
  have bw : ∀ k : Fin 2048, (iblk m c 1 t : FVec Ideal S2048x256 .bf16) (ix2 k n)
      = (m ((c.tc : Thread nD τ).loc main_arg1) : FVec Ideal S2048x22784 .f32) (ix2 k (⟨11264 + (t.val / 16 * 256 + n.val), by omega⟩ : Fin 22784)) := by
    intro k
    refine Eq.trans ?_ (columns_at m c k ⟨t.val / 16 * 256 + n.val, by omega⟩)
    blk_ext [iblk, i1]
  refine (payload_at _ _ r n).trans ?_
  rw [p]
  unfold REF lin
  simp only [bx, bw, ix2_0, ix2_1]

/-- The result array after the run. -/
theorem final (c : Dev nD) : (dats m 0 c).arrAt 2 cfg0.N
    = REF (m ((c.tc : Thread nD τ).loc main_arg0)) (m ((c.tc : Thread nD τ).loc main_arg1)) := by
  refine (dats m 0 c).arrAt_eq_of_covers 2 _ (by decide +kernel) fun t _ y => ?_
  blk_simp
  rw [after0_2]
  frame_out
  idx_vars y
  exact point m c t y0 y1

end Cert.VCKernelIdeal.Hand

namespace Cert.VCReferenceIdeal.Hand
open Cert.VCReferenceIdeal Cert.VCReferenceIdeal.Gen

/-- The reference's term, over its arguments. -/
def term (X : FVec Ideal S4x4096x2048 .f32) (W : FVec Ideal S2048x22784 .f32) : FVec Ideal S16384x256 .bf16 :=
  shapeCast S16384x256 (truncf .bf16 (extractStridedSlice S4x4096x256 ![0, 0, 11264] (Host.dotGeneral dot_S4x4096x2048_S2048x22784_S4x4096x22784_2_0_01_1_n_n none X W) slices_S4x4096x22784_S4x4096x256_0_0_11264) bitsLt_bf16_f32) shapeCasts_S4x4096x256_S16384x256

theorem term_at (X : FVec Ideal S4x4096x2048 .f32) (W : FVec Ideal S2048x22784 .f32) (r : Fin 16384) (n : Fin 256) :
    term X W (ix2 r n) = lin X W r ⟨11264 + n.val, by omega⟩ := by
  pointwise [term]
  rfl

end Cert.VCReferenceIdeal.Hand

/-- The reference leaves its arguments as they were. -/
theorem VC.reference_frame : Cert.quiescent_VCReferenceIdeal := by
  intro m ρ _
  exact (θ_run Cert.VCReferenceIdeal.defs _ _).mono
    (fun r k => ⟨fun c => (k c).2, sem_eq_zero_of_no_sems (by decide) r.2⟩) (Cert.VCReferenceIdeal.Value.run m ρ)

/-- From the same tokens and weights the kernel and the reference return the same array. -/
theorem VC.algebraic : Cert.algebraic_VCKernelIdeal_VCReferenceIdeal := by
  pair_intro
  · run_from Cert.VCKernelIdeal.Value.run_blocks m g
  · run_from Cert.VCReferenceIdeal.Value.run m' g'
    rw [Cert.VCKernelIdeal.Hand.final m c]
    funext i
    idx_vars i
    exact Cert.VCReferenceIdeal.Hand.term_at _ _ i0 i1
-- ==== Proof.lean ====
module

public import proofs.«01_k».proof.Defs
public import proofs.«01_k».proof.Proof.Gen.DiffKernel
public import proofs.«01_k».proof.Proof.Gen.DiffKernel.Skeleton
public import proofs.«01_k».proof.Proof.Gen.DiffKernel.Launch
public import proofs.«01_k».proof.Proof.Gen.DiffKernel.Points
public import proofs.«01_k».proof.Proof.Gen.DiffKernel.Frame
public import proofs.«01_k».proof.Proof.Gen.DiffKernelIdeal
public import proofs.«01_k».proof.Proof.Gen.DiffKernelIdeal.Skeleton
public import proofs.«01_k».proof.Proof.Gen.DiffKernelIdeal.Launch
public import proofs.«01_k».proof.Proof.Gen.DiffKernelIdeal.Points
public import proofs.«01_k».proof.Proof.Gen.DiffKernelIdeal.Frame
public import proofs.«01_k».proof.Proof.Gen.DiffKernelIdeal.Value
public import proofs.«01_k».proof.Proof.Gen.DiffReferenceIdeal.Run
public import proofs.«01_k».proof.Proof.Gen.DiffReferenceIdeal
public import proofs.«01_k».proof.Proof.Gen.GateKernel
public import proofs.«01_k».proof.Proof.Gen.GateKernel.Frame
public import proofs.«01_k».proof.Proof.Gen.GateKernelIdeal
public import proofs.«01_k».proof.Proof.Gen.GateKernelIdeal.Frame
public import proofs.«01_k».proof.Proof.Gen.GateKernelIdeal.Value
public import proofs.«01_k».proof.Proof.Gen.GateReferenceIdeal
public import proofs.«01_k».proof.Proof.Gen.GateReferenceIdeal.Run
public import proofs.«01_k».proof.Proof.Gen.ExpertKernel
public import proofs.«01_k».proof.Proof.Gen.ExpertKernel.Frame
public import proofs.«01_k».proof.Proof.Gen.ExpertKernelIdeal
public import proofs.«01_k».proof.Proof.Gen.ExpertKernelIdeal.Frame
public import proofs.«01_k».proof.Proof.Gen.ExpertKernelIdeal.Value
public import proofs.«01_k».proof.Proof.Gen.ExpertReferenceIdeal
public import proofs.«01_k».proof.Proof.Gen.ExpertReferenceIdeal.Run
public import proofs.«01_k».proof.Proof.Gen.QkAKernel
public import proofs.«01_k».proof.Proof.Gen.QkAKernel.Frame
public import proofs.«01_k».proof.Proof.Gen.QkAKernelIdeal
public import proofs.«01_k».proof.Proof.Gen.QkAKernelIdeal.Frame
public import proofs.«01_k».proof.Proof.Gen.QkAKernelIdeal.Value
public import proofs.«01_k».proof.Proof.Gen.QkAReferenceIdeal
public import proofs.«01_k».proof.Proof.Gen.QkAReferenceIdeal.Run
public import proofs.«01_k».proof.Proof.Gen.MergeKernel
public import proofs.«01_k».proof.Proof.Gen.MergeKernel.Frame
public import proofs.«01_k».proof.Proof.Gen.MergeKernelIdeal
public import proofs.«01_k».proof.Proof.Gen.MergeKernelIdeal.Frame
public import proofs.«01_k».proof.Proof.Gen.MergeKernelIdeal.Value
public import proofs.«01_k».proof.Proof.Gen.MergeReferenceIdeal
public import proofs.«01_k».proof.Proof.Gen.MergeReferenceIdeal.Run
public import proofs.«01_k».proof.Proof.Gen.QkvDKernel
public import proofs.«01_k».proof.Proof.Gen.QkvDKernel.Frame
public import proofs.«01_k».proof.Proof.Gen.QkvDKernelIdeal
public import proofs.«01_k».proof.Proof.Gen.QkvDKernelIdeal.Frame
public import proofs.«01_k».proof.Proof.Gen.QkvDKernelIdeal.Value
public import proofs.«01_k».proof.Proof.Gen.QkvDReferenceIdeal
public import proofs.«01_k».proof.Proof.Gen.QkvDReferenceIdeal.Run
public import proofs.«01_k».proof.Proof.Gen.VAKernel
public import proofs.«01_k».proof.Proof.Gen.VAKernel.Frame
public import proofs.«01_k».proof.Proof.Gen.VAKernelIdeal
public import proofs.«01_k».proof.Proof.Gen.VAKernelIdeal.Frame
public import proofs.«01_k».proof.Proof.Gen.VAKernelIdeal.Value
public import proofs.«01_k».proof.Proof.Gen.VAReferenceIdeal
public import proofs.«01_k».proof.Proof.Gen.VAReferenceIdeal.Run
public import proofs.«01_k».proof.Proof.Gen.QkBKernel
public import proofs.«01_k».proof.Proof.Gen.QkBKernel.Frame
public import proofs.«01_k».proof.Proof.Gen.QkBKernelIdeal
public import proofs.«01_k».proof.Proof.Gen.QkBKernelIdeal.Frame
public import proofs.«01_k».proof.Proof.Gen.QkBKernelIdeal.Value
public import proofs.«01_k».proof.Proof.Gen.QkBReferenceIdeal
public import proofs.«01_k».proof.Proof.Gen.QkBReferenceIdeal.Run
public import proofs.«01_k».proof.Proof.Gen.OutKernel
public import proofs.«01_k».proof.Proof.Gen.OutKernel.Frame
public import proofs.«01_k».proof.Proof.Gen.OutKernelIdeal
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.QkCKernel
public import proofs.«01_k».proof.Proof.Gen.QkCKernel.Frame
public import proofs.«01_k».proof.Proof.Gen.QkCKernelIdeal
public import proofs.«01_k».proof.Proof.Gen.QkCKernelIdeal.Frame
public import proofs.«01_k».proof.Proof.Gen.QkCKernelIdeal.Value
public import proofs.«01_k».proof.Proof.Gen.QkCReferenceIdeal
public import proofs.«01_k».proof.Proof.Gen.QkCReferenceIdeal.Run
public import proofs.«01_k».proof.Proof.Gen.VBKernel
public import proofs.«01_k».proof.Proof.Gen.VBKernel.Frame
public import proofs.«01_k».proof.Proof.Gen.VBKernelIdeal
public import proofs.«01_k».proof.Proof.Gen.VBKernelIdeal.Frame
public import proofs.«01_k».proof.Proof.Gen.VBKernelIdeal.Value
public import proofs.«01_k».proof.Proof.Gen.VBReferenceIdeal
public import proofs.«01_k».proof.Proof.Gen.VBReferenceIdeal.Run
public import proofs.«01_k».proof.Proof.Gen.VCKernel
public import proofs.«01_k».proof.Proof.Gen.VCKernel.Frame
public import proofs.«01_k».proof.Proof.Gen.VCKernelIdeal
public import proofs.«01_k».proof.Proof.Gen.VCKernelIdeal.Frame
public import proofs.«01_k».proof.Proof.Gen.VCKernelIdeal.Value
public import proofs.«01_k».proof.Proof.Gen.VCReferenceIdeal
public import proofs.«01_k».proof.Proof.Gen.VCReferenceIdeal.Run
public import proofs.«01_k».proof.Proof.Gen.CombineKernel
public import proofs.«01_k».proof.Proof.Gen.CombineKernel.Frame
public import proofs.«01_k».proof.Proof.Gen.CombineKernelIdeal
public import proofs.«01_k».proof.Proof.Gen.CombineKernelIdeal.Frame
public import proofs.«01_k».proof.Proof.Gen.CombineKernelIdeal.Value
public import proofs.«01_k».proof.Proof.Gen.CombineReferenceIdeal
public import proofs.«01_k».proof.Proof.Gen.CombineReferenceIdeal.Run
public import proofs.«01_k».proof.Proof.Gen.GatherKernel
public import proofs.«01_k».proof.Proof.Gen.GatherKernel.Frame
public import proofs.«01_k».proof.Proof.Gen.GatherKernelIdeal
public import proofs.«01_k».proof.Proof.Gen.GatherKernelIdeal.Frame
public import proofs.«01_k».proof.Proof.Gen.GatherKernelIdeal.Value
public import proofs.«01_k».proof.Proof.Gen.GatherReferenceIdeal
public import proofs.«01_k».proof.Proof.Gen.GatherReferenceIdeal.Run
public import proofs.«01_k».proof.Proof.Gen.MixKernel
public import proofs.«01_k».proof.Proof.Gen.MixKernel.Frame
public import proofs.«01_k».proof.Proof.Gen.MixKernelIdeal
public import proofs.«01_k».proof.Proof.Gen.MixKernelIdeal.Frame
public import proofs.«01_k».proof.Proof.Gen.MixKernelIdeal.Value
public import proofs.«01_k».proof.Proof.Gen.MixReferenceIdeal
public import proofs.«01_k».proof.Proof.Gen.MixReferenceIdeal.Run
public import proofs.«01_k».proof.Proof.DiffValue
public import proofs.«01_k».proof.Proof.Gen.WinCKernel
public import proofs.«01_k».proof.Proof.Gen.WinCKernel.Frame
public import proofs.«01_k».proof.Proof.Gen.WinCKernelIdeal
public import proofs.«01_k».proof.Proof.Gen.WinCKernelIdeal.Frame
public import proofs.«01_k».proof.Proof.Gen.WinCKernelIdeal.Value
public import proofs.«01_k».proof.Proof.Gen.WinCReferenceIdeal
public import proofs.«01_k».proof.Proof.Gen.WinCReferenceIdeal.Run
public import proofs.«01_k».proof.Proof.DiffRef
public import proofs.«01_k».proof.Proof.WinC
public import proofs.«01_k».proof.Proof.Combine
public import proofs.«01_k».proof.Proof.Gather
public import proofs.«01_k».proof.Proof.Mix
public import proofs.«01_k».proof.Proof.Gate
public import proofs.«01_k».proof.Proof.Expert
public import proofs.«01_k».proof.Proof.QkA
public import proofs.«01_k».proof.Proof.Merge
public import proofs.«01_k».proof.Proof.QkvD
public import proofs.«01_k».proof.Proof.VA
public import proofs.«01_k».proof.Proof.QkB
public import proofs.«01_k».proof.Proof.Out
public import proofs.«01_k».proof.Proof.QkC
public import proofs.«01_k».proof.Proof.VB
public import proofs.«01_k».proof.Proof.VC
public import Idealize.ShloMosaic.Adequacy
public import Idealize.ShloMosaic.Init

@[expose] public section

noncomputable section

namespace Cert.Proof

open Idealize.ShloMosaic Idealize.SL.Sem Cert.DiffKernel

/-- The reference leaves its arguments as they were. -/
theorem diff_reference_frame : Cert.quiescent_DiffReferenceIdeal := by
  intro m ρ _
  exact (θ_run Cert.DiffReferenceIdeal.defs _ _).mono
    (fun r k => ⟨fun c => (k c).2, sem_eq_zero_of_no_sems (by decide) r.2⟩) (Cert.DiffReferenceIdeal.Value.run m ρ)

/-- From the same arguments the differential-attention kernel and its reference return the same array. -/
theorem diff_algebraic : Cert.algebraic_DiffKernelIdeal_DiffReferenceIdeal := by
  pair_intro
  · run_from Cert.DiffKernelIdeal.Value.run_blocks m g
  · run_from Cert.DiffReferenceIdeal.Value.run m' g'
    rw [Cert.DiffKernelIdeal.Hand.final m c]
    funext i
    idx_vars i
    refine (Cert.DiffReferenceIdeal.Hand.result_at m' c i0 i1 i2).trans ?_
    obtain ⟨e0, e1, e2, e3⟩ := hagree c
    rw [e0, e1, e2, e3]
    rfl

/-- All claims together. -/
theorem claim : Cert.Claim := ⟨
  Cert.DiffKernel.Gen.facts, Cert.DiffKernelIdeal.Gen.facts, Cert.DiffReferenceIdeal.Gen.facts,
  Cert.GateKernel.Gen.facts, Cert.GateKernelIdeal.Gen.facts, Cert.GateReferenceIdeal.Gen.facts,
  Cert.ExpertKernel.Gen.facts, Cert.ExpertKernelIdeal.Gen.facts, Cert.ExpertReferenceIdeal.Gen.facts,
  Cert.QkAKernel.Gen.facts, Cert.QkAKernelIdeal.Gen.facts, Cert.QkAReferenceIdeal.Gen.facts,
  Cert.MergeKernel.Gen.facts, Cert.MergeKernelIdeal.Gen.facts, Cert.MergeReferenceIdeal.Gen.facts,
  Cert.QkvDKernel.Gen.facts, Cert.QkvDKernelIdeal.Gen.facts, Cert.QkvDReferenceIdeal.Gen.facts,
  Cert.VAKernel.Gen.facts, Cert.VAKernelIdeal.Gen.facts, Cert.VAReferenceIdeal.Gen.facts,
  Cert.QkBKernel.Gen.facts, Cert.QkBKernelIdeal.Gen.facts, Cert.QkBReferenceIdeal.Gen.facts,
  Cert.OutKernel.Gen.facts, Cert.OutKernelIdeal.Gen.facts, Cert.OutReferenceIdeal.Gen.facts,
  Cert.QkCKernel.Gen.facts, Cert.QkCKernelIdeal.Gen.facts, Cert.QkCReferenceIdeal.Gen.facts,
  Cert.VBKernel.Gen.facts, Cert.VBKernelIdeal.Gen.facts, Cert.VBReferenceIdeal.Gen.facts,
  Cert.VCKernel.Gen.facts, Cert.VCKernelIdeal.Gen.facts, Cert.VCReferenceIdeal.Gen.facts,
  Cert.CombineKernel.Gen.facts, Cert.CombineKernelIdeal.Gen.facts, Cert.CombineReferenceIdeal.Gen.facts,
  Cert.GatherKernel.Gen.facts, Cert.GatherKernelIdeal.Gen.facts, Cert.GatherReferenceIdeal.Gen.facts,
  Cert.MixKernel.Gen.facts, Cert.MixKernelIdeal.Gen.facts, Cert.MixReferenceIdeal.Gen.facts,
  Cert.WinCKernel.Gen.facts, Cert.WinCKernelIdeal.Gen.facts, Cert.WinCReferenceIdeal.Gen.facts,
  fun m ρ _ => Cert.DiffKernel.Gen.frame m ρ, fun m ρ _ => Cert.DiffKernelIdeal.Gen.frame m ρ, diff_reference_frame,
  fun m ρ _ => Cert.GateKernel.Gen.frame m ρ, fun m ρ _ => Cert.GateKernelIdeal.Gen.frame m ρ, Gate.reference_frame,
  fun m ρ _ => Cert.ExpertKernel.Gen.frame m ρ, fun m ρ _ => Cert.ExpertKernelIdeal.Gen.frame m ρ, Expert.reference_frame,
  fun m ρ _ => Cert.QkAKernel.Gen.frame m ρ, fun m ρ _ => Cert.QkAKernelIdeal.Gen.frame m ρ, QkA.reference_frame,
  fun m ρ _ => Cert.MergeKernel.Gen.frame m ρ, fun m ρ _ => Cert.MergeKernelIdeal.Gen.frame m ρ, Merge.reference_frame,
  fun m ρ _ => Cert.QkvDKernel.Gen.frame m ρ, fun m ρ _ => Cert.QkvDKernelIdeal.Gen.frame m ρ, QkvD.reference_frame,
  fun m ρ _ => Cert.VAKernel.Gen.frame m ρ, fun m ρ _ => Cert.VAKernelIdeal.Gen.frame m ρ, VA.reference_frame,
  fun m ρ _ => Cert.QkBKernel.Gen.frame m ρ, fun m ρ _ => Cert.QkBKernelIdeal.Gen.frame m ρ, QkB.reference_frame,
  fun m ρ _ => Cert.OutKernel.Gen.frame m ρ, fun m ρ _ => Cert.OutKernelIdeal.Gen.frame m ρ, Out.reference_frame,
  fun m ρ _ => Cert.QkCKernel.Gen.frame m ρ, fun m ρ _ => Cert.QkCKernelIdeal.Gen.frame m ρ, QkC.reference_frame,
  fun m ρ _ => Cert.VBKernel.Gen.frame m ρ, fun m ρ _ => Cert.VBKernelIdeal.Gen.frame m ρ, VB.reference_frame,
  fun m ρ _ => Cert.VCKernel.Gen.frame m ρ, fun m ρ _ => Cert.VCKernelIdeal.Gen.frame m ρ, VC.reference_frame,
  fun m ρ _ => Cert.CombineKernel.Gen.frame m ρ, fun m ρ _ => Cert.CombineKernelIdeal.Gen.frame m ρ, Combine.reference_frame,
  fun m ρ _ => Cert.GatherKernel.Gen.frame m ρ, fun m ρ _ => Cert.GatherKernelIdeal.Gen.frame m ρ, Gather.reference_frame,
  fun m ρ _ => Cert.MixKernel.Gen.frame m ρ, fun m ρ _ => Cert.MixKernelIdeal.Gen.frame m ρ, Mix.reference_frame,
  fun m ρ _ => Cert.WinCKernel.Gen.frame m ρ, fun m ρ _ => Cert.WinCKernelIdeal.Gen.frame m ρ, WinC.reference_frame,
  trivial, diff_algebraic,
  trivial, Gate.algebraic,
  trivial, Expert.algebraic,
  trivial, QkA.algebraic,
  trivial, Merge.algebraic,
  trivial, QkvD.algebraic,
  trivial, VA.algebraic,
  trivial, QkB.algebraic,
  trivial, Out.algebraic,
  trivial, QkC.algebraic,
  trivial, VB.algebraic,
  trivial, VC.algebraic,
  trivial, Combine.algebraic,
  trivial, Gather.algebraic,
  trivial, Mix.algebraic,
  WinC.preserved, WinC.algebraic⟩

end Cert.Proof

end
